-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x200 : Shape := ⟨2, ![1024, 200]⟩
abbrev S100000x128 : Shape := ⟨2, ![100000, 128]⟩
abbrev S512x128 : Shape := ⟨2, ![512, 128]⟩
abbrev S512 : Shape := ⟨1, ![512]⟩
abbrev S4x128 : Shape := ⟨2, ![4, 128]⟩
abbrev S4 : Shape := ⟨1, ![4]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : FVec F S100000x128 .f32) (main_arg2 : FVec F S512x128 .f32) (main_arg3 : FVec F S512x128 .f32) (main_arg4 : FVec F S512 .f32) (main_arg5 : FVec F S512 .f32) (main_arg6 : FVec F S512x128 .f32) (main_arg7 : FVec F S512x128 .f32) (main_arg8 : FVec F S512 .f32) (main_arg9 : FVec F S512 .f32) (main_arg10 : FVec F S4x128 .f32) (main_arg11 : FVec F S4 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  main_v5
-- ==== Kernel.lean ====
abbrev S1024x200 : Shape := ⟨2, ![1024, 200]⟩
abbrev S100000x128 : Shape := ⟨2, ![100000, 128]⟩
abbrev S512x128 : Shape := ⟨2, ![512, 128]⟩
abbrev S512 : Shape := ⟨1, ![512]⟩
abbrev S4x128 : Shape := ⟨2, ![4, 128]⟩
abbrev S4 : Shape := ⟨1, ![4]⟩
abbrev S200x1024 : Shape := ⟨2, ![200, 1024]⟩
abbrev S32x50x128 : Shape := ⟨3, ![32, 50, 128]⟩
abbrev S1600x128x128 : Shape := ⟨3, ![1600, 128, 128]⟩
abbrev S50x128 : Shape := ⟨2, ![50, 128]⟩
abbrev S128x128 : Shape := ⟨2, ![128, 128]⟩
abbrev S_ : Shape := ⟨0, ![]⟩
abbrev S1x50x128 : Shape := ⟨3, ![1, 50, 128]⟩
abbrev S1x128 : Shape := ⟨2, ![1, 128]⟩
abbrev S128 : Shape := ⟨1, ![128]⟩
abbrev S1x128x128 : Shape := ⟨3, ![1, 128, 128]⟩
abbrev S200x1024x128 : Shape := ⟨3, ![200, 1024, 128]⟩
abbrev S128x512 : Shape := ⟨2, ![128, 512]⟩
abbrev S256x512 : Shape := ⟨2, ![256, 512]⟩
abbrev S1x512 : Shape := ⟨2, ![1, 512]⟩
abbrev S128x4 : Shape := ⟨2, ![128, 4]⟩
abbrev S1x4 : Shape := ⟨2, ![1, 4]⟩
abbrev S1024x4 : Shape := ⟨2, ![1024, 4]⟩
abbrev S1x1024x128 : Shape := ⟨3, ![1, 1024, 128]⟩
abbrev S1024x128 : Shape := ⟨2, ![1024, 128]⟩
abbrev S1024x256 : Shape := ⟨2, ![1024, 256]⟩
abbrev S1024x512 : Shape := ⟨2, ![1024, 512]⟩
abbrev S1024x1 : Shape := ⟨2, ![1024, 1]⟩
abbrev S1024 : Shape := ⟨1, ![1024]⟩

abbrev nBuf : Table → Nat
  | .hbm => 31
  | .local .tc .vmem => 13
  | .local .scVector .vmem => 2
  | _ => 0

abbrev bufTy : (tb : Table) → Fin (nBuf tb) → BufTy
  | .hbm, ⟨0, _⟩ => ⟨S1024x200, .i32⟩
  | .hbm, ⟨1, _⟩ => ⟨S100000x128, .f32⟩
  | .hbm, ⟨2, _⟩ => ⟨S512x128, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S512x128, .f32⟩
  | .hbm, ⟨7, _⟩ => ⟨S512x128, .f32⟩
  | .hbm, ⟨8, _⟩ => ⟨S512, .f32⟩
  | .hbm, ⟨9, _⟩ => ⟨S512, .f32⟩
  | .hbm, ⟨10, _⟩ => ⟨S4x128, .f32⟩
  | .hbm, ⟨11, _⟩ => ⟨S4, .f32⟩
  | .hbm, ⟨12, _⟩ => ⟨S200x1024, .i32⟩
  | .hbm, ⟨13, _⟩ => ⟨S32x50x128, .i32⟩
  | .hbm, ⟨14, _⟩ => ⟨S1600x128x128, .f32⟩
  | .hbm, ⟨15, _⟩ => ⟨S200x1024x128, .f32⟩
  | .hbm, ⟨16, _⟩ => ⟨S128x512, .f32⟩
  | .hbm, ⟨17, _⟩ => ⟨S128x512, .f32⟩
  | .hbm, ⟨18, _⟩ => ⟨S256x512, .f32⟩
  | .hbm, ⟨19, _⟩ => ⟨S128x512, .f32⟩
  | .hbm, ⟨20, _⟩ => ⟨S128x512, .f32⟩
  | .hbm, ⟨21, _⟩ => ⟨S256x512, .f32⟩
  | .hbm, ⟨22, _⟩ => ⟨S512, .f32⟩
  | .hbm, ⟨23, _⟩ => ⟨S1x512, .f32⟩
  | .hbm, ⟨24, _⟩ => ⟨S512, .f32⟩
  | .hbm, ⟨25, _⟩ => ⟨S1x512, .f32⟩
  | .hbm, ⟨26, _⟩ => ⟨S128x4, .f32⟩
  | .hbm, ⟨27, _⟩ => ⟨S1x4, .f32⟩
  | .hbm, ⟨28, _⟩ => ⟨S1024x4, .f32⟩
  | .hbm, ⟨29, _⟩ => ⟨S1024x1, .f32⟩
  | .hbm, ⟨30, _⟩ => ⟨S1024, .f32⟩
  | .local .tc .vmem, ⟨0, _⟩ => ⟨S1x1024x128, .f32⟩
  | .local .tc .vmem, ⟨1, _⟩ => ⟨S1x1024x128, .f32⟩
  | .local .tc .vmem, ⟨2, _⟩ => ⟨S256x512, .f32⟩
  | .local .tc .vmem, ⟨3, _⟩ => ⟨S256x512, .f32⟩
  | .local .tc .vmem, ⟨4, _⟩ => ⟨S1x512, .f32⟩
  | .local .tc .vmem, ⟨5, _⟩ => ⟨S1x512, .f32⟩
  | .local .tc .vmem, ⟨6, _⟩ => ⟨S128x4, .f32⟩
  | .local .tc .vmem, ⟨7, _⟩ => ⟨S1x4, .f32⟩
  | .local .tc .vmem, ⟨8, _⟩ => ⟨S1024x4, .f32⟩
  | .local .tc .vmem, ⟨9, _⟩ => ⟨S1024x128, .f32⟩
  | .local .tc .vmem, ⟨10, _⟩ => ⟨S1024x128, .f32⟩
  | .local .tc .vmem, ⟨11, _⟩ => ⟨S1024x128, .f32⟩
  | .local .tc .vmem, ⟨12, _⟩ => ⟨S1024x128, .f32⟩
  | .local .scVector .vmem, ⟨0, _⟩ => ⟨S50x128, .i32⟩
  | .local .scVector .vmem, ⟨1, _⟩ => ⟨S128x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_arg1_scv : Ref sig .scVector := ⟨.hbm, 1, rfl⟩
abbrev main_v1_scv : Ref sig .scVector := ⟨.hbm, 13, rfl⟩
abbrev main_v2_scv : Ref sig .scVector := ⟨.hbm, 14, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_scratch0 : Ref sig .tc := ⟨.vmem, 9, rfl⟩
abbrev cc1_scratch1 : Ref sig .tc := ⟨.vmem, 10, rfl⟩
abbrev cc1_scratch2 : Ref sig .tc := ⟨.vmem, 11, rfl⟩
abbrev cc1_scratch3 : Ref sig .tc := ⟨.vmem, 12, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3_r0 : BitVec 32 := 0#32
  let c0_i32_4_r0 : BitVec 32 := 0#32
  ![v1.toNat, 0, 0]
@[reducible] def k0_t1_loop : Scf.Loop 32 :=
  let c0_i32_0 : BitVec 32 := 0#32
  let c50_i32_1 : BitVec 32 := 50#32
  let v3 : BitVec 32 := Scalar.addi c0_i32_0 c50_i32_1
  let c1_i32 : BitVec 32 := 1#32
  ⟨c0_i32_0, v3, c1_i32⟩
def k0_off2 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let c0_i32_3 : BitVec 32 := 0#32
  ![arg8.toNat, 0]
def k0_off3 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32 : BitVec 32 := 50#32
  let v2 : BitVec 32 := Scalar.muli v1 c50_i32
  let c0_i32_0 : BitVec 32 := 0#32
  let c1_i32 : BitVec 32 := 1#32
  let arg8 : BitVec 32 := Scf.iv c0_i32_0 c1_i32 k0_t1
  let v10 : BitVec 32 := Scalar.addi v2 arg8
  let c0_i32_9_r1 : BitVec 32 := 0#32
  let c0_i32_10_r1 : BitVec 32 := 0#32
  ![v10.toNat, 0, 0]
abbrev grid1 : Pipeline.Grid := ⟨1, ![200], ![false]⟩

def k1_cond2 (i : grid1.Coords) : BitVec 1 :=
  let arg0 : BitVec 32 := BitVec.ofNat 32 (i 0).val
  let c199_i32 : BitVec 32 := 199#32
  let v63 : BitVec 1 := Scalar.cmpi .eq arg0 c199_i32
  let v64 : BitVec 32 := Scalar.extui v63
  let c0_i32_28 : BitVec 32 := 0#32
  let v65 : BitVec 1 := Scalar.cmpi .ne v64 c0_i32_28
  v65

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x4 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x4 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x4 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200 : Shape := ⟨2, ![1024, 200]⟩
abbrev S100000x128 : Shape := ⟨2, ![100000, 128]⟩
abbrev S512x128 : Shape := ⟨2, ![512, 128]⟩
abbrev S512 : Shape := ⟨1, ![512]⟩
abbrev S4x128 : Shape := ⟨2, ![4, 128]⟩
abbrev S4 : Shape := ⟨1, ![4]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S1024x128 : Shape := ⟨2, ![1024, 128]⟩
abbrev S200x1024x128 : Shape := ⟨3, ![200, 1024, 128]⟩
abbrev S1x1024x128 : Shape := ⟨3, ![1, 1024, 128]⟩
abbrev S128x512 : Shape := ⟨2, ![128, 512]⟩
abbrev S1024x512 : Shape := ⟨2, ![1024, 512]⟩
abbrev S1x512 : Shape := ⟨2, ![1, 512]⟩
abbrev S128x4 : Shape := ⟨2, ![128, 4]⟩
abbrev S1024x4 : Shape := ⟨2, ![1024, 4]⟩
abbrev S1x4 : Shape := ⟨2, ![1, 4]⟩
abbrev S1024x1 : Shape := ⟨2, ![1024, 1]⟩
abbrev S1024 : Shape := ⟨1, ![1024]⟩

abbrev nBuf : Space → Nat
  | .hbm => 200
  | .vmem => 0
  | .smem => 0
  | _ => 0

abbrev hbmTy0_0 (i : Nat) : BufTy := match i % 128 with
  | 0 => ⟨S1024x200, .i32⟩
  | 1 => ⟨S100000x128, .f32⟩
  | 2 => ⟨S512x128, .f32⟩
  | 3 => ⟨S512x128, .f32⟩
  | 4 => ⟨S512, .f32⟩
  | 5 => ⟨S512, .f32⟩
  | 6 => ⟨S512x128, .f32⟩
  | 7 => ⟨S512x128, .f32⟩
  | 8 => ⟨S512, .f32⟩
  | 9 => ⟨S512, .f32⟩
  | 10 => ⟨S4x128, .f32⟩
  | 11 => ⟨S4, .f32⟩
  | 12 => ⟨S_, .i32⟩
  | 13 => ⟨S1024x200, .i32⟩
  | 14 => ⟨S1024x200, .i1⟩
  | 15 => ⟨S_, .i32⟩
  | 16 => ⟨S1024x200, .i32⟩
  | 17 => ⟨S1024x200, .i32⟩
  | 18 => ⟨S1024x200, .i32⟩
  | 19 => ⟨S1024x200x1, .i32⟩
  | 20 => ⟨S1, .i32⟩
  | 21 => ⟨S_, .i32⟩
  | 22 => ⟨S1024x200x1, .i32⟩
  | 23 => ⟨S1024x200x1, .i1⟩
  | 24 => ⟨S1x1x1, .i32⟩
  | 25 => ⟨S1024x200x1, .i32⟩
  | 26 => ⟨S1024x200x1, .i1⟩
  | 27 => ⟨S1024x200x1, .i1⟩
  | 28 => ⟨S_, .i1⟩
  | 29 => ⟨S1024x200, .i1⟩
  | 30 => ⟨S1024x200x128, .f32⟩
  | 31 => ⟨S1024x200x128, .i1⟩
  | 32 => ⟨S_, .f32⟩
  | 33 => ⟨S1024x200x128, .f32⟩
  | 34 => ⟨S1024x200x128, .f32⟩
  | 35 => ⟨S_, .f32⟩
  | 36 => ⟨S1024x128, .f32⟩
  | 37 => ⟨S_, .f32⟩
  | 38 => ⟨S1024x128, .f32⟩
  | 39 => ⟨S200x1024x128, .f32⟩
  | 40 => ⟨S_, .f32⟩
  | 41 => ⟨S200x1024x128, .f32⟩
  | 42 => ⟨S_, .i32⟩
  | 43 => ⟨S200x1024x128, .f32⟩
  | 44 => ⟨S512x128, .f32⟩
  | 45 => ⟨S512, .f32⟩
  | 46 => ⟨S512x128, .f32⟩
  | 47 => ⟨S512, .f32⟩
  | 48 => ⟨S_, .i32⟩
  | 49 => ⟨S1024x128, .f32⟩
  | 50 => ⟨S1024x128, .f32⟩
  | 51 => ⟨S200x1024x128, .f32⟩
  | 52 => ⟨S_, .i32⟩
  | 53 => ⟨S_, .i1⟩
  | 54 => ⟨S_, .i32⟩
  | 55 => ⟨S_, .i32⟩
  | 56 => ⟨S1x1024x128, .f32⟩
  | 57 => ⟨S1024x128, .f32⟩
  | 58 => ⟨S128x512, .f32⟩
  | 59 => ⟨S1024x512, .f32⟩
  | 60 => ⟨S1x512, .f32⟩
  | 61 => ⟨S1024x512, .f32⟩
  | 62 => ⟨S1024x512, .f32⟩
  | 63 => ⟨S128x512, .f32⟩
  | 64 => ⟨S1024x512, .f32⟩
  | 65 => ⟨S1024x512, .f32⟩
  | 66 => ⟨S1x512, .f32⟩
  | 67 => ⟨S1024x512, .f32⟩
  | 68 => ⟨S1024x512, .f32⟩
  | 69 => ⟨S1024x128, .f32⟩
  | 70 => ⟨S1024x128, .f32⟩
  | 71 => ⟨S1024x128, .f32⟩
  | 72 => ⟨S1024x128, .f32⟩
  | 73 => ⟨S1024x128, .f32⟩
  | 74 => ⟨S1024x128, .f32⟩
  | 75 => ⟨S_, .f32⟩
  | 76 => ⟨S1024x128, .f32⟩
  | 77 => ⟨S1024x128, .f32⟩
  | 78 => ⟨S_, .f32⟩
  | 79 => ⟨S1024x128, .f32⟩
  | 80 => ⟨S1024x128, .f32⟩
  | 81 => ⟨S1024x128, .f32⟩
  | 82 => ⟨S1024x128, .f32⟩
  | 83 => ⟨S_, .f32⟩
  | 84 => ⟨S1024x128, .f32⟩
  | 85 => ⟨S1024x128, .f32⟩
  | 86 => ⟨S_, .f32⟩
  | 87 => ⟨S1024x128, .f32⟩
  | 88 => ⟨S1024x128, .f32⟩
  | 89 => ⟨S1024x128, .f32⟩
  | 90 => ⟨S1024x128, .f32⟩
  | 91 => ⟨S1024x128, .f32⟩
  | 92 => ⟨S_, .f32⟩
  | 93 => ⟨S1024x128, .f32⟩
  | 94 => ⟨S1024x128, .f32⟩
  | 95 => ⟨S_, .f32⟩
  | 96 => ⟨S1024x128, .f32⟩
  | 97 => ⟨S1024x128, .f32⟩
  | 98 => ⟨S1024x128, .f32⟩
  | 99 => ⟨S1024x128, .f32⟩
  | 100 => ⟨S1024x128, .f32⟩
  | 101 => ⟨S1024x128, .f32⟩
  | 102 => ⟨S1024x128, .f32⟩
  | 103 => ⟨S1x1024x128, .f32⟩
  | 104 => ⟨S_, .i32⟩
  | 105 => ⟨S_, .i32⟩
  | 106 => ⟨S200x1024x128, .f32⟩
  | 107 => ⟨S_, .i32⟩
  | 108 => ⟨S_, .i32⟩
  | 109 => ⟨S1024x200x128, .f32⟩
  | 110 => ⟨S_, .f32⟩
  | 111 => ⟨S1024x128, .f32⟩
  | 112 => ⟨S_, .f32⟩
  | 113 => ⟨S1024x128, .f32⟩
  | 114 => ⟨S200x1024x128, .f32⟩
  | 115 => ⟨S_, .f32⟩
  | 116 => ⟨S200x1024x128, .f32⟩
  | 117 => ⟨S_, .i32⟩
  | 118 => ⟨S200x1024x128, .f32⟩
  | 119 => ⟨S512x128, .f32⟩
  | 120 => ⟨S512, .f32⟩
  | 121 => ⟨S512x128, .f32⟩
  | 122 => ⟨S512, .f32⟩
  | 123 => ⟨S_, .i32⟩
  | 124 => ⟨S1024x128, .f32⟩
  | 125 => ⟨S1024x128, .f32⟩
  | 126 => ⟨S200x1024x128, .f32⟩
  | 127 => ⟨S_, .i32⟩
  | _ => ⟨S1024x200, .i32⟩

abbrev hbmTy0_1 (i : Nat) : BufTy := match i % 128 with
  | 0 => ⟨S_, .i1⟩
  | 1 => ⟨S_, .i32⟩
  | 2 => ⟨S_, .i32⟩
  | 3 => ⟨S1x1024x128, .f32⟩
  | 4 => ⟨S1024x128, .f32⟩
  | 5 => ⟨S128x512, .f32⟩
  | 6 => ⟨S1024x512, .f32⟩
  | 7 => ⟨S1x512, .f32⟩
  | 8 => ⟨S1024x512, .f32⟩
  | 9 => ⟨S1024x512, .f32⟩
  | 10 => ⟨S128x512, .f32⟩
  | 11 => ⟨S1024x512, .f32⟩
  | 12 => ⟨S1024x512, .f32⟩
  | 13 => ⟨S1x512, .f32⟩
  | 14 => ⟨S1024x512, .f32⟩
  | 15 => ⟨S1024x512, .f32⟩
  | 16 => ⟨S1024x128, .f32⟩
  | 17 => ⟨S1024x128, .f32⟩
  | 18 => ⟨S1024x128, .f32⟩
  | 19 => ⟨S1024x128, .f32⟩
  | 20 => ⟨S1024x128, .f32⟩
  | 21 => ⟨S1024x128, .f32⟩
  | 22 => ⟨S_, .f32⟩
  | 23 => ⟨S1024x128, .f32⟩
  | 24 => ⟨S1024x128, .f32⟩
  | 25 => ⟨S_, .f32⟩
  | 26 => ⟨S1024x128, .f32⟩
  | 27 => ⟨S1024x128, .f32⟩
  | 28 => ⟨S1024x128, .f32⟩
  | 29 => ⟨S1024x128, .f32⟩
  | 30 => ⟨S_, .f32⟩
  | 31 => ⟨S1024x128, .f32⟩
  | 32 => ⟨S1024x128, .f32⟩
  | 33 => ⟨S_, .f32⟩
  | 34 => ⟨S1024x128, .f32⟩
  | 35 => ⟨S1024x128, .f32⟩
  | 36 => ⟨S1024x128, .f32⟩
  | 37 => ⟨S1024x128, .f32⟩
  | 38 => ⟨S1024x128, .f32⟩
  | 39 => ⟨S_, .f32⟩
  | 40 => ⟨S1024x128, .f32⟩
  | 41 => ⟨S1024x128, .f32⟩
  | 42 => ⟨S_, .f32⟩
  | 43 => ⟨S1024x128, .f32⟩
  | 44 => ⟨S1024x128, .f32⟩
  | 45 => ⟨S1024x128, .f32⟩
  | 46 => ⟨S1024x128, .f32⟩
  | 47 => ⟨S1024x128, .f32⟩
  | 48 => ⟨S1024x128, .f32⟩
  | 49 => ⟨S1024x128, .f32⟩
  | 50 => ⟨S1x1024x128, .f32⟩
  | 51 => ⟨S_, .i32⟩
  | 52 => ⟨S_, .i32⟩
  | 53 => ⟨S200x1024x128, .f32⟩
  | 54 => ⟨S_, .i32⟩
  | 55 => ⟨S_, .i32⟩
  | 56 => ⟨S1024x200x128, .f32⟩
  | 57 => ⟨S128x4, .f32⟩
  | 58 => ⟨S1024x4, .f32⟩
  | 59 => ⟨S1x4, .f32⟩
  | 60 => ⟨S1024x4, .f32⟩
  | 61 => ⟨S1024x4, .f32⟩
  | 62 => ⟨S1024x4, .f32⟩
  | 63 => ⟨S1024x4, .f32⟩
  | 64 => ⟨S_, .f32⟩
  | 65 => ⟨S1024x4, .f32⟩
  | 66 => ⟨S1024x4, .f32⟩
  | 67 => ⟨S_, .f32⟩
  | 68 => ⟨S1024x4, .f32⟩
  | 69 => ⟨S1024x4, .f32⟩
  | 70 => ⟨S1024x1, .f32⟩
  | 71 => ⟨S1024, .f32⟩
  | _ => ⟨S1024x200, .i32⟩

abbrev hbmTy (i : Nat) : BufTy := match i / 128 with
  | 0 => hbmTy0_0 i
  | 1 => hbmTy0_1 i
  | _ => ⟨S1024x200, .i32⟩

abbrev bufTy : (tb : Table) → Fin (tcTables nBuf tb) → BufTy
  | .hbm, ⟨i, _⟩ => hbmTy i
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_cst : Ref sig .tc := ⟨.hbm, 35, rfl⟩
abbrev main_v1 : Ref sig .tc := ⟨.hbm, 36, rfl⟩
abbrev main_cst_0 : Ref sig .tc := ⟨.hbm, 37, rfl⟩
abbrev main_v2 : Ref sig .tc := ⟨.hbm, 38, rfl⟩
abbrev main_v3 : Ref sig .tc := ⟨.hbm, 39, rfl⟩
abbrev main_cst_1 : Ref sig .tc := ⟨.hbm, 40, rfl⟩
abbrev main_v4 : Ref sig .tc := ⟨.hbm, 41, rfl⟩
abbrev main_c : Ref sig .tc := ⟨.hbm, 42, rfl⟩
abbrev main_v5_0 : Ref sig .tc := ⟨.hbm, 43, rfl⟩
abbrev main_v5_1 : Ref sig .tc := ⟨.hbm, 44, rfl⟩
abbrev main_v5_2 : Ref sig .tc := ⟨.hbm, 45, rfl⟩
abbrev main_v5_3 : Ref sig .tc := ⟨.hbm, 46, rfl⟩
abbrev main_v5_4 : Ref sig .tc := ⟨.hbm, 47, rfl⟩
abbrev main_v5_5 : Ref sig .tc := ⟨.hbm, 48, rfl⟩
abbrev main_v5_6 : Ref sig .tc := ⟨.hbm, 49, rfl⟩
abbrev main_v5_7 : Ref sig .tc := ⟨.hbm, 50, rfl⟩
abbrev main_v5_8 : Ref sig .tc := ⟨.hbm, 51, rfl⟩
abbrev main_while0c_c_16 : Ref sig .tc := ⟨.hbm, 52, rfl⟩
abbrev main_while0c_v26 : Ref sig .tc := ⟨.hbm, 53, rfl⟩
abbrev main_while0b_call1_c : Ref sig .tc := ⟨.hbm, 54, rfl⟩
abbrev main_while0b_call1_c_0 : Ref sig .tc := ⟨.hbm, 55, rfl⟩
abbrev main_while0b_call1_v0 : Ref sig .tc := ⟨.hbm, 56, rfl⟩
abbrev main_while0b_v26 : Ref sig .tc := ⟨.hbm, 57, rfl⟩
abbrev main_while0b_v27 : Ref sig .tc := ⟨.hbm, 58, rfl⟩
abbrev main_while0b_v28 : Ref sig .tc := ⟨.hbm, 59, rfl⟩
abbrev main_while0b_v29 : Ref sig .tc := ⟨.hbm, 60, rfl⟩
abbrev main_while0b_v30 : Ref sig .tc := ⟨.hbm, 61, rfl⟩
abbrev main_while0b_v31 : Ref sig .tc := ⟨.hbm, 62, rfl⟩
abbrev main_while0b_v32 : Ref sig .tc := ⟨.hbm, 63, rfl⟩
abbrev main_while0b_v33 : Ref sig .tc := ⟨.hbm, 64, rfl⟩
abbrev main_while0b_v34 : Ref sig .tc := ⟨.hbm, 65, rfl⟩
abbrev main_while0b_v35 : Ref sig .tc := ⟨.hbm, 66, rfl⟩
abbrev main_while0b_v36 : Ref sig .tc := ⟨.hbm, 67, rfl⟩
abbrev main_while0b_v37 : Ref sig .tc := ⟨.hbm, 68, rfl⟩
abbrev main_while0b_v38 : Ref sig .tc := ⟨.hbm, 69, rfl⟩
abbrev main_while0b_v39 : Ref sig .tc := ⟨.hbm, 70, rfl⟩
abbrev main_while0b_v40 : Ref sig .tc := ⟨.hbm, 71, rfl⟩
abbrev main_while0b_v41 : Ref sig .tc := ⟨.hbm, 72, rfl⟩
abbrev main_while0b_v42 : Ref sig .tc := ⟨.hbm, 73, rfl⟩
abbrev main_while0b_v43 : Ref sig .tc := ⟨.hbm, 74, rfl⟩
abbrev main_while0b_cst_16 : Ref sig .tc := ⟨.hbm, 75, rfl⟩
abbrev main_while0b_v44 : Ref sig .tc := ⟨.hbm, 76, rfl⟩
abbrev main_while0b_v45 : Ref sig .tc := ⟨.hbm, 77, rfl⟩
abbrev main_while0b_cst_17 : Ref sig .tc := ⟨.hbm, 78, rfl⟩
abbrev main_while0b_v46 : Ref sig .tc := ⟨.hbm, 79, rfl⟩
abbrev main_while0b_v47 : Ref sig .tc := ⟨.hbm, 80, rfl⟩
abbrev main_while0b_v48 : Ref sig .tc := ⟨.hbm, 81, rfl⟩
abbrev main_while0b_v49 : Ref sig .tc := ⟨.hbm, 82, rfl⟩
abbrev main_while0b_cst_18 : Ref sig .tc := ⟨.hbm, 83, rfl⟩
abbrev main_while0b_v50 : Ref sig .tc := ⟨.hbm, 84, rfl⟩
abbrev main_while0b_v51 : Ref sig .tc := ⟨.hbm, 85, rfl⟩
abbrev main_while0b_cst_19 : Ref sig .tc := ⟨.hbm, 86, rfl⟩
abbrev main_while0b_v52 : Ref sig .tc := ⟨.hbm, 87, rfl⟩
abbrev main_while0b_v53 : Ref sig .tc := ⟨.hbm, 88, rfl⟩
abbrev main_while0b_v54 : Ref sig .tc := ⟨.hbm, 89, rfl⟩
abbrev main_while0b_v55 : Ref sig .tc := ⟨.hbm, 90, rfl⟩
abbrev main_while0b_v56 : Ref sig .tc := ⟨.hbm, 91, rfl⟩
abbrev main_while0b_cst_20 : Ref sig .tc := ⟨.hbm, 92, rfl⟩
abbrev main_while0b_v57 : Ref sig .tc := ⟨.hbm, 93, rfl⟩
abbrev main_while0b_v58 : Ref sig .tc := ⟨.hbm, 94, rfl⟩
abbrev main_while0b_cst_21 : Ref sig .tc := ⟨.hbm, 95, rfl⟩
abbrev main_while0b_v59 : Ref sig .tc := ⟨.hbm, 96, rfl⟩
abbrev main_while0b_v60 : Ref sig .tc := ⟨.hbm, 97, rfl⟩
abbrev main_while0b_v61 : Ref sig .tc := ⟨.hbm, 98, rfl⟩
abbrev main_while0b_v62 : Ref sig .tc := ⟨.hbm, 99, rfl⟩
abbrev main_while0b_v63 : Ref sig .tc := ⟨.hbm, 100, rfl⟩
abbrev main_while0b_v64 : Ref sig .tc := ⟨.hbm, 101, rfl⟩
abbrev main_while0b_v65 : Ref sig .tc := ⟨.hbm, 102, rfl⟩
abbrev main_while0b_call2_v0 : Ref sig .tc := ⟨.hbm, 103, rfl⟩
abbrev main_while0b_call2_c : Ref sig .tc := ⟨.hbm, 104, rfl⟩
abbrev main_while0b_call2_c_0 : Ref sig .tc := ⟨.hbm, 105, rfl⟩
abbrev main_while0b_v66 : Ref sig .tc := ⟨.hbm, 106, rfl⟩
abbrev main_while0b_c_22 : Ref sig .tc := ⟨.hbm, 107, rfl⟩
abbrev main_while0b_v67 : Ref sig .tc := ⟨.hbm, 108, rfl⟩
abbrev main_v6 : Ref sig .tc := ⟨.hbm, 109, rfl⟩
abbrev main_cst_2 : Ref sig .tc := ⟨.hbm, 110, rfl⟩
abbrev main_v7 : Ref sig .tc := ⟨.hbm, 111, rfl⟩
abbrev main_cst_3 : Ref sig .tc := ⟨.hbm, 112, rfl⟩
abbrev main_v8 : Ref sig .tc := ⟨.hbm, 113, rfl⟩
abbrev main_v9 : Ref sig .tc := ⟨.hbm, 114, rfl⟩
abbrev main_cst_4 : Ref sig .tc := ⟨.hbm, 115, rfl⟩
abbrev main_v10 : Ref sig .tc := ⟨.hbm, 116, rfl⟩
abbrev main_c_5 : Ref sig .tc := ⟨.hbm, 117, rfl⟩
abbrev main_v11_0 : Ref sig .tc := ⟨.hbm, 118, rfl⟩
abbrev main_v11_1 : Ref sig .tc := ⟨.hbm, 119, rfl⟩
abbrev main_v11_2 : Ref sig .tc := ⟨.hbm, 120, rfl⟩
abbrev main_v11_3 : Ref sig .tc := ⟨.hbm, 121, rfl⟩
abbrev main_v11_4 : Ref sig .tc := ⟨.hbm, 122, rfl⟩
abbrev main_v11_5 : Ref sig .tc := ⟨.hbm, 123, rfl⟩
abbrev main_v11_6 : Ref sig .tc := ⟨.hbm, 124, rfl⟩
abbrev main_v11_7 : Ref sig .tc := ⟨.hbm, 125, rfl⟩
abbrev main_v11_8 : Ref sig .tc := ⟨.hbm, 126, rfl⟩
abbrev main_while1c_c_16 : Ref sig .tc := ⟨.hbm, 127, rfl⟩
abbrev main_while1c_v26 : Ref sig .tc := ⟨.hbm, 128, rfl⟩
abbrev main_while1b_call3_c : Ref sig .tc := ⟨.hbm, 129, rfl⟩
abbrev main_while1b_call3_c_0 : Ref sig .tc := ⟨.hbm, 130, rfl⟩
abbrev main_while1b_call3_v0 : Ref sig .tc := ⟨.hbm, 131, rfl⟩
abbrev main_while1b_v26 : Ref sig .tc := ⟨.hbm, 132, rfl⟩
abbrev main_while1b_v27 : Ref sig .tc := ⟨.hbm, 133, rfl⟩
abbrev main_while1b_v28 : Ref sig .tc := ⟨.hbm, 134, rfl⟩
abbrev main_while1b_v29 : Ref sig .tc := ⟨.hbm, 135, rfl⟩
abbrev main_while1b_v30 : Ref sig .tc := ⟨.hbm, 136, rfl⟩
abbrev main_while1b_v31 : Ref sig .tc := ⟨.hbm, 137, rfl⟩
abbrev main_while1b_v32 : Ref sig .tc := ⟨.hbm, 138, rfl⟩
abbrev main_while1b_v33 : Ref sig .tc := ⟨.hbm, 139, rfl⟩
abbrev main_while1b_v34 : Ref sig .tc := ⟨.hbm, 140, rfl⟩
abbrev main_while1b_v35 : Ref sig .tc := ⟨.hbm, 141, rfl⟩
abbrev main_while1b_v36 : Ref sig .tc := ⟨.hbm, 142, rfl⟩
abbrev main_while1b_v37 : Ref sig .tc := ⟨.hbm, 143, rfl⟩
abbrev main_while1b_v38 : Ref sig .tc := ⟨.hbm, 144, rfl⟩
abbrev main_while1b_v39 : Ref sig .tc := ⟨.hbm, 145, rfl⟩
abbrev main_while1b_v40 : Ref sig .tc := ⟨.hbm, 146, rfl⟩
abbrev main_while1b_v41 : Ref sig .tc := ⟨.hbm, 147, rfl⟩
abbrev main_while1b_v42 : Ref sig .tc := ⟨.hbm, 148, rfl⟩
abbrev main_while1b_v43 : Ref sig .tc := ⟨.hbm, 149, rfl⟩
abbrev main_while1b_cst_16 : Ref sig .tc := ⟨.hbm, 150, rfl⟩
abbrev main_while1b_v44 : Ref sig .tc := ⟨.hbm, 151, rfl⟩
abbrev main_while1b_v45 : Ref sig .tc := ⟨.hbm, 152, rfl⟩
abbrev main_while1b_cst_17 : Ref sig .tc := ⟨.hbm, 153, rfl⟩
abbrev main_while1b_v46 : Ref sig .tc := ⟨.hbm, 154, rfl⟩
abbrev main_while1b_v47 : Ref sig .tc := ⟨.hbm, 155, rfl⟩
abbrev main_while1b_v48 : Ref sig .tc := ⟨.hbm, 156, rfl⟩
abbrev main_while1b_v49 : Ref sig .tc := ⟨.hbm, 157, rfl⟩
abbrev main_while1b_cst_18 : Ref sig .tc := ⟨.hbm, 158, rfl⟩
abbrev main_while1b_v50 : Ref sig .tc := ⟨.hbm, 159, rfl⟩
abbrev main_while1b_v51 : Ref sig .tc := ⟨.hbm, 160, rfl⟩
abbrev main_while1b_cst_19 : Ref sig .tc := ⟨.hbm, 161, rfl⟩
abbrev main_while1b_v52 : Ref sig .tc := ⟨.hbm, 162, rfl⟩
abbrev main_while1b_v53 : Ref sig .tc := ⟨.hbm, 163, rfl⟩
abbrev main_while1b_v54 : Ref sig .tc := ⟨.hbm, 164, rfl⟩
abbrev main_while1b_v55 : Ref sig .tc := ⟨.hbm, 165, rfl⟩
abbrev main_while1b_v56 : Ref sig .tc := ⟨.hbm, 166, rfl⟩
abbrev main_while1b_cst_20 : Ref sig .tc := ⟨.hbm, 167, rfl⟩
abbrev main_while1b_v57 : Ref sig .tc := ⟨.hbm, 168, rfl⟩
abbrev main_while1b_v58 : Ref sig .tc := ⟨.hbm, 169, rfl⟩
abbrev main_while1b_cst_21 : Ref sig .tc := ⟨.hbm, 170, rfl⟩
abbrev main_while1b_v59 : Ref sig .tc := ⟨.hbm, 171, rfl⟩
abbrev main_while1b_v60 : Ref sig .tc := ⟨.hbm, 172, rfl⟩
abbrev main_while1b_v61 : Ref sig .tc := ⟨.hbm, 173, rfl⟩
abbrev main_while1b_v62 : Ref sig .tc := ⟨.hbm, 174, rfl⟩
abbrev main_while1b_v63 : Ref sig .tc := ⟨.hbm, 175, rfl⟩
abbrev main_while1b_v64 : Ref sig .tc := ⟨.hbm, 176, rfl⟩
abbrev main_while1b_v65 : Ref sig .tc := ⟨.hbm, 177, rfl⟩
abbrev main_while1b_call4_v0 : Ref sig .tc := ⟨.hbm, 178, rfl⟩
abbrev main_while1b_call4_c : Ref sig .tc := ⟨.hbm, 179, rfl⟩
abbrev main_while1b_call4_c_0 : Ref sig .tc := ⟨.hbm, 180, rfl⟩
abbrev main_while1b_v66 : Ref sig .tc := ⟨.hbm, 181, rfl⟩
abbrev main_while1b_c_22 : Ref sig .tc := ⟨.hbm, 182, rfl⟩
abbrev main_while1b_v67 : Ref sig .tc := ⟨.hbm, 183, rfl⟩
abbrev main_v12 : Ref sig .tc := ⟨.hbm, 184, rfl⟩
abbrev main_v13 : Ref sig .tc := ⟨.hbm, 185, rfl⟩
abbrev main_v14 : Ref sig .tc := ⟨.hbm, 186, rfl⟩
abbrev main_v15 : Ref sig .tc := ⟨.hbm, 187, rfl⟩
abbrev main_v16 : Ref sig .tc := ⟨.hbm, 188, rfl⟩
abbrev main_v17 : Ref sig .tc := ⟨.hbm, 189, rfl⟩
abbrev main_v18 : Ref sig .tc := ⟨.hbm, 190, rfl⟩
abbrev main_v19 : Ref sig .tc := ⟨.hbm, 191, rfl⟩
abbrev main_cst_6 : Ref sig .tc := ⟨.hbm, 192, rfl⟩
abbrev main_v20 : Ref sig .tc := ⟨.hbm, 193, rfl⟩
abbrev main_v21 : Ref sig .tc := ⟨.hbm, 194, rfl⟩
abbrev main_cst_7 : Ref sig .tc := ⟨.hbm, 195, rfl⟩
abbrev main_v22 : Ref sig .tc := ⟨.hbm, 196, rfl⟩
abbrev main_v23 : Ref sig .tc := ⟨.hbm, 197, rfl⟩
abbrev main_v24 : Ref sig .tc := ⟨.hbm, 198, rfl⟩
abbrev main_v25 : Ref sig .tc := ⟨.hbm, 199, rfl⟩

abbrev nD : Nat := 1
abbrev τ : Topo := Topo.v7x

variable {F : FTy → Type} [FloatOps F]

abbrev main_while0_count : Scf.Loop 32 := ⟨0#32, 200#32, 1#32⟩

abbrev main_while1_count : Scf.Loop 32 := ⟨0#32, 200#32, 1#32⟩
-- ==== Proof.InRange.lean ====
/-
  The precondition read back: every index of the claim's first argument is below 100000.
-/
module

public import proofs.«01_k».proof.Pre_in_range
public import Idealize.ShloMosaic.Lib.ReduceAll

@[expose] public section

noncomputable section

namespace Cert.Pre_in_range.Pf

open Cert.Pre_in_range Idealize.ShloMosaic

variable {F : FTy → Type} [FloatOps F] [Facts]

theorem one_index : Subsingleton S_.Idx := ⟨fun _ _ => funext fun i => i.elim0⟩

/-- A word that is at least 0 and below 100000, read signed, is below 100000 read unsigned. -/
theorem word_lt (a : BitVec 32) (h : IntOp.andi (IntOp.cmpi .sge a 0#32) (IntOp.cmpi .slt a 100000#32) = 1#1) : a.toNat < 100000 := by
  have h0 : (0#32).sle a = true ∧ a.slt 100000#32 = true := by
    revert h
    unfold IntOp.andi IntOp.cmpi
    cases h1 : (0#32).sle a <;> cases h2 : a.slt 100000#32 <;> simp [h1, h2]
  obtain ⟨h1, h2⟩ := h0
  rw [BitVec.sle_eq_decide, decide_eq_true_eq] at h1
  rw [BitVec.slt_eq_decide, decide_eq_true_eq] at h2
  have e1 : (0#32 : BitVec 32).toInt = 0 := rfl
  have e2 : (100000#32 : BitVec 32).toInt = 100000 := rfl
  rw [e1] at h1
  rw [e2] at h2
  rw [BitVec.toInt_eq_toNat_cond] at h1 h2
  split at h1 <;> omega

/-- Under the precondition every index is below 100000. -/
theorem lt_of_fn (a0 : IVec S1024x200 32) (a1 : FVec F S100000x128 .f32) (a2 a3 : FVec F S512x128 .f32) (a4 a5 : FVec F S512 .f32)
    (a6 a7 : FVec F S512x128 .f32) (a8 a9 : FVec F S512 .f32) (a10 : FVec F S4x128 .f32) (a11 : FVec F S4 .f32)
    (h : fn a0 a1 a2 a3 a4 a5 a6 a7 a8 a9 a10 a11 = fun _ => 1#1) (i : S1024x200.Idx) : (a0 i).toNat < 100000 := by
  haveI := one_index
  have hi := Host.reduce_andi_all _ _ _ _ (fun i => i.elim0) (congrFun h (fun i => i.elim0)) i
  exact word_lt _ hi

end Cert.Pre_in_range.Pf

end
-- ==== Proof.KI.Base.lean ====
/-
  What every module about the kernel shares: the program as the SparseCore launch theorem sees it, the resource algebra
  (the launch handshakes' rounds, the TensorCore pipeline's rounds, the transfers' counters), the buffers of the gather,
  and the array that the gather leaves.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev 𝒱₀ : Variants := Variants.none

/-- The launch's static side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

variable [FloatOps F]

abbrev D : Defs nD τ sig (Elt F) (ΛP (F := F)) := Pipeline.defs pcfgs defs₀
abbrev 𝒱 : Variants := 𝒱₀.lift
abbrev v₀ : 𝒱.V := Sum.inl none

/-! ## The buffers of the gather -/

/-- The table of embedding rows, the index blocks and the gathered slabs, in HBM. -/
abbrev eLoc (d : Dev nD) : Loc nD τ sig := (SparseCore.T d).loc main_arg1
abbrev iLoc (d : Dev nD) : Loc nD τ sig := (SparseCore.T d).loc main_v1
abbrev oLoc (d : Dev nD) : Loc nD τ sig := (SparseCore.T d).loc main_v2

/-! ## What the gather leaves -/

/-- The index block's entry for lane `k` of slab `n`. -/
def ixAt (n : Fin 1600) (k : Fin 128) : S32x50x128.Idx := fun a => match a with
  | 0 => ⟨n.val / 50, show n.val / 50 < 32 by omega⟩
  | 1 => ⟨n.val % 50, show n.val % 50 < 50 by omega⟩
  | 2 => k

/-- Column `j` of row `r` of the table. -/
def rowAt (r : Fin 100000) (j : Fin 128) : S100000x128.Idx := fun a => match a with
  | 0 => r
  | 1 => j

/-- The row that an index names (an index within the table names itself). -/
def rowNo (w : Elt F .i32) : Fin 100000 := ⟨(w : BitVec 32).toNat % 100000, Nat.mod_lt _ (by norm_num)⟩

/-- Lane `k` of slab `n` of the gather's result is the table's row named by the index at that place. -/
def gat (fi : S32x50x128.Idx → Elt F .i32) (fe : S100000x128.Idx → Elt F .f32) : S1600x128x128.Idx → Elt F .f32 :=
  fun y => fe (rowAt (rowNo (F := F) (fi (ixAt (y 0) (y 1)))) (y 2))

/-- Every index of the blocks is within the table. -/
def IdxOK (fi : S32x50x128.Idx → Elt F .i32) : Prop := ∀ x, (fi x : BitVec 32).toNat < 100000

end Cert.KernelIdeal.Pf

end
-- ==== Proof.KI.Tile.lean ====
/-
  The gather's task, once, at a symbolic pair of SparseCore and vector subcore: it fetches its block of indices, then for
  each of the block's fifty rows gathers the rows of the table that the row names and copies them out to the result's
  slab. What it leaves in its block of the result is the gathered array there.
-/
module

public import proofs.«01_k».proof.Proof.KI.Base
public import Idealize.ShloMosaic.Lib.ValueLayout

@[expose] public section

noncomputable section

namespace Cert.KernelIdeal.Pf

open Cert.KernelIdeal Cert.KernelIdeal.Gen

open Idealize.ShloMosaic Idealize.ShloMosaic.ValueIdx
open Idealize.ShloMosaic.SparseCore (S V T gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eV" => (Memref.whole main_arg1_scv : Memref sig Kind.scVector Space.hbm S100000x128 EltTy.f32)
local notation "iV" => (Memref.whole main_v1_scv : Memref sig Kind.scVector Space.hbm S32x50x128 EltTy.i32)
local notation "oV" => (Memref.whole main_v2_scv : Memref sig Kind.scVector Space.hbm S1600x128x128 EltTy.f32)
local notation "sV" => (Memref.whole cc0_scratch0 : Memref sig Kind.scVector Space.vmem S50x128 EltTy.i32)
local notation "rV" => (Memref.whole cc0_scratch1 : Memref sig Kind.scVector Space.vmem S128x128 EltTy.f32)

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
theorem lt0 : (L 0).val < 2 := (L 0).isLt
theorem lt1 : (L 1).val < 16 := (L 1).isLt

/-- The task's number: twice its subcore plus its SparseCore. -/
def wid : Fin 32 := ⟨2 * (L 1).val + (L 0).val, by have := lt0 L; have := lt1 L; omega⟩
theorem wid_val : (wid L).val = 2 * (L 1).val + (L 0).val := rfl

/-! ## The views the task addresses -/

/-- The task's block of indices, the table, row `k` of the fetched block, and the slab that row `k` fills. -/
abbrev iBlk : Memref sig .scVector .hbm S50x128 .i32 :=
  ((iV).slice (Rect.unit (s := S32x50x128) (k0_off1 L) S1x50x128.size (k0_off1_inb L)) (fun _ => rfl)).squeeze S50x128 squeezes_S1x50x128_S50x128
abbrev eAll : Memref sig .scVector .hbm S100000x128 .f32 :=
  (eV).slice (Rect.unit (s := S100000x128) ![0, 0] S100000x128.size inb_S100000x128_S100000x128_0_0) (fun _ => rfl)
abbrev sRow (k : Fin k0_t1_loop.trips) : Memref sig .scVector .vmem S128 .i32 :=
  ((sV).slice (Rect.unit (s := S50x128) (k0_off2 k) S1x128.size (k0_off2_inb k)) (fun _ => rfl)).squeeze S128 squeezes_S1x128_S128
abbrev oSlab (k : Fin k0_t1_loop.trips) : Memref sig .scVector .hbm S128x128 .f32 :=
  ((oV).slice (Rect.unit (s := S1600x128x128) (k0_off3 L k) S1x128x128.size (k0_off3_inb L k)) (fun _ => rfl)).squeeze S128x128 squeezes_S1x128x128_S128x128

theorem trips_eq : k0_t1_loop.trips = 50 := by decide
theorem trip_lt (k : Fin k0_t1_loop.trips) : k.val < 50 := trips_eq ▸ k.isLt

theorem iBlk_emb (a : Fin 50) (b : Fin 128) :
    (iBlk L).view.emb (ix2 a b) = (ix3 (wid L) a b : S32x50x128.Idx) := by
  show (Rect.unit (s := S32x50x128) (k0_off1 L) S1x50x128.size (k0_off1_inb L)).emb (Shape.reshapeEquiv _ (ix2 a b)) = _
  rw [reshapeEquiv_ix2_1ab]
  funext x; apply Fin.ext
  rw [Rect.emb_apply]
  match x with
  | 0 => simp [Rect.unit, k0_off1_eq]; exact (wid_val L).symm
  | 1 => simp [Rect.unit, k0_off1_eq]
  | 2 => simp [Rect.unit, k0_off1_eq]

theorem reshape_row {a : ℕ} (h : (⟨1, ![a]⟩ : Shape).numel = (⟨2, ![1, a]⟩ : Shape).numel) (y : Fin a) :
    Shape.reshapeEquiv h (ix1 y) = ix2 (⟨0, Nat.one_pos⟩ : Fin 1) y :=
  Shape.reshapeEquiv_eq_of_rowMajor h (by
    rw [Shape.rowMajor_val_two, Shape.rowMajor_val_one]
    show 0 * a + y.val = y.val
    omega)

theorem sRow_emb (k : Fin k0_t1_loop.trips) (b : Fin 128) :
    (sRow k).view.emb (ix1 b) = (ix2 (⟨k.val, trip_lt k⟩ : Fin 50) b : S50x128.Idx) := by
  show (Rect.unit (s := S50x128) (k0_off2 k) S1x128.size (k0_off2_inb k)).emb (Shape.reshapeEquiv _ (ix1 b)) = _
  rw [reshape_row]
  funext x; apply Fin.ext
  rw [Rect.emb_apply]
  match x with
  | 0 => simp [Rect.unit, k0_off2_eq]
  | 1 => simp [Rect.unit, k0_off2_eq]

theorem eAll_emb (x : S100000x128.Idx) : (eAll).view.emb x = x := by
  show (Rect.unit (s := S100000x128) ![0, 0] S100000x128.size inb_S100000x128_S100000x128_0_0).emb x = _
  funext a; apply Fin.ext
  rw [Rect.emb_apply]
  match a with
  | 0 => simp [Rect.unit]
  | 1 => simp [Rect.unit]

/-- The number of the slab that trip `k` fills. -/
def slabNo (k : Fin k0_t1_loop.trips) : Fin 1600 :=
  ⟨50 * (wid L).val + k.val, by have := (wid L).isLt; have := trip_lt k; omega⟩

theorem oSlab_emb (k : Fin k0_t1_loop.trips) (a : Fin 128) (b : Fin 128) :
    (oSlab L k).view.emb (ix2 a b) = (ix3 (slabNo L k) a b : S1600x128x128.Idx) := by
  show (Rect.unit (s := S1600x128x128) (k0_off3 L k) S1x128x128.size (k0_off3_inb L k)).emb (Shape.reshapeEquiv _ (ix2 a b)) = _
  rw [reshapeEquiv_ix2_1ab]
  funext x; apply Fin.ext
  rw [Rect.emb_apply]
  match x with
  | 0 => simp [Rect.unit, k0_off3_eq, slabNo, wid_val]; omega
  | 1 => simp [Rect.unit, k0_off3_eq]
  | 2 => simp [Rect.unit, k0_off3_eq]

/-! ## The task's block of the result -/

/-- The slabs of task `w`. -/
def blk (w : Fin 32) : Finset S1600x128x128.Idx := Finset.univ.filter fun y => (y 0).val / 50 = w.val

theorem mem_oSlab {k : Fin k0_t1_loop.trips} {y : S1600x128x128.Idx} :
    y ∈ (oSlab L k).view.set ↔ (y 0).val = 50 * (wid L).val + k.val := by
  constructor
  · intro hy
    obtain ⟨x, -, rfl⟩ := Finset.mem_map.mp hy
    obtain ⟨a, b, rfl⟩ : ∃ (a b : Fin 128), x = ix2 a b := ⟨x 0, x 1, eq_ix2 x⟩
    rw [oSlab_emb]; rfl
  · intro hy
    obtain ⟨n, a, b, rfl⟩ : ∃ (n : Fin 1600) (a b : Fin 128), y = ix3 n a b := ⟨y 0, y 1, y 2, eq_ix3 y⟩
    refine Finset.mem_map.mpr ⟨ix2 a b, Finset.mem_univ _, (oSlab_emb L k a b).trans ?_⟩
    rw [show slabNo L k = n from Fin.ext hy.symm]

theorem oSlab_subset (k : Fin k0_t1_loop.trips) : (oSlab L k).view.set ⊆ blk (wid L) := by
  intro y hy
  have := (mem_oSlab L).mp hy
  have hk := trip_lt k
  refine Finset.mem_filter.mpr ⟨Finset.mem_univ _, ?_⟩
  omega

/-- The result after `k` trips of the task: its first `k` slabs gathered, the rest as before. -/
def upTo (fi : S32x50x128.Idx → Elt F .i32) (fe : S100000x128.Idx → Elt F .f32) (fo : S1600x128x128.Idx → Elt F .f32) (n : ℕ) :
    S1600x128x128.Idx → Elt F .f32 :=
  fun y => if (y 0).val < 50 * (wid L).val + n then gat fi fe y else fo y

/-- The fetched block. -/
def blkIx (fi : S32x50x128.Idx → Elt F .i32) : S50x128.Idx → Elt F .i32 := fun y => fi (ix3 (wid L) (y 0) (y 1))

theorem read_iBlk (fi : S32x50x128.Idx → Elt F .i32) : (iBlk L).view.read (Elt F) fi = blkIx L fi := by
  funext y
  refine ((View.read_apply _ _).trans (cast_eq _ _)).trans ?_
  obtain ⟨a, b, rfl⟩ : ∃ (a : Fin 50) (b : Fin 128), y = ix2 a b := ⟨y 0, y 1, eq_ix2 y⟩
  rw [iBlk_emb]; rfl

theorem read_sRow (fi : S32x50x128.Idx → Elt F .i32) (k : Fin k0_t1_loop.trips) (y : S128.Idx) :
    (sRow k).view.read (Elt F) (blkIx L fi) y = fi (ix3 (wid L) ⟨k.val, trip_lt k⟩ (y 0)) := by
  refine ((View.read_apply _ _).trans (cast_eq _ _)).trans ?_
  obtain ⟨b, rfl⟩ : ∃ b : Fin 128, y = ix1 b := ⟨y 0, eq_ix1 y⟩
  rw [sRow_emb]; rfl

theorem read_eAll (fe : S100000x128.Idx → Elt F .f32) : (eAll).view.read (Elt F) fe = fe := by
  funext y
  refine ((View.read_apply _ _).trans (cast_eq _ _)).trans ?_
  rw [eAll_emb]

theorem row_inb (fi : S32x50x128.Idx → Elt F .i32) (hfi : IdxOK (F := F) fi) (k : Fin k0_t1_loop.trips) :
    ∀ x, ((sRow k).view.read (Elt F) (blkIx L fi) x : BitVec 32).toNat < S100000x128.size gathers_S100000x128_S128x128.axis := by
  intro x; rw [read_sRow]; exact hfi _

/-- What the gather of trip `k` brings: lane `a` of the slab is the row that its index names. -/
theorem payload_eq (fi : S32x50x128.Idx → Elt F .i32) (fe : S100000x128.Idx → Elt F .f32) (hfi : IdxOK (F := F) fi) (k : Fin k0_t1_loop.trips)
    (hn : S128.numel = S128x128.size gathers_S100000x128_S128x128.axis')
    (h : ∀ x, ((sRow k).view.read (Elt F) (blkIx L fi) x : BitVec 32).toNat < S100000x128.size gathers_S100000x128_S128x128.axis) (a b : Fin 128) :
    gatherPayload gathers_S100000x128_S128x128 ((eAll).view.read (Elt F) fe)
        (SparseCore.rows ((sRow k).view.read (Elt F) (blkIx L fi)) hn h) (ix2 a b)
      = gat fi fe (ix3 (slabNo L k) a b) := by
  unfold gatherPayload gat
  rw [read_eAll]
  congr 1
  funext x
  match x with
  | 0 =>
    rw [show (0 : Fin S100000x128.rank) = gathers_S100000x128_S128x128.axis from rfl, Shape.Gathers.idx_axis]
    apply Fin.ext
    have hj : ∀ j : Fin S128.numel, (S128.rowMajor.symm j 0).val = j.val := fun j =>
      (Shape.rowMajor_val_one _).symm.trans (congrArg Fin.val (S128.rowMajor.apply_symm_apply j))
    refine (congrArg BitVec.toNat ((read_sRow L fi k _).trans (congrArg fi ?_ : _ = fi (ixAt (slabNo L k) a)))).trans
      (Nat.mod_eq_of_lt (hfi _)).symm
    · have h0 := (slabNo L k).isLt
      have hw := trip_lt k
      have hs : (slabNo L k).val = 50 * (wid L).val + k.val := rfl
      funext z; apply Fin.ext
      match z with
      | 0 => show (wid L).val = (slabNo L k).val / 50; omega
      | 1 => show k.val = (slabNo L k).val % 50; omega
      | 2 => exact hj _
  | 1 =>
    apply Fin.ext
    rw [Shape.Gathers.idx_of_ne _ _ _ _ (by decide)]
    rfl

theorem slab_write (fi : S32x50x128.Idx → Elt F .i32) (fe : S100000x128.Idx → Elt F .f32) (fo : S1600x128x128.Idx → Elt F .f32)
    (k : Fin k0_t1_loop.trips) (w : S128x128.Idx → Elt F .f32) (hw : ∀ a b : Fin 128, w (ix2 a b) = gat fi fe (ix3 (slabNo L k) a b)) :
    ∀ y ∈ (oSlab L k).view.set,
      (oSlab L k).view.writes (Elt F) (upTo L fi fe fo k.val) [⟨Rect.whole S128x128, w⟩] y = upTo L fi fe fo (k.val + 1) y := by
  intro y hy
  obtain ⟨x, -, rfl⟩ := Finset.mem_map.mp hy
  obtain ⟨a, b, rfl⟩ : ∃ (a b : Fin 128), x = ix2 a b := ⟨x 0, x 1, eq_ix2 x⟩
  have h := congrFun (View.read_writes_whole (Val := Elt F) (oSlab L k).view (upTo L fi fe fo k.val) w) (ix2 a b)
  rw [View.read_apply, cast_eq] at h
  rw [h, hw, oSlab_emb]
  exact (if_pos (show 50 * (wid L).val + k.val < 50 * (wid L).val + (k.val + 1) by omega)).symm

/-- The rest of the block is not touched by the trip. -/
theorem rest_same (fi : S32x50x128.Idx → Elt F .i32) (fe : S100000x128.Idx → Elt F .f32) (fo : S1600x128x128.Idx → Elt F .f32)
    (k : Fin k0_t1_loop.trips) :
    ∀ y ∈ blk (wid L) \ (oSlab L k).view.set, upTo L fi fe fo k.val y = upTo L fi fe fo (k.val + 1) y := by
  intro y hy
  have h1 : ¬ (y 0).val = 50 * (wid L).val + k.val := fun h => (Finset.mem_sdiff.mp hy).2 ((mem_oSlab L).mpr h)
  unfold upTo
  by_cases h : (y 0).val < 50 * (wid L).val + k.val
  · rw [if_pos h, if_pos (by omega)]
  · rw [if_neg h, if_neg (by omega)]

theorem upTo_zero (fi : S32x50x128.Idx → Elt F .i32) (fe : S100000x128.Idx → Elt F .f32) (fo : S1600x128x128.Idx → Elt F .f32) :
    ∀ y ∈ blk (wid L), fo y = upTo L fi fe fo 0 y := by
  intro y hy
  have := (Finset.mem_filter.mp hy).2
  exact (if_neg (by omega)).symm

theorem upTo_all (fi : S32x50x128.Idx → Elt F .i32) (fe : S100000x128.Idx → Elt F .f32) (fo : S1600x128x128.Idx → Elt F .f32) :
    ∀ y ∈ blk (wid L), upTo L fi fe fo 50 y = gat fi fe y := by
  intro y hy
  have := (Finset.mem_filter.mp hy).2
  exact if_pos (by omega)

/-! ## The task's own buffers and cells -/

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

/-- The three cells are among the subcore's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

/-- The two scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The body -/

variable [FloatOps F]
variable (fi : S32x50x128.Idx → Elt F .i32) (fe : S100000x128.Idx → Elt F .f32) (fo : S1600x128x128.Idx → Elt F .f32)
  (qi qe : PosShare TreeShare)

/-- What the task holds of the operands: a share of the index blocks, a share of the table, its block of the result. -/
def operands (f : S1600x128x128.Idx → Elt F .f32) : sProp 𝕄 :=
  iprop((iLoc d ↦{qi} fi) ∗ (eLoc d ↦{qe} fe) ∗ (oLoc d ↦[blk (wid L)]{fullShare} f))

/-- The loop's invariant before trip `k`. -/
def inv (O : CellTallies nD τ sig (HIx 1)) (W : Waits sig (HIx 1)) (k : ℕ) (_ : PUnit) : sProp 𝕄 :=
  iprop(Transfers.MayWaits (V d (cV L) (jV L)) (default : HIx 1) O
    ∗ ((eV).view.loc (V d (cV L) (jV L)) ↦{qe} fe)
    ∗ ((oV).view.loc (V d (cV L) (jV L)) ↦[blk (wid L)]{fullShare} upTo L fi fe fo k)
    ∗ ((sV).view.loc (V d (cV L) (jV L)) ↦{fullShare} blkIx L fi)
    ∗ (∃ f, (rV).view.loc (V d (cV L) (jV L)) ↦{fullShare} f)
    ∗ semVal (cBcell d (cV L) (jV L)) 0 ∗ semVal (cCcell d (cV L) (jV L)) 0
    ∗ ∃ W', ⌜∀ p ∈ W', p ∈ W ∨ p.2 = none⌝ ∗ owes (V d (cV L) (jV L)) O W')

omit [FloatOps F] in
/-- The table's share as the gather's source. -/
theorem split_e : ((eV).view.loc (V d (cV L) (jV L)) ↦{qe} fe : sProp 𝕄)
      = iprop(((eAll).view.loc (V d (cV L) (jV L)) ↦[(eAll).view.set]{qe} fe)
          ∗ ((eV).view.loc (V d (cV L) (jV L)) ↦[Finset.univ \ (eAll).view.set]{qe} fe)) :=
  have h := pointsTo_split_subset (nD := nD) (Val := Elt F) (Ix := HIx 1) (Name := ℕ) (U := UU) (Lvl := ℕ) (ℓ := (eV).view.loc (V d (cV L) (jV L)))
    (q := qe) (f := fe) (S := Finset.univ) (I := (eAll).view.set) (Finset.subset_univ _)
  Entails.antisymm h.1 h.2

omit [FloatOps F] in
/-- Row `k` of the fetched block as the gather's list. -/
theorem split_s (k : Fin k0_t1_loop.trips) : ((sV).view.loc (V d (cV L) (jV L)) ↦{fullShare} blkIx L fi : sProp 𝕄)
      = iprop(((sRow k).view.loc (V d (cV L) (jV L)) ↦[(sRow k).view.set]{fullShare} blkIx L fi)
          ∗ ((sV).view.loc (V d (cV L) (jV L)) ↦[Finset.univ \ (sRow k).view.set]{fullShare} blkIx L fi)) :=
  have h := pointsTo_split_subset (nD := nD) (Val := Elt F) (Ix := HIx 1) (Name := ℕ) (U := UU) (Lvl := ℕ) (ℓ := (sV).view.loc (V d (cV L) (jV L)))
    (q := fullShare) (f := blkIx L fi) (S := Finset.univ) (I := (sRow k).view.set) (Finset.subset_univ _)
  Entails.antisymm h.1 h.2

omit [FloatOps F] in
/-- The block of the result as the slab of trip `k` and the rest. -/
theorem split_o (k : Fin k0_t1_loop.trips) (f : S1600x128x128.Idx → Elt F .f32) :
    ((oV).view.loc (V d (cV L) (jV L)) ↦[blk (wid L)]{fullShare} f : sProp 𝕄)
      = iprop(((oSlab L k).view.loc (V d (cV L) (jV L)) ↦[(oSlab L k).view.set]{fullShare} f)
          ∗ ((oV).view.loc (V d (cV L) (jV L)) ↦[blk (wid L) \ (oSlab L k).view.set]{fullShare} f)) :=
  have h := pointsTo_split_subset (nD := nD) (Val := Elt F) (Ix := HIx 1) (Name := ℕ) (U := UU) (Lvl := ℕ) (ℓ := (oV).view.loc (V d (cV L) (jV L)))
    (q := fullShare) (f := f) (S := blk (wid L)) (I := (oSlab L k).view.set) (oSlab_subset L k)
  Entails.antisymm h.1 h.2

omit [FloatOps F] in
/-- The row buffer as the view the transfers address. -/
theorem whole_r (f : S128x128.Idx → Elt F .f32) : ((rV).view.loc (V d (cV L) (jV L)) ↦{fullShare} f : sProp 𝕄)
      = (rV).view.loc (V d (cV L) (jV L)) ↦[(rV).view.set]{fullShare} f := by
  rw [show (rV).view.set = Finset.univ from View.set_whole _]

omit [FloatOps F] in
/-- The slab, copied into, holds what it is to hold after the trip. -/
theorem join_slab (k : Fin k0_t1_loop.trips) (w : S128x128.Idx → Elt F .f32) (hw : ∀ a b : Fin 128, w (ix2 a b) = gat fi fe (ix3 (slabNo L k) a b)) :
    ((oSlab L k).view.loc (V d (cV L) (jV L)) ↦[(oSlab L k).view.set]{fullShare}
        (oSlab L k).view.writes (Elt F) (upTo L fi fe fo k.val) [⟨Rect.whole S128x128, w⟩] : sProp 𝕄)
      = ((oSlab L k).view.loc (V d (cV L) (jV L)) ↦[(oSlab L k).view.set]{fullShare} upTo L fi fe fo (k.val + 1)) :=
  pointsTo_congr (slab_write L fi fe fo k w hw)

omit [FloatOps F] in
theorem join_rest (k : Fin k0_t1_loop.trips) :
    ((oV).view.loc (V d (cV L) (jV L)) ↦[blk (wid L) \ (oSlab L k).view.set]{fullShare} upTo L fi fe fo k.val : sProp 𝕄)
      = ((oV).view.loc (V d (cV L) (jV L)) ↦[blk (wid L) \ (oSlab L k).view.set]{fullShare} upTo L fi fe fo (k.val + 1)) :=
  pointsTo_congr (rest_same L fi fe fo k)

set_option maxHeartbeats 4000000 in
/-- One trip: the gather of the row's indices and its wait, the copy to the slab and its wait. -/
theorem trip (hfi : IdxOK (F := F) fi) (O : CellTallies nD τ sig (HIx 1)) (W : Waits sig (HIx 1)) (k : Fin k0_t1_loop.trips) :
    inv d L fi fe fo qe O W k.val ⟨⟩
      ⊢ wp frame (wpE (defs₀ (F := F)) 𝒱₀ (V d (cV L) (jV L)) none) Set.univ
          (k0_t1_body L eV (Memref.isWhole_whole _) iV (Memref.isWhole_whole _) oV (Memref.isWhole_whole _)
            sV (Memref.isWhole_whole _) rV (Memref.isWhole_whole _) cc0_scratch2 cc0_scoped0 cc0_scoped1 k ⟨⟩)
          fun _ => inv d L fi fe fo qe O W (k.val + 1) ⟨⟩ := by
  unfold k0_t1_body inv
  iintro ⟨#Hmw, He, Ho, Hs, ⟨%fr, Hr⟩, HsemB, HsemC, %W', %hW', HO⟩
  ihave Hes := (Entails.of_eq (split_e (F := F) d L fe qe)) $$ He
  icases Hes with ⟨Hes, Her⟩
  ihave Hss := (Entails.of_eq (split_s (F := F) d L fi k)) $$ Hs
  icases Hss with ⟨Hss, Hsr⟩
  ihave Hos := (Entails.of_eq (split_o (F := F) d L k _)) $$ Ho
  icases Hos with ⟨Hos, Hor⟩
  ihave Hr1 := (Entails.of_eq (whole_r (F := F) d L fr)) $$ Hr
  have hN : ∀ h : S100000x128.Gathers 0 S128x128, ∑ j, ((rV).slice (S128x128.rowRect h.axis' j) (S128x128.stride_rowRect h.axis' j)).view.dmaCredit
      = (rV).view.dmaCredit := by decide
  iapply (SparseCore.wp_indirectGatherLocal countersEmb 𝒱₀ (V d (cV L) (jV L)) none (hg := gathers_S100000x128_S128x128) (default : HIx 1)
      (rV).view.dmaCredit (hN _) (by decide) (row_inb L fi hfi k)) $$ [Hes Hr1 Hss HsemB]
  · isplitl [Hes]; · iexact Hes
    isplitl [Hr1]; · iexact Hr1
    isplitl [Hss]; · iexact Hss
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr, Hes, Hss⟩, HsemB, HO⟩
  ihave Hr2 := (Entails.of_eq (whole_r (F := F) d L _).symm) $$ Hr
  sl_exec
  sl_step
  have hw : ∀ a b : Fin 128, trip.sl.dma0 d L fi fe hfi k fr (ix2 a b) = gat fi fe (ix3 (slabNo L k) a b) := by
    intro a b
    unfold trip.sl.dma0
    exact (congrFun (View.write_whole_univ cc0_scratch1 fr _) (ix2 a b)).trans (payload_eq L fi fe hfi k _ _ a b)
  isplitr; · iexact Hmw
  isplitl [Hes Her]
  · rw [split_e (F := F) d L fe qe]; isplitl [Hes]; · iexact Hes
    iexact Her
  isplitl [Hos Hor]
  · rw [split_o (F := F) d L k]
    isplitl [Hos]
    · iapply (Entails.of_eq (join_slab (F := F) d L fi fe fo k _ hw)); iexact Hos
    · iapply (Entails.of_eq (join_rest (F := F) d L fi fe fo k)); iexact Hor
  isplitl [Hss Hsr]
  · rw [split_s (F := F) d L fi k]; isplitl [Hss]; · iexact Hss
    iexact Hsr
  isplitl [Hr2]; · iexists _; iexact Hr2
  isplitl [HsemB]; · iexact HsemB
  isplitl [HsemC]; · iexact HsemC
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

omit [FloatOps F] in
theorem start_o : (oLoc d ↦[blk (wid L)]{fullShare} fo : sProp 𝕄)
    = ((oV).view.loc (V d (cV L) (jV L)) ↦[blk (wid L)]{fullShare} upTo L fi fe fo 0) :=
  pointsTo_congr (upTo_zero L fi fe fo)

omit [FloatOps F] in
theorem end_o : ((oV).view.loc (V d (cV L) (jV L)) ↦[blk (wid L)]{fullShare} upTo L fi fe fo k0_t1_loop.trips : sProp 𝕄)
    = (oLoc d ↦[blk (wid L)]{fullShare} gat fi fe) := by
  rw [trips_eq]; exact pointsTo_congr (upTo_all L fi fe fo)

set_option maxHeartbeats 4000000 in
/-- The task: its block of the result is left gathered. -/
theorem tile_body (hF : (K (F := F)).Facts) (hfi : IdxOK (F := F) fi) (O : CellTallies nD τ sig (HIx 1)) (W : Waits sig (HIx 1)) (hO : ∀ g, O g none = 0) :
    iprop(levAts (K (F := F)).L (K (F := F)).lev ∗ emp ∗ operands d L fi fe qi qe fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L eV (Memref.isWhole_whole _) iV (Memref.isWhole_whole _) oV (Memref.isWhole_whole _)
            sV (Memref.isWhole_whole _) rV (Memref.isWhole_whole _) cc0_scratch2 cc0_scoped0 cc0_scoped1)
          fun _ => iprop(operands d L fi fe qi qe (gat fi fe)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_body_eq_skeleton]; unfold cc0_body_skel operands
  rw [(K (F := F)).scopedBufs_V hF d (cV L) (jV L), SparseCore.Cfg.scopedSems0_V (Val := Elt F) d (cV L) (jV L), ownSems0_V, ownBufs_V]
  iintro ⟨#Hlv, -, ⟨Hi, He, Ho⟩, ⟨⟨%fs, Hs⟩, ⟨%fr, Hr⟩, Hbufs⟩, ⟨HsemA, HsemB, HsemC, Hsems⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (show (iLoc d ↦{qi} fi : sProp 𝕄) = ((iV).view.loc (V d (cV L) (jV L)) ↦{qi} fi) from rfl)) $$ Hi
  ihave Hs' := (Entails.of_eq (show ((V d (cV L) (jV L)).loc cc0_scratch0 ↦{fullShare} fs : sProp 𝕄) = ((sV).view.loc (V d (cV L) (jV L)) ↦{fullShare} fs) from rfl)) $$ Hs
  sl_exec
  ihave Hs1 := (Entails.of_eq (show ((sV).view.loc (V d (cV L) (jV L)) ↦{fullShare} View.write (Elt F) (sV).view fs (tile_body.sl.dma0 L fi) Finset.univ : sProp 𝕄)
      = ((sV).view.loc (V d (cV L) (jV L)) ↦{fullShare} blkIx L fi) by
        rw [show View.write (Elt F) (sV).view fs (tile_body.sl.dma0 L fi) Finset.univ = blkIx L fi from
          (View.write_whole_univ _ _ _).trans (read_iBlk L fi)])) $$ Hs'
  ihave Ho1 := (Entails.of_eq (start_o (F := F) d L fi fe fo)) $$ Ho
  sl_for (inv d L fi fe fo qe O W) $$ [He Ho1 Hs1 Hr HsemB HsemC HO]
  case region => intro k _; exact trip d L fi fe fo qe hfi O W k
  · unfold inv
    isplitr; · iexact Hmw
    isplitl [He]; · iexact He
    isplitl [Ho1]; · iexact Ho1
    isplitl [Hs1]; · iexact Hs1
    isplitl [Hr]; · iexists _; iexact Hr
    isplitl [HsemB]; · iexact HsemB
    isplitl [HsemC]; · iexact HsemC
    iexists _; isplitr
    swap; · iexact HO
    ipureintro; intro p hp
    rcases Finset.mem_insert.mp hp with hp | hp; · exact .inr (hp ▸ rfl)
    exact .inl hp
  iintro %_ HI
  unfold inv
  icases HI with ⟨-, He, Ho, Hs, ⟨%f, Hr⟩, HsemB, HsemC, %W', %hW', HO⟩
  sl_exec
  sl_step
  isplitl [Hi' He Ho]
  · isplitl [Hi']; · iexact Hi'
    isplitl [He]; · iexact He
    iapply (Entails.of_eq (end_o (F := F) d L fi fe fo)); iexact Ho
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists W'; isplitr
  · ipureintro; exact hW'
  · iexact HO

end Tile

end Cert.KernelIdeal.Pf

end
-- ==== Proof.KI.Tasks.lean ====
/-
  What the gather's handshakes carry, and that its sixteen times two tasks together do the whole gather: each
  SparseCore takes a share of the index blocks and of the table and the slabs of its own tasks, each task a share of its
  SparseCore's shares and its own slabs; all come back with the slabs gathered.
-/
module

public import proofs.«01_k».proof.Proof.KI.Tile

@[expose] public section

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Coordinates, shares and slabs -/

def coordsV (c : Fin (grid0.bound 0)) (s : Fin (grid0.bound 1)) : grid0.Coords :=
  fun | 0 => c | 1 => s | ⟨_ + 2, h⟩ => absurd h (Nat.not_lt.2 (Nat.le_add_left _ _))

/-- SparseCore `c`'s share, and its task `i`'s share of that. -/
abbrev cq (c : Fin 2) : PosShare TreeShare := pieceOf fullShare 2 (by decide) c
abbrev tq (c : Fin 2) (i : Fin 16) : PosShare TreeShare := pieceOf (cq c) 16 (by decide) i

/-- The slabs of SparseCore `c`: those of its tasks. -/
def blkC (c : Fin 2) : Finset S1600x128x128.Idx := Finset.univ.filter fun y => (y 0).val / 50 % 2 = c.val

abbrev widOf (c : Fin 2) (i : Fin 16) : Fin 32 := wid (coordsV c i)
theorem widOf_val (c : Fin 2) (i : Fin 16) : (widOf c i).val = 2 * i.val + c.val := rfl

theorem slab_lt (y : S1600x128x128.Idx) : (y 0).val < 1600 := (y 0).isLt

theorem blk_disjoint (c : Fin 2) : ∀ i ∈ (Finset.univ : Finset (Fin 16)), ∀ j ∈ (Finset.univ : Finset (Fin 16)), i ≠ j →
    Disjoint (blk (widOf c i)) (blk (widOf c j)) := by
  intro i _ j _ h
  refine Finset.disjoint_left.mpr fun y hi hj => h (Fin.ext ?_)
  have h1 := (Finset.mem_filter.mp hi).2
  have h2 := (Finset.mem_filter.mp hj).2
  rw [widOf_val] at h1 h2
  omega

theorem blk_cover (c : Fin 2) : (Finset.univ : Finset (Fin 16)).biUnion (fun i => blk (widOf c i)) = blkC c := by
  ext y
  simp only [Finset.mem_biUnion, Finset.mem_univ, true_and, blk, blkC, Finset.mem_filter]
  have hy := slab_lt y
  have hc := c.isLt
  constructor
  · rintro ⟨i, h⟩
    rw [widOf_val] at h
    omega
  · intro h
    refine ⟨⟨(y 0).val / 100, by omega⟩, ?_⟩
    rw [widOf_val]
    show _ = 2 * ((y 0).val / 100) + c.val
    omega

theorem blkC_disjoint : ∀ i ∈ (Finset.univ : Finset (Fin 2)), ∀ j ∈ (Finset.univ : Finset (Fin 2)), i ≠ j →
    Disjoint (blkC i) (blkC j) := by
  intro i _ j _ h
  refine Finset.disjoint_left.mpr fun y hi hj => h (Fin.ext ?_)
  have h1 := (Finset.mem_filter.mp hi).2
  have h2 := (Finset.mem_filter.mp hj).2
  omega

theorem blkC_cover : (Finset.univ : Finset (Fin 2)).biUnion blkC = Finset.univ := by
  ext y
  simp only [Finset.mem_biUnion, Finset.mem_univ, true_and, blkC, Finset.mem_filter, iff_true]
  exact ⟨⟨(y 0).val / 50 % 2, by omega⟩, rfl⟩

/-! ## What the handshakes carry -/

variable [FloatOps F]
variable (fi : Dev nD → S32x50x128.Idx → Elt F .i32) (fe : Dev nD → S100000x128.Idx → Elt F .f32) (fo : Dev nD → S1600x128x128.Idx → Elt F .f32)

/-- What SparseCore `c` takes, its slabs at `f`. -/
def coreOps (d : Dev nD) (c : Fin 2) (f : S1600x128x128.Idx → Elt F .f32) : sProp 𝕄 :=
  iprop((iLoc d ↦{cq c} fi d) ∗ (eLoc d ↦{cq c} fe d) ∗ (oLoc d ↦[blkC c]{fullShare} f))

/-- What task `i` of SparseCore `c` takes, its slabs at `f`. -/
abbrev taskOps (d : Dev nD) (c : Fin 2) (i : Fin 16) (f : S1600x128x128.Idx → Elt F .f32) : sProp 𝕄 :=
  operands d (coordsV c i) (fi d) (fe d) (tq c i) (tq c i) f

instance coreOps_storable (d : Dev nD) (c : Fin 2) (f : S1600x128x128.Idx → Elt F .f32) :
    BI.Storable (upEmb : UEmb _ 𝕄) (coreOps fi fe d c f) := by unfold coreOps; infer_instance
instance taskOps_storable (d : Dev nD) (c : Fin 2) (i : Fin 16) (f : S1600x128x128.Idx → Elt F .f32) :
    BI.Storable (upEmb : UEmb _ 𝕄) (taskOps fi fe d c i f) := by unfold taskOps operands; infer_instance

def P : (K (F := F)).Pay (nD := nD) (Val := Elt F) (Name := ℕ) (U := UU) where
  st := fun q d c => match q with | 0 => coreOps fi fe d (Fin.cast nCore_zero c) (fo d)
  dn := fun q d c => match q with | 0 => coreOps fi fe d (Fin.cast nCore_zero c) (gat (fi d) (fe d))
  go := fun q d c i => match q with | 0 => taskOps fi fe d (Fin.cast nCore_zero c) (Fin.cast nSub_zero i) (fo d)
  td := fun q d c i => match q with | 0 => taskOps fi fe d (Fin.cast nCore_zero c) (Fin.cast nSub_zero i) (gat (fi d) (fe d))
  x := fun _ _ => iprop(emp)

instance P_storable : (P (F := F) fi fe fo).IsStorable where
  st q d c := match q with | 0 => coreOps_storable fi fe d (Fin.cast nCore_zero c) (fo d)
  dn q d c := match q with | 0 => coreOps_storable fi fe d (Fin.cast nCore_zero c) (gat (fi d) (fe d))
  go q d c i := match q with | 0 => taskOps_storable fi fe d (Fin.cast nCore_zero c) (Fin.cast nSub_zero i) (fo d)
  td q d c i := match q with | 0 => taskOps_storable fi fe d (Fin.cast nCore_zero c) (Fin.cast nSub_zero i) (gat (fi d) (fe d))

/-! ## A task meets its obligation -/

theorem defs₀_vector (c : Fin τ.nSC) (s : Fin τ.nSub) :
    defs₀ (F := F) (.scVector c s) 0 ()
      = SparseCore.onTile hcore0 hsub0 (fun c s => cc0_body (coordsV c s)
          (Memref.whole main_arg1_scv) (Memref.isWhole_whole _) (Memref.whole main_v1_scv) (Memref.isWhole_whole _)
          (Memref.whole main_v2_scv) (Memref.isWhole_whole _) (Memref.whole cc0_scratch0) (Memref.isWhole_whole _)
          (Memref.whole cc0_scratch1) (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hfi : ∀ d, IdxOK (F := F) (fi d)) : (K (F := F)).TileObl (D (F := F)) 𝒱 (P fi fe fo) v₀ 0 := by
  intro d c i O W hO _ _
  simp only [show (P fi fe fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (fi d) (fe d) (fo d) (tq (Fin.cast nCore_zero c) (Fin.cast nSub_zero i))
    (tq (Fin.cast nCore_zero c) (Fin.cast nSub_zero i)) facts (hfi d) O W hO).trans (wp_mono frame _ _ fun _ => obl_post)

/-! ## A SparseCore's operands are its tasks' -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem coreOps_tasks (d : Dev nD) (c : Fin 2) (f : S1600x128x128.Idx → Elt F .f32) :
    coreOps fi fe d c f = bigSep Finset.univ fun i : Fin 16 => taskOps fi fe d c i f := by
  unfold coreOps taskOps operands
  rw [bigSep_sep', bigSep_sep']
  rw [pointsTo_piecesOf (ℓ := iLoc d) Finset.univ (fi d) (by decide : 0 < 16) (cq c),
    pointsTo_piecesOf (ℓ := eLoc d) Finset.univ (fe d) (by decide : 0 < 16) (cq c)]
  rw [← pointsTo_biUnion Finset.univ (ℓ := oLoc d) (fun i => blk (widOf c i)) (blk_disjoint c), blk_cover]

theorem vecSplit : (K (F := F)).VecSplit' (P fi fe fo) 0 := by
  intro d c
  show coreOps fi fe d (Fin.cast nCore_zero c) (fo d) ⊢ |={Set.univ}=> iprop(
      (bigSep Finset.univ fun i : Fin ((K (F := F)).nSub 0) => taskOps fi fe d (Fin.cast nCore_zero c) (Fin.cast nSub_zero i) (fo d))
      ∗ ((bigSep Finset.univ fun i : Fin ((K (F := F)).nSub 0) => taskOps fi fe d (Fin.cast nCore_zero c) (Fin.cast nSub_zero i) (gat (fi d) (fe d)))
          -∗ coreOps fi fe d (Fin.cast nCore_zero c) (gat (fi d) (fe d))))
  rw [bigSep_tasks (F := F) (fun i => taskOps fi fe d (Fin.cast nCore_zero c) i (fo d)),
    bigSep_tasks (F := F) (fun i => taskOps fi fe d (Fin.cast nCore_zero c) i (gat (fi d) (fe d))), coreOps_tasks, coreOps_tasks]
  iintro H; imodintro
  isplitl [H]; · iexact H
  iintro H; iexact H

/-- The buffers whole are the two SparseCores' operands. -/
theorem ops_cores (d : Dev nD) (f : S1600x128x128.Idx → Elt F .f32) :
    (iprop((iLoc d ↦{fullShare} fi d) ∗ (eLoc d ↦{fullShare} fe d) ∗ (oLoc d ↦{fullShare} f)) : sProp 𝕄)
      = bigSep Finset.univ fun c : Fin 2 => coreOps fi fe d c f := by
  unfold coreOps
  rw [bigSep_sep', bigSep_sep']
  rw [pointsTo_piecesOf (ℓ := iLoc d) Finset.univ (fi d) (by decide : 0 < 2) fullShare,
    pointsTo_piecesOf (ℓ := eLoc d) Finset.univ (fe d) (by decide : 0 < 2) fullShare]
  rw [← pointsTo_biUnion Finset.univ (ℓ := oLoc d) blkC blkC_disjoint, blkC_cover]

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call takes is the three buffers whole … -/
theorem st0_eq (d : Dev nD) : (bigSep Finset.univ fun c : Fin ((K (F := F)).nCore 0) => (P fi fe fo).st 0 d c)
    = iprop((iLoc d ↦{fullShare} fi d) ∗ (eLoc d ↦{fullShare} fe d) ∗ (oLoc d ↦{fullShare} fo d)) :=
  (bigSep_cores (F := F) fun c => coreOps fi fe d c (fo d)).trans (ops_cores fi fe d (fo d)).symm
/-- … and what it gives back is the three buffers whole, the result gathered. -/
theorem dn0_eq (d : Dev nD) : (bigSep Finset.univ fun c : Fin ((K (F := F)).nCore 0) => (P fi fe fo).dn 0 d c)
    = iprop((iLoc d ↦{fullShare} fi d) ∗ (eLoc d ↦{fullShare} fe d) ∗ (oLoc d ↦{fullShare} gat (fi d) (fe d))) :=
  (bigSep_cores (F := F) fun c => coreOps fi fe d c (gat (fi d) (fe d))).trans (ops_cores fi fe d (gat (fi d) (fe d))).symm

end Cert.KernelIdeal.Pf

end
-- ==== Proof.KI.Body.lean ====
/-
  The body of the fused LSTM on the TensorCore, run once for each of its three cases (the first step, a middle step, the
  last step): what a step makes of the two layers' states, and what the last one writes out.
-/
module

public import proofs.«01_k».proof.Proof.KI.Base
public import Idealize.ShloMosaic.Lib.WholeRead
public import Idealize.ShloMosaic.Lib.VecWindow
public import Idealize.ShloMosaic.Lib.Pipeline.FrameBody

@[expose] public section

set_option maxRecDepth 16384

noncomputable section

namespace Cert.KernelIdeal.Pf

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A step's values -/

/-- The two layers' hidden and cell states. -/
structure St (F : FTy → Type) where
  h0 : FVec F S1024x128 .f32
  c0 : FVec F S1024x128 .f32
  h1 : FVec F S1024x128 .f32
  c1 : FVec F S1024x128 .f32

/-- The four states at the start: zeros. -/
def St.init : St F := ⟨k1_pay7, k1_pay8, k1_pay9, k1_pay10⟩

/-- The second layer's operand at a step: the first layer's new hidden state beside the second's old one. -/
def catOf (e : Vec F S1x1024x128 .f32) (w0 : Vec F S256x512 .f32) (b0 : Vec F S1x512 .f32) (s : St F) : FVec F S1024x256 .f32 :=
  k1_pay16 e s.h0 w0 b0 s.c0 s.h1

/-- One step of both layers. -/
def St.step (e : Vec F S1x1024x128 .f32) (w0 w1 : Vec F S256x512 .f32) (b0 b1 : Vec F S1x512 .f32) (s : St F) : St F :=
  ⟨k1_pay14 e s.h0 w0 b0 s.c0, k1_pay15 e s.h0 w0 b0 s.c0, k1_pay4 (catOf e w0 b0 s) w1 b1 s.c1, k1_pay5 (catOf e w0 b0 s) w1 b1 s.c1⟩

/-- What the last step, taken from state `s`, writes out. -/
def outOf (e : Vec F S1x1024x128 .f32) (w0 w1 : Vec F S256x512 .f32) (b0 b1 : Vec F S1x512 .f32) (lw : Vec F S128x4 .f32) (lb : Vec F S1x4 .f32) (s : St F) : FVec F S1024x4 .f32 :=
  k1_pay6 (catOf e w0 b0 s) w1 b1 s.c1 lw lb

/-- Whether the body resets the states at a point. -/
abbrev cond0 (i : grid1.Coords) : Prop := (Scalar.cmpi .ne (Scalar.extui (Scalar.cmpi .eq (BitVec.ofNat 32 (i 0).val) 0#32)) 0#32) = 1#1
/-- Whether the body writes its output at a point. -/
abbrev cond1 (i : grid1.Coords) : Prop := k1_cond2 i = 1#1

/-! ## Loads of whole buffers -/

theorem rd_S1x1024x128 (m : Memref sig .tc .vmem S1x1024x128 .f32) (h : m.IsWhole) (X : Vec F S1x1024x128 .f32) :
    View.readAt (Elt F) m.view (Rect.unit (s := S1x1024x128) ![0, 0, 0] S1x1024x128.size inb_S1x1024x128_S1x1024x128_0_0_0).toLoadRect (h.unread X) = X :=
  (View.readAt_full m.view _ inb_S1x1024x128_S1x1024x128_0_0_0).trans (h.read_unread X)
theorem rd_S1x1024x128_lit (m : Memref sig .tc .vmem S1x1024x128 .f32) (h : m.IsWhole) (X : Vec F S1x1024x128 .f32) :
    View.readAt (Elt F) m.view (Rect.unit (s := S1x1024x128) ![0, 0, 0] ![1, 1024, 128] inb_S1x1024x128_S1x1024x128_0_0_0).toLoadRect (h.unread X) = X :=
  (View.readAt_full m.view _ inb_S1x1024x128_S1x1024x128_0_0_0).trans (h.read_unread X)
theorem rd_S256x512 (m : Memref sig .tc .vmem S256x512 .f32) (h : m.IsWhole) (X : Vec F S256x512 .f32) :
    View.readAt (Elt F) m.view (Rect.unit (s := S256x512) ![0, 0] S256x512.size inb_S256x512_S256x512_0_0).toLoadRect (h.unread X) = X :=
  (View.readAt_full m.view _ inb_S256x512_S256x512_0_0).trans (h.read_unread X)
theorem rd_S256x512_lit (m : Memref sig .tc .vmem S256x512 .f32) (h : m.IsWhole) (X : Vec F S256x512 .f32) :
    View.readAt (Elt F) m.view (Rect.unit (s := S256x512) ![0, 0] ![256, 512] inb_S256x512_S256x512_0_0).toLoadRect (h.unread X) = X :=
  (View.readAt_full m.view _ inb_S256x512_S256x512_0_0).trans (h.read_unread X)
theorem rd_S1x512 (m : Memref sig .tc .vmem S1x512 .f32) (h : m.IsWhole) (X : Vec F S1x512 .f32) :
    View.readAt (Elt F) m.view (Rect.unit (s := S1x512) ![0, 0] S1x512.size inb_S1x512_S1x512_0_0).toLoadRect (h.unread X) = X :=
  (View.readAt_full m.view _ inb_S1x512_S1x512_0_0).trans (h.read_unread X)
theorem rd_S1x512_lit (m : Memref sig .tc .vmem S1x512 .f32) (h : m.IsWhole) (X : Vec F S1x512 .f32) :
    View.readAt (Elt F) m.view (Rect.unit (s := S1x512) ![0, 0] ![1, 512] inb_S1x512_S1x512_0_0).toLoadRect (h.unread X) = X :=
  (View.readAt_full m.view _ inb_S1x512_S1x512_0_0).trans (h.read_unread X)
theorem rd_S128x4 (m : Memref sig .tc .vmem S128x4 .f32) (h : m.IsWhole) (X : Vec F S128x4 .f32) :
    View.readAt (Elt F) m.view (Rect.unit (s := S128x4) ![0, 0] S128x4.size inb_S128x4_S128x4_0_0).toLoadRect (h.unread X) = X :=
  (View.readAt_full m.view _ inb_S128x4_S128x4_0_0).trans (h.read_unread X)
theorem rd_S128x4_lit (m : Memref sig .tc .vmem S128x4 .f32) (h : m.IsWhole) (X : Vec F S128x4 .f32) :
    View.readAt (Elt F) m.view (Rect.unit (s := S128x4) ![0, 0] ![128, 4] inb_S128x4_S128x4_0_0).toLoadRect (h.unread X) = X :=
  (View.readAt_full m.view _ inb_S128x4_S128x4_0_0).trans (h.read_unread X)
theorem rd_S1x4 (m : Memref sig .tc .vmem S1x4 .f32) (h : m.IsWhole) (X : Vec F S1x4 .f32) :
    View.readAt (Elt F) m.view (Rect.unit (s := S1x4) ![0, 0] S1x4.size inb_S1x4_S1x4_0_0).toLoadRect (h.unread X) = X :=
  (View.readAt_full m.view _ inb_S1x4_S1x4_0_0).trans (h.read_unread X)
theorem rd_S1x4_lit (m : Memref sig .tc .vmem S1x4 .f32) (h : m.IsWhole) (X : Vec F S1x4 .f32) :
    View.readAt (Elt F) m.view (Rect.unit (s := S1x4) ![0, 0] ![1, 4] inb_S1x4_S1x4_0_0).toLoadRect (h.unread X) = X :=
  (View.readAt_full m.view _ inb_S1x4_S1x4_0_0).trans (h.read_unread X)
theorem rd_S1024x128 (m : Memref sig .tc .vmem S1024x128 .f32) (h : m.IsWhole) (X : Vec F S1024x128 .f32) :
    View.readAt (Elt F) m.view (Rect.unit (s := S1024x128) ![0, 0] S1024x128.size inb_S1024x128_S1024x128_0_0).toLoadRect (h.unread X) = X :=
  (View.readAt_full m.view _ inb_S1024x128_S1024x128_0_0).trans (h.read_unread X)
theorem rdc_w (m : Memref sig .tc .vmem S1024x128 .f32) (w : Vec F S1024x128 .f32) (L : List (View.Piece (Elt F) S1024x128 .f32)) :
    View.readCov m.view ((⟨Rect.unit (s := S1024x128) ![0, 0] S1024x128.size inb_S1024x128_S1024x128_0_0, w⟩ : View.Piece (Elt F) S1024x128 .f32) :: L) (Rect.unit (s := S1024x128) ![0, 0] S1024x128.size inb_S1024x128_S1024x128_0_0).toLoadRect = w :=
  View.readCov_full m.view inb_S1024x128_S1024x128_0_0 inb_S1024x128_S1024x128_0_0 w L
theorem rdc_w_lit (m : Memref sig .tc .vmem S1024x128 .f32) (w : Vec F S1024x128 .f32) (L : List (View.Piece (Elt F) S1024x128 .f32)) :
    View.readCov m.view ((⟨Rect.unit (s := S1024x128) ![0, 0] ![1024, 128] inb_S1024x128_S1024x128_0_0, w⟩ : View.Piece (Elt F) S1024x128 .f32) :: L) (Rect.unit (s := S1024x128) ![0, 0] S1024x128.size inb_S1024x128_S1024x128_0_0).toLoadRect = w :=
  View.readCov_full m.view inb_S1024x128_S1024x128_0_0 inb_S1024x128_S1024x128_0_0 w L
theorem rd_S1024x128_lit (m : Memref sig .tc .vmem S1024x128 .f32) (h : m.IsWhole) (X : Vec F S1024x128 .f32) :
    View.readAt (Elt F) m.view (Rect.unit (s := S1024x128) ![0, 0] ![1024, 128] inb_S1024x128_S1024x128_0_0).toLoadRect (h.unread X) = X :=
  (View.readAt_full m.view _ inb_S1024x128_S1024x128_0_0).trans (h.read_unread X)
theorem rdc_lit_w (m : Memref sig .tc .vmem S1024x128 .f32) (w : Vec F S1024x128 .f32) (L : List (View.Piece (Elt F) S1024x128 .f32)) :
    View.readCov m.view ((⟨Rect.unit (s := S1024x128) ![0, 0] S1024x128.size inb_S1024x128_S1024x128_0_0, w⟩ : View.Piece (Elt F) S1024x128 .f32) :: L) (Rect.unit (s := S1024x128) ![0, 0] ![1024, 128] inb_S1024x128_S1024x128_0_0).toLoadRect = w :=
  View.readCov_full m.view inb_S1024x128_S1024x128_0_0 inb_S1024x128_S1024x128_0_0 w L
theorem rdc_lit_w_lit (m : Memref sig .tc .vmem S1024x128 .f32) (w : Vec F S1024x128 .f32) (L : List (View.Piece (Elt F) S1024x128 .f32)) :
    View.readCov m.view ((⟨Rect.unit (s := S1024x128) ![0, 0] ![1024, 128] inb_S1024x128_S1024x128_0_0, w⟩ : View.Piece (Elt F) S1024x128 .f32) :: L) (Rect.unit (s := S1024x128) ![0, 0] ![1024, 128] inb_S1024x128_S1024x128_0_0).toLoadRect = w :=
  View.readCov_full m.view inb_S1024x128_S1024x128_0_0 inb_S1024x128_S1024x128_0_0 w L

section Body

variable (c : Dev nD) (i : grid1.Coords)
variable (arg1 : Memref sig .tc .vmem S1x1024x128 .f32) (harg1 : arg1.IsWhole)
variable (arg2 : Memref sig .tc .vmem S256x512 .f32) (harg2 : arg2.IsWhole)
variable (arg3 : Memref sig .tc .vmem S256x512 .f32) (harg3 : arg3.IsWhole)
variable (arg4 : Memref sig .tc .vmem S1x512 .f32) (harg4 : arg4.IsWhole)
variable (arg5 : Memref sig .tc .vmem S1x512 .f32) (harg5 : arg5.IsWhole)
variable (arg6 : Memref sig .tc .vmem S128x4 .f32) (harg6 : arg6.IsWhole)
variable (arg7 : Memref sig .tc .vmem S1x4 .f32) (harg7 : arg7.IsWhole)
variable (arg8 : Memref sig .tc .vmem S1024x4 .f32) (harg8 : arg8.IsWhole)
variable (arg9 : Memref sig .tc .vmem S1024x128 .f32) (harg9 : arg9.IsWhole)
variable (arg10 : Memref sig .tc .vmem S1024x128 .f32) (harg10 : arg10.IsWhole)
variable (arg11 : Memref sig .tc .vmem S1024x128 .f32) (harg11 : arg11.IsWhole)
variable (arg12 : Memref sig .tc .vmem S1024x128 .f32) (harg12 : arg12.IsWhole)
variable (e : Vec F S1x1024x128 .f32) (w0 w1 : Vec F S256x512 .f32) (b0 b1 : Vec F S1x512 .f32) (lw : Vec F S128x4 .f32) (lb : Vec F S1x4 .f32) (o : Vec F S1024x4 .f32)

/-- The seven staged inputs at their contents. -/
def insOwned : sProp 𝕄 :=
  iprop(owns (c : Thread nD τ) arg1 fullShare e ∗ owns (c : Thread nD τ) arg2 fullShare w0 ∗ owns (c : Thread nD τ) arg3 fullShare w1 ∗ owns (c : Thread nD τ) arg4 fullShare b0 ∗ owns (c : Thread nD τ) arg5 fullShare b1 ∗ owns (c : Thread nD τ) arg6 fullShare lw ∗ owns (c : Thread nD τ) arg7 fullShare lb)

/-- The four state buffers at a state. -/
def stOwned (s : St F) : sProp 𝕄 :=
  iprop(owns (c : Thread nD τ) arg9 fullShare s.h0 ∗ owns (c : Thread nD τ) arg10 fullShare s.c0 ∗ owns (c : Thread nD τ) arg11 fullShare s.h1 ∗ owns (c : Thread nD τ) arg12 fullShare s.c1)

/-- The four state buffers at anything. -/
def stAny : sProp 𝕄 :=
  iprop((∃ x : FVec F S1024x128 .f32, owns (c : Thread nD τ) arg9 fullShare x) ∗ (∃ x : FVec F S1024x128 .f32, owns (c : Thread nD τ) arg10 fullShare x) ∗ (∃ x : FVec F S1024x128 .f32, owns (c : Thread nD τ) arg11 fullShare x) ∗ (∃ x : FVec F S1024x128 .f32, owns (c : Thread nD τ) arg12 fullShare x))

set_option maxHeartbeats 2000000 in
include harg1 harg2 harg3 harg4 harg5 harg6 harg7 harg8 harg9 harg10 harg11 harg12 in
/-- A middle step: the state buffers go one step on, the output is left alone. -/
theorem body_mid (hc0 : ¬ cond0 i) (hc1 : ¬ cond1 i) (s : St F) (E : Set ℕ) (Q : PUnit → sProp 𝕄) :
    iprop(insOwned c arg1 arg2 arg3 arg4 arg5 arg6 arg7 e w0 w1 b0 b1 lw lb ∗ owns (c : Thread nD τ) arg8 fullShare o ∗ stOwned c arg9 arg10 arg11 arg12 s
        ∗ ((insOwned c arg1 arg2 arg3 arg4 arg5 arg6 arg7 e w0 w1 b0 b1 lw lb ∗ owns (c : Thread nD τ) arg8 fullShare o ∗ stOwned c arg9 arg10 arg11 arg12 (s.step e w0 w1 b0 b1)) -∗ Q ⟨⟩))
      ⊢ wp frame (wpE (defs₀ (F := F)) Variants.none (c : Thread nD τ) none) E (cc1_body i arg1 harg1 arg2 harg2 arg3 harg3 arg4 harg4 arg5 harg5 arg6 harg6 arg7 harg7 arg8 harg8 arg9 harg9 arg10 harg10 arg11 harg11 arg12 harg12) Q := by
  simp only [cc1_body_eq_skeleton]
  unfold cc1_body_skel
  simp only [k1_part1_eq_skeleton]
  unfold insOwned stOwned owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%f8, %hf8, H8⟩, ⟨⟨%f9, %hf9, H9⟩, ⟨%f10, %hf10, H10⟩, ⟨%f11, %hf11, H11⟩, ⟨%f12, %hf12, H12⟩⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  sl_exec (disch := first | sl_exact hc0 | sl_exact hc1)
  sl_step
  iapply Hk
  isplitl [H1 H2 H3 H4 H5 H6 H7]
  · isplitl [H1]
    · iexists _; isplitr
      · ipureintro; exact harg1.read_unread _
      iexact H1
    isplitl [H2]
    · iexists _; isplitr
      · ipureintro; exact harg2.read_unread _
      iexact H2
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; isplitr
      · ipureintro; exact harg6.read_unread _
      iexact H6
    iexists _; isplitr
    · ipureintro; exact harg7.read_unread _
    iexact H7
  isplitl [H8]
  · iexists _; isplitr
    · ipureintro; exact harg8.read_unread _
    iexact H8
  isplitl [H9]
  · iexists _; isplitr; on_goal 2 => iexact H9
    ipureintro
    refine (View.read_writes_full _ _ _ _ _).trans ?_
    try unfold body_mid.sl.r
    simp only [rd_S1x1024x128, rd_S1x1024x128_lit, rd_S256x512, rd_S256x512_lit, rd_S1x512, rd_S1x512_lit, rd_S128x4, rd_S128x4_lit, rd_S1x4, rd_S1x4_lit, rd_S1024x128, rdc_w, rdc_w_lit, rd_S1024x128_lit, rdc_lit_w, rdc_lit_w_lit]
    rfl
  isplitl [H10]
  · iexists _; isplitr; on_goal 2 => iexact H10
    ipureintro
    refine (View.read_writes_full _ _ _ _ _).trans ?_
    try unfold body_mid.sl.r
    simp only [rd_S1x1024x128, rd_S1x1024x128_lit, rd_S256x512, rd_S256x512_lit, rd_S1x512, rd_S1x512_lit, rd_S128x4, rd_S128x4_lit, rd_S1x4, rd_S1x4_lit, rd_S1024x128, rdc_w, rdc_w_lit, rd_S1024x128_lit, rdc_lit_w, rdc_lit_w_lit]
    rfl
  isplitl [H11]
  · iexists _; isplitr; on_goal 2 => iexact H11
    ipureintro
    refine (View.read_writes_full _ _ _ _ _).trans ?_
    try unfold body_mid.sl.r
    simp only [rd_S1x1024x128, rd_S1x1024x128_lit, rd_S256x512, rd_S256x512_lit, rd_S1x512, rd_S1x512_lit, rd_S128x4, rd_S128x4_lit, rd_S1x4, rd_S1x4_lit, rd_S1024x128, rdc_w, rdc_w_lit, rd_S1024x128_lit, rdc_lit_w, rdc_lit_w_lit]
    rfl
  iexists _; isplitr; on_goal 2 => iexact H12
  ipureintro
  refine (View.read_writes_full _ _ _ _ _).trans ?_
  try unfold body_mid.sl.r
  simp only [rd_S1x1024x128, rd_S1x1024x128_lit, rd_S256x512, rd_S256x512_lit, rd_S1x512, rd_S1x512_lit, rd_S128x4, rd_S128x4_lit, rd_S1x4, rd_S1x4_lit, rd_S1024x128, rdc_w, rdc_w_lit, rd_S1024x128_lit, rdc_lit_w, rdc_lit_w_lit]
  rfl

set_option maxHeartbeats 2000000 in
include harg1 harg2 harg3 harg4 harg5 harg6 harg7 harg8 harg9 harg10 harg11 harg12 in
/-- The first step: whatever the state buffers held, they leave at one step from zeros. -/
theorem body_first (hc0 : cond0 i) (hc1 : ¬ cond1 i) (E : Set ℕ) (Q : PUnit → sProp 𝕄) :
    iprop(insOwned c arg1 arg2 arg3 arg4 arg5 arg6 arg7 e w0 w1 b0 b1 lw lb ∗ owns (c : Thread nD τ) arg8 fullShare o ∗ stAny c arg9 arg10 arg11 arg12
        ∗ ((insOwned c arg1 arg2 arg3 arg4 arg5 arg6 arg7 e w0 w1 b0 b1 lw lb ∗ owns (c : Thread nD τ) arg8 fullShare o ∗ stOwned c arg9 arg10 arg11 arg12 (St.init.step e w0 w1 b0 b1)) -∗ Q ⟨⟩))
      ⊢ wp frame (wpE (defs₀ (F := F)) Variants.none (c : Thread nD τ) none) E (cc1_body i arg1 harg1 arg2 harg2 arg3 harg3 arg4 harg4 arg5 harg5 arg6 harg6 arg7 harg7 arg8 harg8 arg9 harg9 arg10 harg10 arg11 harg11 arg12 harg12) Q := by
  simp only [cc1_body_eq_skeleton]
  unfold cc1_body_skel
  simp only [k1_part1_eq_skeleton]
  unfold insOwned stOwned stAny owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%f8, %hf8, H8⟩, ⟨⟨%x9, %f9, -, H9⟩, ⟨%x10, %f10, -, H10⟩, ⟨%x11, %f11, -, H11⟩, ⟨%x12, %f12, -, H12⟩⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  sl_exec (disch := first | sl_exact hc0 | sl_exact hc1)
  sl_step
  iapply Hk
  isplitl [H1 H2 H3 H4 H5 H6 H7]
  · isplitl [H1]
    · iexists _; isplitr
      · ipureintro; exact harg1.read_unread _
      iexact H1
    isplitl [H2]
    · iexists _; isplitr
      · ipureintro; exact harg2.read_unread _
      iexact H2
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; isplitr
      · ipureintro; exact harg6.read_unread _
      iexact H6
    iexists _; isplitr
    · ipureintro; exact harg7.read_unread _
    iexact H7
  isplitl [H8]
  · iexists _; isplitr
    · ipureintro; exact harg8.read_unread _
    iexact H8
  isplitl [H9]
  · iexists _; isplitr; on_goal 2 => iexact H9
    ipureintro
    refine (View.read_writes_full _ _ _ _ _).trans ?_
    (try unfold body_first.sl.r); (try unfold body_first.sl.v5); (try unfold body_first.sl.v19); (try unfold body_first.sl.v34); (try unfold body_first.sl.v48); (try unfold body_first.sl.H9_1); (try unfold body_first.sl.H10_1); (try unfold body_first.sl.H11_1); (try unfold body_first.sl.H12_1)
    simp only [rd_S1x1024x128, rd_S1x1024x128_lit, rd_S256x512, rd_S256x512_lit, rd_S1x512, rd_S1x512_lit, rd_S128x4, rd_S128x4_lit, rd_S1x4, rd_S1x4_lit, rd_S1024x128, rdc_w, rdc_w_lit, rd_S1024x128_lit, rdc_lit_w, rdc_lit_w_lit]
    rfl
  isplitl [H10]
  · iexists _; isplitr; on_goal 2 => iexact H10
    ipureintro
    refine (View.read_writes_full _ _ _ _ _).trans ?_
    (try unfold body_first.sl.r); (try unfold body_first.sl.v5); (try unfold body_first.sl.v19); (try unfold body_first.sl.v34); (try unfold body_first.sl.v48); (try unfold body_first.sl.H9_1); (try unfold body_first.sl.H10_1); (try unfold body_first.sl.H11_1); (try unfold body_first.sl.H12_1)
    simp only [rd_S1x1024x128, rd_S1x1024x128_lit, rd_S256x512, rd_S256x512_lit, rd_S1x512, rd_S1x512_lit, rd_S128x4, rd_S128x4_lit, rd_S1x4, rd_S1x4_lit, rd_S1024x128, rdc_w, rdc_w_lit, rd_S1024x128_lit, rdc_lit_w, rdc_lit_w_lit]
    rfl
  isplitl [H11]
  · iexists _; isplitr; on_goal 2 => iexact H11
    ipureintro
    refine (View.read_writes_full _ _ _ _ _).trans ?_
    (try unfold body_first.sl.r); (try unfold body_first.sl.v5); (try unfold body_first.sl.v19); (try unfold body_first.sl.v34); (try unfold body_first.sl.v48); (try unfold body_first.sl.H9_1); (try unfold body_first.sl.H10_1); (try unfold body_first.sl.H11_1); (try unfold body_first.sl.H12_1)
    simp only [rd_S1x1024x128, rd_S1x1024x128_lit, rd_S256x512, rd_S256x512_lit, rd_S1x512, rd_S1x512_lit, rd_S128x4, rd_S128x4_lit, rd_S1x4, rd_S1x4_lit, rd_S1024x128, rdc_w, rdc_w_lit, rd_S1024x128_lit, rdc_lit_w, rdc_lit_w_lit]
    rfl
  iexists _; isplitr; on_goal 2 => iexact H12
  ipureintro
  refine (View.read_writes_full _ _ _ _ _).trans ?_
  (try unfold body_first.sl.r); (try unfold body_first.sl.v5); (try unfold body_first.sl.v19); (try unfold body_first.sl.v34); (try unfold body_first.sl.v48); (try unfold body_first.sl.H9_1); (try unfold body_first.sl.H10_1); (try unfold body_first.sl.H11_1); (try unfold body_first.sl.H12_1)
  simp only [rd_S1x1024x128, rd_S1x1024x128_lit, rd_S256x512, rd_S256x512_lit, rd_S1x512, rd_S1x512_lit, rd_S128x4, rd_S128x4_lit, rd_S1x4, rd_S1x4_lit, rd_S1024x128, rdc_w, rdc_w_lit, rd_S1024x128_lit, rdc_lit_w, rdc_lit_w_lit]
  rfl

set_option maxHeartbeats 2000000 in
include harg1 harg2 harg3 harg4 harg5 harg6 harg7 harg8 harg9 harg10 harg11 harg12 in
/-- The last step: the state buffers go one step on, and the output is written. -/
theorem body_last (hc0 : ¬ cond0 i) (hc1 : cond1 i) (s : St F) (E : Set ℕ) (Q : PUnit → sProp 𝕄) :
    iprop(insOwned c arg1 arg2 arg3 arg4 arg5 arg6 arg7 e w0 w1 b0 b1 lw lb ∗ owns (c : Thread nD τ) arg8 fullShare o ∗ stOwned c arg9 arg10 arg11 arg12 s
        ∗ ((insOwned c arg1 arg2 arg3 arg4 arg5 arg6 arg7 e w0 w1 b0 b1 lw lb ∗ owns (c : Thread nD τ) arg8 fullShare (outOf e w0 w1 b0 b1 lw lb s) ∗ stOwned c arg9 arg10 arg11 arg12 (s.step e w0 w1 b0 b1)) -∗ Q ⟨⟩))
      ⊢ wp frame (wpE (defs₀ (F := F)) Variants.none (c : Thread nD τ) none) E (cc1_body i arg1 harg1 arg2 harg2 arg3 harg3 arg4 harg4 arg5 harg5 arg6 harg6 arg7 harg7 arg8 harg8 arg9 harg9 arg10 harg10 arg11 harg11 arg12 harg12) Q := by
  simp only [cc1_body_eq_skeleton]
  unfold cc1_body_skel
  simp only [k1_part1_eq_skeleton]
  unfold insOwned stOwned owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%f8, %hf8, H8⟩, ⟨⟨%f9, %hf9, H9⟩, ⟨%f10, %hf10, H10⟩, ⟨%f11, %hf11, H11⟩, ⟨%f12, %hf12, H12⟩⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  sl_exec (disch := first | sl_exact hc0 | sl_exact hc1)
  sl_step
  iapply Hk
  isplitl [H1 H2 H3 H4 H5 H6 H7]
  · isplitl [H1]
    · iexists _; isplitr
      · ipureintro; exact harg1.read_unread _
      iexact H1
    isplitl [H2]
    · iexists _; isplitr
      · ipureintro; exact harg2.read_unread _
      iexact H2
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; isplitr
      · ipureintro; exact harg6.read_unread _
      iexact H6
    iexists _; isplitr
    · ipureintro; exact harg7.read_unread _
    iexact H7
  isplitl [H8]
  · iexists _; isplitr; on_goal 2 => iexact H8
    ipureintro
    refine (View.read_writes_full _ _ _ _ _).trans ?_
    try unfold body_last.sl.r
    simp only [rd_S1x1024x128, rd_S1x1024x128_lit, rd_S256x512, rd_S256x512_lit, rd_S1x512, rd_S1x512_lit, rd_S128x4, rd_S128x4_lit, rd_S1x4, rd_S1x4_lit, rd_S1024x128, rdc_w, rdc_w_lit, rd_S1024x128_lit, rdc_lit_w, rdc_lit_w_lit]
    rfl
  isplitl [H9]
  · iexists _; isplitr; on_goal 2 => iexact H9
    ipureintro
    refine (View.read_writes_full _ _ _ _ _).trans ?_
    try unfold body_last.sl.r
    simp only [rd_S1x1024x128, rd_S1x1024x128_lit, rd_S256x512, rd_S256x512_lit, rd_S1x512, rd_S1x512_lit, rd_S128x4, rd_S128x4_lit, rd_S1x4, rd_S1x4_lit, rd_S1024x128, rdc_w, rdc_w_lit, rd_S1024x128_lit, rdc_lit_w, rdc_lit_w_lit]
    rfl
  isplitl [H10]
  · iexists _; isplitr; on_goal 2 => iexact H10
    ipureintro
    refine (View.read_writes_full _ _ _ _ _).trans ?_
    try unfold body_last.sl.r
    simp only [rd_S1x1024x128, rd_S1x1024x128_lit, rd_S256x512, rd_S256x512_lit, rd_S1x512, rd_S1x512_lit, rd_S128x4, rd_S128x4_lit, rd_S1x4, rd_S1x4_lit, rd_S1024x128, rdc_w, rdc_w_lit, rd_S1024x128_lit, rdc_lit_w, rdc_lit_w_lit]
    rfl
  isplitl [H11]
  · iexists _; isplitr; on_goal 2 => iexact H11
    ipureintro
    refine (View.read_writes_full _ _ _ _ _).trans ?_
    try unfold body_last.sl.r
    simp only [rd_S1x1024x128, rd_S1x1024x128_lit, rd_S256x512, rd_S256x512_lit, rd_S1x512, rd_S1x512_lit, rd_S128x4, rd_S128x4_lit, rd_S1x4, rd_S1x4_lit, rd_S1024x128, rdc_w, rdc_w_lit, rd_S1024x128_lit, rdc_lit_w, rdc_lit_w_lit]
    rfl
  iexists _; isplitr; on_goal 2 => iexact H12
  ipureintro
  refine (View.read_writes_full _ _ _ _ _).trans ?_
  try unfold body_last.sl.r
  simp only [rd_S1x1024x128, rd_S1x1024x128_lit, rd_S256x512, rd_S256x512_lit, rd_S1x512, rd_S1x512_lit, rd_S128x4, rd_S128x4_lit, rd_S1x4, rd_S1x4_lit, rd_S1024x128, rdc_w, rdc_w_lit, rd_S1024x128_lit, rdc_lit_w, rdc_lit_w_lit]
  rfl

end Body

end Cert.KernelIdeal.Pf

end
-- ==== Proof.KI.Region.lean ====
/-
  The fused LSTM's pallas_call as a region of @main: the data its proof runs on (the two layers' states folded over the
  steps, the output of the last), the body obligation from the three cases, and the region over the thread's buffers.
-/
module

public import proofs.«01_k».proof.Proof.KI.Body
public import Idealize.ShloMosaic.Lib.Pipeline.RegionArraysS
public import Idealize.ShloMosaic.Lib.WordCmp

@[expose] public section

set_option maxRecDepth 16384

noncomputable section

namespace Cert.KernelIdeal.Pf

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The points of the grid -/

/-- The states are reset at the first point only. -/
theorem hcond0 : ∀ t : Fin cfg1.N, cond0 (grid1.coords t) ↔ t.val % 200 = 0 :=
  (fun t => by
    have ht : t.val < 200 := Nat.lt_of_lt_of_eq t.isLt N_1
    have e0 : (grid1.coords t 0).val = t.val / 1 % 200 := Pipeline.Grid.coords_val t 0 (by decide) rfl
    simp only [cond0, e0]
    word_cmp
   : ∀ t : Fin grid1.N, cond0 (grid1.coords t) ↔ t.val % 200 = 0)

/-- The output is written at the last point only. -/
theorem hcond1 : ∀ t : Fin cfg1.N, cond1 (grid1.coords t) ↔ t.val % 200 = 199 :=
  (fun t => by
    have ht : t.val < 200 := Nat.lt_of_lt_of_eq t.isLt N_1
    have e0 : (grid1.coords t 0).val = t.val / 1 % 200 := Pipeline.Grid.coords_val t 0 (by decide) rfl
    simp only [cond1, k1_cond2, e0]
    word_cmp
   : ∀ t : Fin grid1.N, cond1 (grid1.coords t) ↔ t.val % 200 = 199)

/-- The output's window is idle away from the last point, and is not written back there. -/
theorem idleAt7 : ∀ t : Fin cfg1.N, ¬ cond1 (grid1.coords t) → cfg1.idle 7 (grid1.coords t) = true := by decide +kernel
theorem noFlush7 : ∀ t : Fin cfg1.N, ¬ cond1 (grid1.coords t) → (cfg1.win 7).flush t = false := by decide +kernel
theorem liveAt7 : ∀ t : Fin cfg1.N, cond1 (grid1.coords t) → cfg1.idle 7 (grid1.coords t) = false := by decide +kernel

abbrev ms0 (t : Fin cfg1.N) : Memref sig .tc .vmem S1x1024x128 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S256x512 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S256x512 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x512 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x512 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S128x4 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1x4 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S1024x4 .f32 := win1_7.stage (cfg1.slots t 7)
abbrev hs7 (t : Fin cfg1.N) : (ms7 t).IsWhole := hstage1_7 ((cfg1.slots t 7).cast nbuf1_7)
abbrev sc0 : Memref sig .tc .vmem S1024x128 .f32 := Memref.whole cc1_scratch0
abbrev sc1 : Memref sig .tc .vmem S1024x128 .f32 := Memref.whole cc1_scratch1
abbrev sc2 : Memref sig .tc .vmem S1024x128 .f32 := Memref.whole cc1_scratch2
abbrev sc3 : Memref sig .tc .vmem S1024x128 .f32 := Memref.whole cc1_scratch3

/-! ## The proof data, at the valuation the region is entered from -/

section Data

variable (W : Dev nD → Valuation τ sig (Elt F))

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The two layers' states after `n` steps. -/
def stAt (c : Dev nD) : ℕ → St F
  | 0 => St.init
  | n + 1 => if h : n < cfg1.N then (stAt c n).step (iblk W c 0 ⟨n, h⟩) (iblk W c 1 ⟨n, h⟩) (iblk W c 2 ⟨n, h⟩) (iblk W c 3 ⟨n, h⟩) (iblk W c 4 ⟨n, h⟩) else stAt c n

theorem stAt_zero (c : Dev nD) : stAt W c 0 = St.init := rfl
theorem stAt_succ (c : Dev nD) (t : Fin cfg1.N) :
    stAt W c (t.val + 1) = (stAt W c t.val).step (iblk W c 0 t) (iblk W c 1 t) (iblk W c 2 t) (iblk W c 3 t) (iblk W c 4 t) := by
  show (if h : t.val < cfg1.N then _ else _) = _
  rw [dif_pos t.isLt]

/-- What the last point writes out (read only there). -/
def outAt (c : Dev nD) (t : Fin cfg1.N) : FVec F S1024x4 .f32 :=
  outOf (iblk W c 0 t) (iblk W c 1 t) (iblk W c 2 t) (iblk W c 3 t) (iblk W c 4 t) (iblk W c 5 t) (iblk W c 6 t) (stAt W c t.val)

/-- The state buffers between points: anything before the first, the folded states after. -/
def PhiS (c : Dev nD) : ℕ → sProp 𝕄
  | 0 => stAny c sc0 sc1 sc2 sc3
  | n + 1 => stOwned c sc0 sc1 sc2 sc3 (stAt W c (n + 1))

theorem PhiS_pos (c : Dev nD) (n : ℕ) (h : n ≠ 0) : PhiS W c n = stOwned c sc0 sc1 sc2 sc3 (stAt W c n) := by
  cases n with
  | zero => exact absurd rfl h
  | succ n => rfl

/-- The proof data: the arrays at the valuation, the inputs left in place, the last point's output, the states folded;
    nothing owed. -/
def dat (c : Dev nD) : Dat τ (Elt F) (HIx 1) ℕ UU ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => outAt W c t
  Φ t := PhiS W c t.val
  q _ := fullShare
  owed _ := 0

theorem after0 (c : Dev nD) (t : Fin cfg1.N) : (dat W c).after 0 t = iblk W c 0 t := rfl
theorem before0 (c : Dev nD) (t : Fin cfg1.N) (d) : (dat W c).before 0 t d = iblk W c 0 t :=
  ((dat W c).before_in_eq_fetched 0 rfl (fun _ => rfl) (fun _ _ _ => rfl) (fun t => by rw [after0]; unfold Dat.blockOf iblk dat; rfl) t d).trans
    (by unfold Dat.fetched Dat.blockOf iblk dat; rfl)
theorem leaves0 (c : Dev nD) (t : Fin cfg1.N) : (dat W c).leavesExact 0 t = owns (c : Thread nD τ) (ms0 t) fullShare (iblk W c 0 t) := by
  unfold Dat.leavesExact
  rw [show cfg1.idle 0 (grid1.coords t) = false from rfl]
  rfl
theorem after1 (c : Dev nD) (t : Fin cfg1.N) : (dat W c).after 1 t = iblk W c 1 t := rfl
theorem before1 (c : Dev nD) (t : Fin cfg1.N) (d) : (dat W c).before 1 t d = iblk W c 1 t :=
  ((dat W c).before_in_eq_fetched 1 rfl (fun _ => rfl) (fun _ _ _ => rfl) (fun t => by rw [after1]; unfold Dat.blockOf iblk dat; rfl) t d).trans
    (by unfold Dat.fetched Dat.blockOf iblk dat; rfl)
theorem leaves1 (c : Dev nD) (t : Fin cfg1.N) : (dat W c).leavesExact 1 t = owns (c : Thread nD τ) (ms1 t) fullShare (iblk W c 1 t) := by
  unfold Dat.leavesExact
  rw [show cfg1.idle 1 (grid1.coords t) = false from rfl]
  rfl
theorem after2 (c : Dev nD) (t : Fin cfg1.N) : (dat W c).after 2 t = iblk W c 2 t := rfl
theorem before2 (c : Dev nD) (t : Fin cfg1.N) (d) : (dat W c).before 2 t d = iblk W c 2 t :=
  ((dat W c).before_in_eq_fetched 2 rfl (fun _ => rfl) (fun _ _ _ => rfl) (fun t => by rw [after2]; unfold Dat.blockOf iblk dat; rfl) t d).trans
    (by unfold Dat.fetched Dat.blockOf iblk dat; rfl)
theorem leaves2 (c : Dev nD) (t : Fin cfg1.N) : (dat W c).leavesExact 2 t = owns (c : Thread nD τ) (ms2 t) fullShare (iblk W c 2 t) := by
  unfold Dat.leavesExact
  rw [show cfg1.idle 2 (grid1.coords t) = false from rfl]
  rfl
theorem after3 (c : Dev nD) (t : Fin cfg1.N) : (dat W c).after 3 t = iblk W c 3 t := rfl
theorem before3 (c : Dev nD) (t : Fin cfg1.N) (d) : (dat W c).before 3 t d = iblk W c 3 t :=
  ((dat W c).before_in_eq_fetched 3 rfl (fun _ => rfl) (fun _ _ _ => rfl) (fun t => by rw [after3]; unfold Dat.blockOf iblk dat; rfl) t d).trans
    (by unfold Dat.fetched Dat.blockOf iblk dat; rfl)
theorem leaves3 (c : Dev nD) (t : Fin cfg1.N) : (dat W c).leavesExact 3 t = owns (c : Thread nD τ) (ms3 t) fullShare (iblk W c 3 t) := by
  unfold Dat.leavesExact
  rw [show cfg1.idle 3 (grid1.coords t) = false from rfl]
  rfl
theorem after4 (c : Dev nD) (t : Fin cfg1.N) : (dat W c).after 4 t = iblk W c 4 t := rfl
theorem before4 (c : Dev nD) (t : Fin cfg1.N) (d) : (dat W c).before 4 t d = iblk W c 4 t :=
  ((dat W c).before_in_eq_fetched 4 rfl (fun _ => rfl) (fun _ _ _ => rfl) (fun t => by rw [after4]; unfold Dat.blockOf iblk dat; rfl) t d).trans
    (by unfold Dat.fetched Dat.blockOf iblk dat; rfl)
theorem leaves4 (c : Dev nD) (t : Fin cfg1.N) : (dat W c).leavesExact 4 t = owns (c : Thread nD τ) (ms4 t) fullShare (iblk W c 4 t) := by
  unfold Dat.leavesExact
  rw [show cfg1.idle 4 (grid1.coords t) = false from rfl]
  rfl
theorem after5 (c : Dev nD) (t : Fin cfg1.N) : (dat W c).after 5 t = iblk W c 5 t := rfl
theorem before5 (c : Dev nD) (t : Fin cfg1.N) (d) : (dat W c).before 5 t d = iblk W c 5 t :=
  ((dat W c).before_in_eq_fetched 5 rfl (fun _ => rfl) (fun _ _ _ => rfl) (fun t => by rw [after5]; unfold Dat.blockOf iblk dat; rfl) t d).trans
    (by unfold Dat.fetched Dat.blockOf iblk dat; rfl)
theorem leaves5 (c : Dev nD) (t : Fin cfg1.N) : (dat W c).leavesExact 5 t = owns (c : Thread nD τ) (ms5 t) fullShare (iblk W c 5 t) := by
  unfold Dat.leavesExact
  rw [show cfg1.idle 5 (grid1.coords t) = false from rfl]
  rfl
theorem after6 (c : Dev nD) (t : Fin cfg1.N) : (dat W c).after 6 t = iblk W c 6 t := rfl
theorem before6 (c : Dev nD) (t : Fin cfg1.N) (d) : (dat W c).before 6 t d = iblk W c 6 t :=
  ((dat W c).before_in_eq_fetched 6 rfl (fun _ => rfl) (fun _ _ _ => rfl) (fun t => by rw [after6]; unfold Dat.blockOf iblk dat; rfl) t d).trans
    (by unfold Dat.fetched Dat.blockOf iblk dat; rfl)
theorem leaves6 (c : Dev nD) (t : Fin cfg1.N) : (dat W c).leavesExact 6 t = owns (c : Thread nD τ) (ms6 t) fullShare (iblk W c 6 t) := by
  unfold Dat.leavesExact
  rw [show cfg1.idle 6 (grid1.coords t) = false from rfl]
  rfl
theorem after7 (c : Dev nD) (t : Fin cfg1.N) : (dat W c).after 7 t = outAt W c t := rfl
theorem leaves7_idle (c : Dev nD) (t : Fin cfg1.N) (h : ¬ cond1 (grid1.coords t)) :
    (dat W c).leavesExact 7 t = iprop(∃ d, owns (c : Thread nD τ) (ms7 t) fullShare ((dat W c).before 7 t d)) :=
  Dat.leavesExact_idle (dat W c) 7 t (idleAt7 t h) (noFlush7 t h)
theorem leaves7_live (c : Dev nD) (t : Fin cfg1.N) (h : cond1 (grid1.coords t)) :
    (dat W c).leavesExact 7 t = owns (c : Thread nD τ) (ms7 t) fullShare (outAt W c t) := by
  unfold Dat.leavesExact
  rw [liveAt7 t h]
  rfl

/-- The body's pre and post at a point, the windows one by one. -/
def bodyPre (c : Dev nD) (t : Fin cfg1.N) : sProp 𝕄 :=
  iprop((dat W c).Φ t.castSucc ∗ (dat W c).owesAt none t.castSucc ∗ (∃ d, owns (c : Thread nD τ) (ms0 t) fullShare ((dat W c).before 0 t d)) ∗ (∃ d, owns (c : Thread nD τ) (ms1 t) fullShare ((dat W c).before 1 t d)) ∗ (∃ d, owns (c : Thread nD τ) (ms2 t) fullShare ((dat W c).before 2 t d)) ∗ (∃ d, owns (c : Thread nD τ) (ms3 t) fullShare ((dat W c).before 3 t d)) ∗ (∃ d, owns (c : Thread nD τ) (ms4 t) fullShare ((dat W c).before 4 t d)) ∗ (∃ d, owns (c : Thread nD τ) (ms5 t) fullShare ((dat W c).before 5 t d)) ∗ (∃ d, owns (c : Thread nD τ) (ms6 t) fullShare ((dat W c).before 6 t d)) ∗ (∃ d, owns (c : Thread nD τ) (ms7 t) fullShare ((dat W c).before 7 t d)))
def bodyPost (c : Dev nD) (t : Fin cfg1.N) : sProp 𝕄 :=
  iprop((dat W c).Φ t.succ ∗ (dat W c).owesAt none t.succ ∗ (dat W c).leavesExact 0 t ∗ (dat W c).leavesExact 1 t ∗ (dat W c).leavesExact 2 t ∗ (dat W c).leavesExact 3 t ∗ (dat W c).leavesExact 4 t ∗ (dat W c).leavesExact 5 t ∗ (dat W c).leavesExact 6 t ∗ (dat W c).leavesExact 7 t)

theorem body_first_pt (c : Dev nD) (t : Fin cfg1.N) (hz : t.val = 0) (h0 : cond0 (grid1.coords t)) (h1 : ¬ cond1 (grid1.coords t)) :
    bodyPre W c t ⊢ wp frame (wpE (defs₀ (F := F)) Variants.none (c : Thread nD τ) none) Set.univ (bodyAt1 t) (fun _ => bodyPost W c t) := by
  unfold bodyPre bodyPost bodyAt1
  simp only [before0, before1, before2, before3, before4, before5, before6]
  rw [show (dat W c).owesAt none t.succ = (dat W c).owesAt none t.castSucc from rfl,
    show (dat W c).Φ t.castSucc = PhiS W c t.val from rfl,
    show (dat W c).Φ t.succ = stOwned c sc0 sc1 sc2 sc3 (stAt W c (t.val + 1)) from rfl, stAt_succ,
    leaves0, leaves1, leaves2, leaves3, leaves4, leaves5, leaves6, leaves7_idle W c t h1]
  rw [show t.val = 0 from hz, stAt_zero, show PhiS W c 0 = stAny c sc0 sc1 sc2 sc3 from rfl]
  iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_first c (grid1.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) (iblk W c 0 t) (iblk W c 1 t) (iblk W c 2 t) (iblk W c 3 t) (iblk W c 4 t) (iblk W c 5 t) (iblk W c 6 t) _ h0 h1 Set.univ _)
  isplitl [H0 H1 H2 H3 H4 H5 H6]
  · unfold insOwned
    isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  isplitl [HS]; · iexact HS
  unfold insOwned
  iintro ⟨⟨H0, H1, H2, H3, H4, H5, H6⟩, H7, HS⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

theorem body_mid_pt (c : Dev nD) (t : Fin cfg1.N) (hz : t.val ≠ 0) (h0 : ¬ cond0 (grid1.coords t)) (h1 : ¬ cond1 (grid1.coords t)) :
    bodyPre W c t ⊢ wp frame (wpE (defs₀ (F := F)) Variants.none (c : Thread nD τ) none) Set.univ (bodyAt1 t) (fun _ => bodyPost W c t) := by
  unfold bodyPre bodyPost bodyAt1
  simp only [before0, before1, before2, before3, before4, before5, before6]
  rw [show (dat W c).owesAt none t.succ = (dat W c).owesAt none t.castSucc from rfl,
    show (dat W c).Φ t.castSucc = PhiS W c t.val from rfl,
    show (dat W c).Φ t.succ = stOwned c sc0 sc1 sc2 sc3 (stAt W c (t.val + 1)) from rfl, stAt_succ,
    leaves0, leaves1, leaves2, leaves3, leaves4, leaves5, leaves6, leaves7_idle W c t h1]
  rw [PhiS_pos W c t.val hz]
  iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_mid c (grid1.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) (iblk W c 0 t) (iblk W c 1 t) (iblk W c 2 t) (iblk W c 3 t) (iblk W c 4 t) (iblk W c 5 t) (iblk W c 6 t) _ h0 h1 (stAt W c t.val) Set.univ _)
  isplitl [H0 H1 H2 H3 H4 H5 H6]
  · unfold insOwned
    isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  isplitl [HS]; · iexact HS
  unfold insOwned
  iintro ⟨⟨H0, H1, H2, H3, H4, H5, H6⟩, H7, HS⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

theorem body_last_pt (c : Dev nD) (t : Fin cfg1.N) (hz : t.val ≠ 0) (h0 : ¬ cond0 (grid1.coords t)) (h1 : cond1 (grid1.coords t)) :
    bodyPre W c t ⊢ wp frame (wpE (defs₀ (F := F)) Variants.none (c : Thread nD τ) none) Set.univ (bodyAt1 t) (fun _ => bodyPost W c t) := by
  unfold bodyPre bodyPost bodyAt1
  simp only [before0, before1, before2, before3, before4, before5, before6]
  rw [show (dat W c).owesAt none t.succ = (dat W c).owesAt none t.castSucc from rfl,
    show (dat W c).Φ t.castSucc = PhiS W c t.val from rfl,
    show (dat W c).Φ t.succ = stOwned c sc0 sc1 sc2 sc3 (stAt W c (t.val + 1)) from rfl, stAt_succ,
    leaves0, leaves1, leaves2, leaves3, leaves4, leaves5, leaves6, leaves7_live W c t h1]
  rw [PhiS_pos W c t.val hz]
  iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_last c (grid1.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) sc3 (Memref.isWhole_whole _) (iblk W c 0 t) (iblk W c 1 t) (iblk W c 2 t) (iblk W c 3 t) (iblk W c 4 t) (iblk W c 5 t) (iblk W c 6 t) _ h0 h1 (stAt W c t.val) Set.univ _)
  isplitl [H0 H1 H2 H3 H4 H5 H6]
  · unfold insOwned
    isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  isplitl [HS]; · iexact HS
  unfold insOwned
  iintro ⟨⟨H0, H1, H2, H3, H4, H5, H6⟩, H7, HS⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point. -/
theorem body_pt (c : Dev nD) (t : Fin cfg1.N) :
    bodyPre W c t ⊢ wp frame (wpE (defs₀ (F := F)) Variants.none (c : Thread nD τ) none) Set.univ (bodyAt1 t) (fun _ => bodyPost W c t) := by
  have hN : t.val < 200 := lt_of_lt_of_eq t.isLt (show cfg1.N = 200 from N_1)
  by_cases hz : t.val = 0
  · exact body_first_pt W c t hz ((hcond0 t).mpr (by omega)) (fun h => by have := (hcond1 t).mp h; omega)
  · have h0 : ¬ cond0 (grid1.coords t) := fun h => by have := (hcond0 t).mp h; omega
    by_cases h1 : cond1 (grid1.coords t)
    · exact body_last_pt W c t hz h0 h1
    · exact body_mid_pt W c t hz h0 h1

theorem defs₀_row (t : Fin cfg1.N) : defs₀ (F := F) .tc cfg1.body (cfg1.bodyArgs t (cfg1.slots t)) = bodyAt1 t := by
  unfold defs₀; rfl

/-- The library's body obligation. -/
theorem body_obligation (c : Dev nD) : BodyObligation (dat W c) (defs₀ (F := F)) 𝒱₀ none Set.univ := fun t => by
  rw [bigSep_W1, bigSep_W1, defs₀_row]
  exact body_pt W c t

/-! ## The region over the thread's buffers -/

/-- The region is entered with the state buffers at anything … -/
theorem phi_in (c : Dev nD) : iprop(Pipeline.scopedRest (Ix := HIx 1) (Name := ℕ) (U := UU) (Lvl := ℕ) (Val := Elt F) spec1 c ∗ BI.emp) ⊢ (dat W c).Φ 0 := by
  show _ ⊢ stAny c sc0 sc1 sc2 sc3
  unfold stAny
  rw [scopedRest1_eq]
  simp only [owns_whole]
  exact sep_elim_left

/-- … and gives them back, whatever they hold. -/
theorem phi_out (c : Dev nD) : (dat W c).Φ (Fin.last cfg1.N) ⊢ iprop(Pipeline.scopedRest (Ix := HIx 1) (Name := ℕ) (U := UU) (Lvl := ℕ) (Val := Elt F) spec1 c ∗ BI.emp) := by
  show PhiS W c (Fin.last cfg1.N).val ⊢ _
  rw [PhiS_pos W c _ (by rw [Fin.val_last]; exact ne_of_eq_of_ne (show cfg1.N = 200 from N_1) (by decide))]
  unfold stOwned
  rw [scopedRest1_eq]
  simp only [owns_whole]
  iintro ⟨H0, H1, H2, H3⟩
  isplitl
  · isplitl [H0]; · iexists _; iexact H0
    isplitl [H1]; · iexists _; iexact H1
    isplitl [H2]; · iexists _; iexact H2
    iexists _; iexact H3
  iempintro

abbrev adm : (p : Fin 1) → (pcfgs (F := F) p).Adm := fun p => (cfgs p).toPCfg_adm

/-- Every pipeline's proof data: there is one. -/
def pdats : (p : Fin 1) → (c : Dev nD) → Dat τ (Elt F) (HIx 1) ℕ UU ℕ (Pipeline.pin (pcfgs (F := F)) adm p) c
  | ⟨0, _⟩ => fun c => dat W c

set_option backward.isDefEq.respectTransparency.types false in
/-- The region: entered from the thread's buffers at `W`, left with the output's array rewritten. -/
def seg : Pipeline.RegionSeg (pcfgs (F := F)) adm (pdats W) (none : HIx 1) (defs₀ (F := F)) 𝒱₀ (K (F := F)).L (K (F := F)).lev (0 : Fin 1) :=
  Pipeline.RegionSeg.ofHeldIn (pcfgs (F := F)) adm (pdats W) none defs₀ 𝒱₀ (K (F := F)).L (K (F := F)).lev 0 (fun _ => 0)
    (Pipeline.ucRefs τ sig) (fun _ => BI.emp) (fun _ => BI.emp) launch1.toP rfl
    (fun c => (body_obligation W c).loose) (fun _ _ => rfl) (fun _ => rfl)
    (fun c => (pdats W 0 c).share_full fun _ => rfl)
    (fun c => phi_in W c) (fun c => phi_out W c) (fun _ => 0)
    ⟨fun _ _ _ => Finset.mem_univ _, fun _ _ _ => le_of_eq ((K (F := F)).lev_none _), fun _ _ _ h => absurd h (Nat.lt_irrefl 0)⟩
    (fun _ => BI.emp) W (fun _ _ => rfl)

theorem arrs_sub : Pipeline.arrRefs (τ := τ) ((pcfgs (F := F)) 0).spec ⊆ Pipeline.ucRefs τ sig :=
  Pipeline.arrRefs_sub_ucRefs _ fun w => launch1.win.arr_unscoped w

set_option backward.isDefEq.respectTransparency.types false in
theorem seg_pre (c : Dev nD) :
    iprop(StableHlo.held (c.tc : Thread nD τ) (Pipeline.ucRefs τ sig) (W c) ∗ ((∃ Wd, owes (c : Thread nD τ) 0 Wd) ∗ BI.emp ∗ BI.emp)) ⊢ (seg W).pre c := by
  unfold seg
  exact Pipeline.RegionSeg.ofHeldIn_pre (pcs := pcfgs (F := F)) (a := adm) (pdats := pdats W) (ι := (none : HIx 1)) (defs₀ := defs₀ (F := F)) (𝒱₀ := 𝒱₀) (L := (K (F := F)).L) (lv := (K (F := F)).lev) (p := 0) (D := fun _ => 0) (X := fun _ => BI.emp) (Y := fun _ => BI.emp) (R := fun _ => BI.emp) (arrs_sub (F := F)) (W := W) c

set_option backward.isDefEq.respectTransparency.types false in
theorem seg_post (c : Dev nD) :
    (seg W).post c ⊢ iprop(StableHlo.held (c.tc : Thread nD τ) (Pipeline.ucRefs τ sig) (Pipeline.afterRegion (pdats W 0 c) (W c)) ∗ ((∃ Wd, owes (c : Thread nD τ) 0 Wd) ∗ BI.emp ∗ BI.emp)) := by
  unfold seg
  exact Pipeline.RegionSeg.ofHeldIn_post (pcs := pcfgs (F := F)) (a := adm) (pdats := pdats W) (ι := (none : HIx 1)) (defs₀ := defs₀ (F := F)) (𝒱₀ := 𝒱₀) (L := (K (F := F)).L) (lv := (K (F := F)).lev) (p := 0) (D := fun _ => 0) (X := fun _ => BI.emp) (Y := fun _ => BI.emp) (R := fun _ => BI.emp) (arrs_sub (F := F)) (W := W) c

theorem lands : (EP (F := F)).LandsIn (upEmb : UEmb _ 𝕄) := inferInstance

set_option backward.isDefEq.respectTransparency.types false in
/-- The call of the region, from and to the thread's buffers. -/
theorem seg_wp (c : Dev nD) {α : Type} (k : PUnit → Prog (TpuEff nD τ sig (Elt F) (Pipeline.Sig Λ₀ (Fin 1) fun p => ((pcfgs (F := F)) p).Adm) .tc) α) (Q : α → sProp 𝕄) :
    iprop((iprop(boundary (c.tc : Thread nD τ) ∗ (StableHlo.held (c.tc : Thread nD τ) (Pipeline.ucRefs τ sig) (Pipeline.afterRegion (pdats W 0 c) (W c)) ∗ (∃ Wd, owes (c : Thread nD τ) 0 Wd)))
            -∗ wp frame (wpE (Pipeline.defs pcfgs defs₀) 𝒱₀.lift (c.tc : Thread nD τ) none) Set.univ (k ⟨⟩) Q)
        ∗ boundary (c.tc : Thread nD τ) ∗ (StableHlo.held (c.tc : Thread nD τ) (Pipeline.ucRefs τ sig) (W c) ∗ (∃ Wd, owes (c : Thread nD τ) 0 Wd)) ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE (Pipeline.defs pcfgs defs₀) 𝒱₀.lift (c.tc : Thread nD τ) none) Set.univ (.op (.customCall (Pipeline.entry 0) ()) k) Q := by
  iintro ⟨Hk, Hb, ⟨Hh, Ho⟩, Hl, Hg, Ht⟩
  iapply (Pipeline.RegionSeg.wp (pcfgs (F := F)) adm (pdats W) none (Pipeline.LaunchFacts.toP launch1 |>.cellOf_inj adm) EP defs₀ 𝒱₀ (K (F := F)).L (K (F := F)).lev (seg W) c none (fun _ h => nomatch h) k Q)
  isplitl [Hk]
  · iintro ⟨Hb, Hp⟩
    iapply Hk
    isplitl [Hb]; · iexact Hb
    ihave H2 := (seg_post W c) $$ Hp
    icases H2 with ⟨Hh, Ho, -⟩
    isplitl [Hh]; · iexact Hh
    iexact Ho
  isplitl [Hb]; · iexact Hb
  isplitl [Hh Ho]
  · iapply (seg_pre W c)
    isplitl [Hh]; · iexact Hh
    isplitl [Ho]; · iexact Ho
    isplitl <;> iempintro
  isplitl [Hl]; · iexact Hl
  isplitl [Hg]; · iexact Hg
  iexact Ht
-- ==== Proof.KI.Main.lean ====
/-
  @main on the TensorCore: the index blocks made by the host, the gather on the SparseCores, the weights prepared by the
  host, the fused LSTM's region, the column cut out; then the whole launch, with every TensorCore buffer's final contents.
-/
module

public import proofs.«01_k».proof.Proof.KI.Tasks
public import proofs.«01_k».proof.Proof.KI.Region

@[expose] public section

set_option maxRecDepth 16384

noncomputable section

namespace Cert.KernelIdeal.Pf

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host's lines -/

/-- The host's line 0: the index blocks. -/
abbrev ops0 : List (HloOp τ sig (Elt F)) :=
  [StableHlo.unary main_arg0 main_v0 ((transpose S200x1024 [1, 0] · transposes_S1024x200_S200x1024_1_0) : (⟨S1024x200, .i32⟩ : BufTy).Contents (Elt F) → (⟨S200x1024, .i32⟩ : BufTy).Contents (Elt F)),
   StableHlo.reshape main_v0 main_v1 (rfl : (.i32 : EltTy) = .i32) shapeCasts_S200x1024_S32x50x128]

theorem ops0_sub : ∀ op ∈ (ops0 : List (HloOp τ sig (Elt F))), op.bufs ⊆ Pipeline.ucRefs τ sig := fun op h =>
  Pipeline.sub_ucRefs op ((List.forall_iff_forall_mem.mp (show (ops0 : List (HloOp τ sig (Elt F))).Forall fun op => op.bufs ⊆ StableHlo.tcRefs τ sig by simp)) op h)

theorem ops0_fresh : ∀ op ∈ (ops0 : List (HloOp τ sig (Elt F))), op.fresh = ∅ := fun op h =>
  (List.forall_iff_forall_mem.mp (StableHlo.forall_fresh_of_map (ops := (ops0 : List (HloOp τ sig (Elt F)))) rfl)) op h

/-- What line 0 writes. -/
abbrev wr0 : List (Ref sig .tc) := [main_v0, main_v1]

theorem keep0 (V : Valuation τ sig (Elt F)) (r : Ref sig .tc) (h : r ∉ wr0) : StableHlo.after (ops0 (F := F)) V (Proc.devRef .tc r) = V (Proc.devRef .tc r) :=
  StableHlo.after_of_writes_sub _ V (StableHlo.forall_writes_sub_of_map (W := wr0) rfl) h

/-- The host's line 1: the gathered slabs regrouped by step, and the weights prepared. -/
abbrev ops1 : List (HloOp τ sig (Elt F)) :=
  [StableHlo.reshape main_v2 main_v3 (rfl : (.f32 : EltTy) = .f32) shapeCasts_S1600x128x128_S200x1024x128,
   StableHlo.unary main_arg2 main_v4 ((transpose S128x512 [1, 0] · transposes_S512x128_S128x512_1_0) : (⟨S512x128, .f32⟩ : BufTy).Contents (Elt F) → (⟨S128x512, .f32⟩ : BufTy).Contents (Elt F)),
   StableHlo.unary main_arg3 main_v5 ((transpose S128x512 [1, 0] · transposes_S512x128_S128x512_1_0) : (⟨S512x128, .f32⟩ : BufTy).Contents (Elt F) → (⟨S128x512, .f32⟩ : BufTy).Contents (Elt F)),
   StableHlo.binary main_v4 main_v5 main_v6 ((fun a b => concatenate S256x512 0 [⟨S128x512, a⟩, ⟨S128x512, b⟩] concatenates_S128x512_S128x512_S256x512_d0) : (⟨S128x512, .f32⟩ : BufTy).Contents (Elt F) → (⟨S128x512, .f32⟩ : BufTy).Contents (Elt F) → (⟨S256x512, .f32⟩ : BufTy).Contents (Elt F)),
   StableHlo.unary main_arg6 main_v7 ((transpose S128x512 [1, 0] · transposes_S512x128_S128x512_1_0) : (⟨S512x128, .f32⟩ : BufTy).Contents (Elt F) → (⟨S128x512, .f32⟩ : BufTy).Contents (Elt F)),
   StableHlo.unary main_arg7 main_v8 ((transpose S128x512 [1, 0] · transposes_S512x128_S128x512_1_0) : (⟨S512x128, .f32⟩ : BufTy).Contents (Elt F) → (⟨S128x512, .f32⟩ : BufTy).Contents (Elt F)),
   StableHlo.binary main_v7 main_v8 main_v9 ((fun a b => concatenate S256x512 0 [⟨S128x512, a⟩, ⟨S128x512, b⟩] concatenates_S128x512_S128x512_S256x512_d0) : (⟨S128x512, .f32⟩ : BufTy).Contents (Elt F) → (⟨S128x512, .f32⟩ : BufTy).Contents (Elt F) → (⟨S256x512, .f32⟩ : BufTy).Contents (Elt F)),
   StableHlo.binary main_arg4 main_arg5 main_v10 (addf : (⟨S512, .f32⟩ : BufTy).Contents (Elt F) → (⟨S512, .f32⟩ : BufTy).Contents (Elt F) → (⟨S512, .f32⟩ : BufTy).Contents (Elt F)),
   StableHlo.reshape main_v10 main_v11 (rfl : (.f32 : EltTy) = .f32) shapeCasts_S512_S1x512,
   StableHlo.binary main_arg8 main_arg9 main_v12 (addf : (⟨S512, .f32⟩ : BufTy).Contents (Elt F) → (⟨S512, .f32⟩ : BufTy).Contents (Elt F) → (⟨S512, .f32⟩ : BufTy).Contents (Elt F)),
   StableHlo.reshape main_v12 main_v13 (rfl : (.f32 : EltTy) = .f32) shapeCasts_S512_S1x512,
   StableHlo.unary main_arg10 main_v14 ((transpose S128x4 [1, 0] · transposes_S4x128_S128x4_1_0) : (⟨S4x128, .f32⟩ : BufTy).Contents (Elt F) → (⟨S128x4, .f32⟩ : BufTy).Contents (Elt F)),
   StableHlo.reshape main_arg11 main_v15 (rfl : (.f32 : EltTy) = .f32) shapeCasts_S4_S1x4]

theorem ops1_sub : ∀ op ∈ (ops1 : List (HloOp τ sig (Elt F))), op.bufs ⊆ Pipeline.ucRefs τ sig := fun op h =>
  Pipeline.sub_ucRefs op ((List.forall_iff_forall_mem.mp (show (ops1 : List (HloOp τ sig (Elt F))).Forall fun op => op.bufs ⊆ StableHlo.tcRefs τ sig by simp)) op h)

theorem ops1_fresh : ∀ op ∈ (ops1 : List (HloOp τ sig (Elt F))), op.fresh = ∅ := fun op h =>
  (List.forall_iff_forall_mem.mp (StableHlo.forall_fresh_of_map (ops := (ops1 : List (HloOp τ sig (Elt F)))) rfl)) op h

/-- What line 1 writes. -/
abbrev wr1 : List (Ref sig .tc) := [main_v3, main_v4, main_v5, main_v6, main_v7, main_v8, main_v9, main_v10, main_v11, main_v12, main_v13, main_v14, main_v15]

theorem keep1 (V : Valuation τ sig (Elt F)) (r : Ref sig .tc) (h : r ∉ wr1) : StableHlo.after (ops1 (F := F)) V (Proc.devRef .tc r) = V (Proc.devRef .tc r) :=
  StableHlo.after_of_writes_sub _ V (StableHlo.forall_writes_sub_of_map (W := wr1) rfl) h

/-- The host's line 2: the last column. -/
abbrev ops2 : List (HloOp τ sig (Elt F)) :=
  [StableHlo.unary main_v16 main_v17 ((extractStridedSlice S1024x1 ![0, 3] · slices_S1024x4_S1024x1_0_3) : (⟨S1024x4, .f32⟩ : BufTy).Contents (Elt F) → (⟨S1024x1, .f32⟩ : BufTy).Contents (Elt F)),
   StableHlo.reshape main_v17 main_v18 (rfl : (.f32 : EltTy) = .f32) shapeCasts_S1024x1_S1024]

theorem ops2_sub : ∀ op ∈ (ops2 : List (HloOp τ sig (Elt F))), op.bufs ⊆ Pipeline.ucRefs τ sig := fun op h =>
  Pipeline.sub_ucRefs op ((List.forall_iff_forall_mem.mp (show (ops2 : List (HloOp τ sig (Elt F))).Forall fun op => op.bufs ⊆ StableHlo.tcRefs τ sig by simp)) op h)

theorem ops2_fresh : ∀ op ∈ (ops2 : List (HloOp τ sig (Elt F))), op.fresh = ∅ := fun op h =>
  (List.forall_iff_forall_mem.mp (StableHlo.forall_fresh_of_map (ops := (ops2 : List (HloOp τ sig (Elt F)))) rfl)) op h

/-- What line 2 writes. -/
abbrev wr2 : List (Ref sig .tc) := [main_v17, main_v18]

theorem keep2 (V : Valuation τ sig (Elt F)) (r : Ref sig .tc) (h : r ∉ wr2) : StableHlo.after (ops2 (F := F)) V (Proc.devRef .tc r) = V (Proc.devRef .tc r) :=
  StableHlo.after_of_writes_sub _ V (StableHlo.forall_writes_sub_of_map (W := wr2) rfl) h

theorem main_eq (d : Dev nD) : main (F := F) d = (do
    StableHlo.seq ops0
    sc.run d 0
    StableHlo.seq ops1
    Prog.lift (.customCall (SparseCore.inner (Pipeline.entry 0)) ())
    StableHlo.seq ops2) := by
  simp only [main, ops0, ops1, ops2, StableHlo.seq, bind_assoc, pure_bind, bind_pure_comp, bind_pure]
  rfl

/-! ## The contents along @main -/

section Run

variable (m : (ℓ : Loc nD τ sig) → Buf (Elt F) ℓ)

/-- At the launch; with the index blocks made; with the slabs gathered; with the weights prepared; after the fused LSTM;
    at the end. -/
def V0 (d : Dev nD) : Valuation τ sig (Elt F) := fun b => m (d, b)
def V1 (d : Dev nD) : Valuation τ sig (Elt F) := StableHlo.after ops0 (V0 m d)
abbrev fi (d : Dev nD) : S32x50x128.Idx → Elt F .i32 := V1 m d (Proc.devRef .tc main_v1)
abbrev fe (d : Dev nD) : S100000x128.Idx → Elt F .f32 := V1 m d (Proc.devRef .tc main_arg1)
abbrev fo (d : Dev nD) : S1600x128x128.Idx → Elt F .f32 := V1 m d (Proc.devRef .tc main_v2)
def V2 (d : Dev nD) : Valuation τ sig (Elt F) := Function.update (V1 m d) (Proc.devRef .tc main_v2) (gat (fi m d) (fe m d))
def V3 (d : Dev nD) : Valuation τ sig (Elt F) := StableHlo.after ops1 (V2 m d)
def V4 (d : Dev nD) : Valuation τ sig (Elt F) := Pipeline.afterRegion (dat (V3 m) d) (V3 m d)
def V5 (d : Dev nD) : Valuation τ sig (Elt F) := StableHlo.after ops2 (V4 m d)

/-- The handshakes' payloads: the gather's buffers at their contents. -/
abbrev PP := P (F := F) (fi m) (fe m) (fo m)

/-! ## The three buffers of the gather out of the thread's -/

abbrev gRefs : Finset (DevRef τ sig) := {Proc.devRef .tc main_v1, Proc.devRef .tc main_arg1, Proc.devRef .tc main_v2}

theorem gRefs_sub : gRefs ⊆ Pipeline.ucRefs τ sig := by
  intro b hb
  simp only [gRefs, Finset.mem_insert, Finset.mem_singleton] at hb
  rcases hb with rfl | rfl | rfl <;>
    exact Finset.mem_filter.mpr ⟨StableHlo.devRef_mem_tcRefs _, by decide⟩

theorem ne_v1_arg1 : (Proc.devRef .tc main_v1 : DevRef τ sig) ≠ Proc.devRef .tc main_arg1 := StableHlo.devRef_ne_of_ne (by decide)
theorem ne_v1_v2 : (Proc.devRef .tc main_v1 : DevRef τ sig) ≠ Proc.devRef .tc main_v2 := StableHlo.devRef_ne_of_ne (by decide)
theorem ne_arg1_v2 : (Proc.devRef .tc main_arg1 : DevRef τ sig) ≠ Proc.devRef .tc main_v2 := StableHlo.devRef_ne_of_ne (by decide)

theorem held_gRefs (d : Dev nD) (V : Valuation τ sig (Elt F)) :
    (StableHlo.held (d.tc : Thread nD τ) gRefs V : sProp 𝕄)
      = iprop((iLoc d ↦{fullShare} V (Proc.devRef .tc main_v1)) ∗ (eLoc d ↦{fullShare} V (Proc.devRef .tc main_arg1)) ∗ (oLoc d ↦{fullShare} V (Proc.devRef .tc main_v2))) := by
  unfold StableHlo.held gRefs
  rw [SparseCore.bigSep_insert' (by simp only [Finset.mem_insert, Finset.mem_singleton, not_or]; exact ⟨ne_v1_arg1, ne_v1_v2⟩),
    SparseCore.bigSep_insert' (by simp only [Finset.mem_singleton]; exact ne_arg1_v2), bigSep_singleton]

theorem held_V1 (d : Dev nD) : (StableHlo.held (d.tc : Thread nD τ) (Pipeline.ucRefs τ sig) (V1 m d) : sProp 𝕄)
    = iprop(((iLoc d ↦{fullShare} fi m d) ∗ (eLoc d ↦{fullShare} fe m d) ∗ (oLoc d ↦{fullShare} fo m d))
        ∗ StableHlo.held (d.tc : Thread nD τ) (Pipeline.ucRefs τ sig \ gRefs) (V1 m d)) := by
  rw [StableHlo.held_sub_split _ gRefs_sub, held_gRefs]

theorem held_V2 (d : Dev nD) : (StableHlo.held (d.tc : Thread nD τ) (Pipeline.ucRefs τ sig) (V2 m d) : sProp 𝕄)
    = iprop(((iLoc d ↦{fullShare} fi m d) ∗ (eLoc d ↦{fullShare} fe m d) ∗ (oLoc d ↦{fullShare} (gat (fi m d) (fe m d) : Buf (Elt F) (oLoc d))))
        ∗ StableHlo.held (d.tc : Thread nD τ) (Pipeline.ucRefs τ sig \ gRefs) (V1 m d)) := by
  rw [StableHlo.held_sub_split _ gRefs_sub, held_gRefs,
    StableHlo.held_congr (d.tc : Thread nD τ) (S := Pipeline.ucRefs τ sig \ gRefs) (V := V2 m d) (V' := V1 m d)
      (fun b hb => Function.update_of_ne (fun e => (Finset.mem_sdiff.mp hb).2 (by rw [e]; simp [gRefs])) _ _)]
  unfold V2
  rw [Function.update_of_ne ne_v1_v2, Function.update_of_ne ne_arg1_v2, Function.update_self]

/-! ## What the thread owes after the call -/

/-- After the one call the thread owes nothing, and its waits are below every later level. -/
theorem tcSt_one (d : Dev nD) : ((K (F := F)).tcSt EH d 1 : sProp 𝕄)
    ⊢ iprop((∃ Wd, owes (SparseCore.T d) 0 Wd) ∗ ((∃ Wd, owes (SparseCore.T d) 0 Wd) -∗ (K (F := F)).tcSt EH d 1)) := by
  unfold SparseCore.Cfg.tcSt
  rw [(K (F := F)).Otc_end d (le_refl 1)]
  iintro ⟨⟨%Wd, %hw, Ho⟩, H⟩
  isplitl [Ho]; · iexists Wd; iexact Ho
  iintro ⟨%W', Ho⟩
  isplitl [Ho]
  · iexists W'
    isplitr
    · ipureintro
      intro p hp
      match p.2 with
      | none => exact (le_of_eq ((K (F := F)).lev_none _)).trans (Nat.zero_le _)
      | some q => exact ((K (F := F)).lev_some_le _ q).trans (by have := q.isLt; revert this; show q.val < 1 → _ ≤ 8 * 1; omega)
    iexact Ho
  iexact H

/-! ## The launch's ghost state -/

theorem phinj : Function.Injective (Pipeline.cellOf (nD := nD) (τ := τ) (Pipeline.pin (pcfgs (F := F)) adm)) := launch1.toP.cellOf_inj adm

abbrev G (d : Dev nD) : sProp 𝕄 := iprop(Pipeline.cellsGhost (Pipeline.pin (pcfgs (F := F)) adm) EP 0 d ∗ Pipeline.toksInit (Pipeline.pin (pcfgs (F := F)) adm) EP 0 d)

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  unfold u₀
  iintro Hu
  ihave H := (ownU_pair (initOf (K (F := F)).hsCells (K (F := F)).hsToks) _) $$ Hu
  icases H with ⟨HH, HR⟩
  ihave H := (own_pair_emb _ _ _) $$ HR
  icases H with ⟨HP, -⟩
  imod (Pipeline.fund_ghost (Pipeline.pin (pcfgs (F := F)) adm) EP phinj) $$ HP with ⟨Hg, Ht⟩
  imodintro
  isplitl [HH]; · iexact HH
  isplitl [Hg Ht]
  · simp only [G, bigSep_sep']
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), show (bigSep Finset.univ fun _ : Thread nD τ => (iprop(emp) : sProp 𝕄)) = iprop(emp) from bigSep_emp_const _]
  iempintro

/-! ## @main -/

abbrev FIN (d : Dev nD) : sProp 𝕄 := StableHlo.held (d.tc : Thread nD τ) (Pipeline.ucRefs τ sig) (V5 m d)

/-- The region's call, before and after the SparseCore launch's wrapping. -/
def callEntry : Prog (TpuEff nD τ sig (Elt F) (ΛP (F := F)) .tc) PUnit := Prog.op (.customCall (Pipeline.entry 0) ()) Prog.ret
theorem lift_entry : SparseCore.liftProg (callEntry (F := F)) = (Prog.lift (.customCall (SparseCore.inner (Pipeline.entry 0)) ()) : Prog (TpuEff nD τ sig (Elt F) (SparseCore.Sig (ΛP (F := F)) 1) .tc) PUnit) := rfl

/-- The region's call, seen from @main. -/
theorem region_call (d : Dev nD) (Φ : PUnit → sProp 𝕄) :
    iprop((iprop(boundary (d.tc : Thread nD τ) ∗ (StableHlo.held (d.tc : Thread nD τ) (Pipeline.ucRefs τ sig) (V4 m d) ∗ (∃ Wd, owes (d : Thread nD τ) 0 Wd))) -∗ Φ ⟨⟩)
        ∗ boundary (d.tc : Thread nD τ) ∗ (StableHlo.held (d.tc : Thread nD τ) (Pipeline.ucRefs τ sig) (V3 m d) ∗ (∃ Wd, owes (d : Thread nD τ) 0 Wd)) ∗ levAts (K (F := F)).L (K (F := F)).lev
        ∗ G (F := F) d)
      ⊢ wp frame (wpE ((K (F := F)).defs (D (F := F))) 𝒱 (SparseCore.T d) none) Set.univ (Prog.lift (.customCall (SparseCore.inner (Pipeline.entry 0)) ())) Φ := by
  rw [← lift_entry]
  refine BIBase.Entails.trans ?_ ((K (F := F)).wp_liftProg (D (F := F)) 𝒱 (SparseCore.T d) Set.univ none callEntry Φ)
  have hs := seg_wp (V3 m) d Prog.ret Φ
  rw [show Pipeline.afterRegion (pdats (V3 m) 0 d) (V3 m d) = V4 m d from rfl] at hs
  refine BIBase.Entails.trans ?_ hs
  iintro ⟨Hk, Hr⟩
  isplitl [Hk]
  · iintro H
    rw [wp_ret]
    imodintro
    iapply Hk
    iexact H
  iexact Hr

set_option backward.isDefEq.respectTransparency.types false in
/-- @main on device `d`'s TensorCore. -/
theorem hmain (ρ : Dev nD → PrngReg) (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d fun b => m ((SparseCore.T d).loc b) : sProp 𝕄) = StableHlo.held (d.tc : Thread nD τ) (Pipeline.ucRefs τ sig) (V0 m d)
    from Pipeline.unscopedBufs_held d (V0 m d)]
  iintro ⟨#Hctx, Hst, ⟨Hb, Hh, Hts, -⟩, HG⟩
  iapply (StableHlo.wp_seq 𝒱 none Set.univ d (Pipeline.ucRefs τ sig) _ ops0 ops0_sub ops0_fresh (V0 m d)) $$ [Hb Hh]
  · isplitl [Hb] <;> iassumption
  iintro ⟨Hb, Hh⟩
  ihave Hh := (show StableHlo.held (d.tc : Thread nD τ) (Pipeline.ucRefs τ sig) (StableHlo.after ops0 (V0 m d)) ⊢ _ from Entails.of_eq (held_V1 m d)) $$ Hh
  icases Hh with ⟨⟨Hi, He, Ho⟩, Hh⟩
  rw [wp_bind]
  iapply ((K (F := F)).wp_run (D (F := F)) 𝒱 (EH := EH) (P := PP m) κ d 0) $$ [Hst Hi He Ho Hb Hh Hts HG]
  isplitr; · iexact Hctx
  isplitl [Hst]; · iexact Hst
  isplitl [Hi He Ho]
  · rw [st0_eq (fi m) (fe m) (fo m)]
    isplitl [Hi]; · iexact Hi
    isplitl [He]; · iexact He
    iexact Ho
  iintro ⟨Hst, Hdn⟩
  ihave Hdn' := (Entails.of_eq (dn0_eq (fi m) (fe m) (fo m) d)) $$ Hdn
  ihave Hh := (Entails.of_eq (held_V2 m d).symm) $$ [Hdn' Hh]
  · isplitl [Hdn'] <;> iassumption
  iapply (StableHlo.wp_seq 𝒱 none Set.univ d (Pipeline.ucRefs τ sig) _ ops1 ops1_sub ops1_fresh (V2 m d)) $$ [Hb Hh]
  · isplitl [Hb] <;> iassumption
  iintro ⟨Hb, Hh⟩
  ihave Hst := (show (K (F := F)).tcSt EH d ((0 : Fin 1).val + 1) ⊢ _ from tcSt_one d) $$ Hst
  icases Hst with ⟨Ho, Hst⟩
  rw [wp_bind]
  iapply (region_call m d _)
  isplitl [Hst Hts]
  · iintro ⟨Hb, Hh, Ho⟩
    rw [← bind_pure (StableHlo.seq ops2)]
    iapply (StableHlo.wp_seq 𝒱 none Set.univ d (Pipeline.ucRefs τ sig) _ ops2 ops2_sub ops2_fresh (V4 m d)) $$ [Hb Hh]
    · isplitl [Hb] <;> iassumption
    iintro ⟨Hb, Hh⟩
    rw [wp_pure]
    imodintro
    isplitl [Hst Ho]
    · iapply Hst; iexact Ho
    isplitl [Hh]; · iexact Hh
    isplitl [Hb] <;> iassumption
  isplitl [Hb]; · iexact Hb
  isplitl [Hh Ho]
  · isplitl [Hh]; · iexact Hh
    iexact Ho
  isplitr [HG]
  · iapply ((K (F := F)).ctx_levAts κ) $$ Hctx
  iexact HG

/-! ## The end -/

def fq (d : Dev nD) (s' : Phys nD τ sig (Elt F)) : Prop := ∀ b ∈ Pipeline.ucRefs τ sig, s'.mem.mem (d, b) = V5 m d b

theorem hfin (d : Dev nD) (s' : Phys nD τ sig (Elt F)) : iprop(FIN m d ∗ SI s') ⊢ (⌜fq m d s'⌝ : sProp 𝕄) := by
  have one : ∀ b ∈ Pipeline.ucRefs τ sig, iprop(FIN m d ∗ SI s') ⊢ (⌜s'.mem.mem (d, b) = V5 m d b⌝ : sProp 𝕄) := by
    intro b hb
    have hs : (FIN m d : sProp 𝕄) ⊢ ((d, b) ↦{fullShare} V5 m d b) := bigSep_elim (Φ := fun b => ((d, b) ↦{fullShare} V5 m d b : sProp 𝕄)) hb
    iintro ⟨H, HSI⟩
    ihave Hb := hs $$ H
    ihave H := (SI_pointsTo_agree (st := s') (ℓ := (d, b)) (I := Finset.univ) (q := fullShare) (f := V5 m d b)) $$ [HSI Hb]
    · isplitl [HSI] <;> iassumption
    icases H with %h
    ipureintro; exact funext fun i => h i (Finset.mem_univ i)
  by_cases h : fq m d s'
  · iintro -
    ipureintro; exact h
  · unfold fq at h
    simp only [not_forall] at h
    obtain ⟨b, hb, hne⟩ := h
    iintro H
    ihave H := (one b hb) $$ H
    icases H with %e
    exact absurd e hne

/-- The launch: from a memory whose index blocks stay within the table, every run ends with every TensorCore buffer at the
    contents computed along @main, and every semaphore at zero. -/
theorem run_main [∀ e, Nonempty (Elt F e)] (ρ : Dev nD → PrngReg) (hfi : ∀ d, IdxOK (fi m d)) :
    θ_run (defs (F := F)) (threads (F := F)) ⟨m, fun _ => 0, ρ⟩
      (fun r => (∀ d : Dev nD, ∀ b ∈ Pipeline.ucRefs τ sig, r.2.mem (d, b) = V5 m d b) ∧ r.2.sem = fun _ => 0) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ hfi)
    (fun q _ => match q with | 0 => SparseCore.Cfg.VecSplit.of_plain (vecSplit _ _ _))
    m ρ main (fun d => G (F := F) d) (FIN m) (u₀ (F := F)) (sep_elim_left.trans (hu₀ m)) (hmain m ρ) (fq m) (hfin m) _ (fun _ h hz => ⟨h, hz⟩)

end Run

end Cert.KernelIdeal.Pf

end
-- ==== Proof.KI.Frame.lean ====
/-
  The frame of the kernel's program: every argument array ends as it was, and every counter reads zero again.
-/
module

public import proofs.«01_k».proof.Proof.InRange
public import proofs.«01_k».proof.Proof.KI.Main

@[expose] public section

set_option maxRecDepth 16384

noncomputable section

namespace Cert.KernelIdeal.Pf

open Cert.KernelIdeal Cert.KernelIdeal.Gen

open Idealize.ShloMosaic Idealize.ShloMosaic.TcCoe Idealize.ShloMosaic.StableHlo
open Idealize.SL Idealize.SL.Sem

variable {F : FTy → Type} [FloatOps F]

section Run

variable (m : (ℓ : Loc nD τ sig) → Buf (Elt F) ℓ)

/-- A buffer that no host line writes, that the gather does not write, and that is none of the region's arrays, ends as it
    was launched. -/
theorem kept (d : Dev nD) (r : Ref sig .tc) (h0 : r ∉ wr0) (h1 : r ∉ wr1) (h2 : r ∉ wr2) (hg : r ≠ main_v2)
    (hA : ∀ w, r ≠ Pipeline.arrRef spec1 w) : V5 m d (Proc.devRef .tc r) = m (d, Proc.devRef .tc r) := by
  have e4 : V4 m d (Proc.devRef .tc r) = V3 m d (Proc.devRef .tc r) :=
    Pipeline.afterRegion_of_not_arr (dat (V3 m) d) (V3 m d) hA
  have e2 : V2 m d (Proc.devRef .tc r) = V1 m d (Proc.devRef .tc r) :=
    Function.update_of_ne (fun e => hg (Proc.devRef_injective _ e)) _ _
  exact (keep2 _ r h2).trans (e4.trans ((keep1 _ r h1).trans (e2.trans (keep0 _ r h0))))

/-- The index blocks are the first argument, transposed and cut into blocks. -/
theorem fi_eq (d : Dev nD) : fi m d = shapeCast S32x50x128 (transpose S200x1024 [1, 0] (m (d, Proc.devRef .tc main_arg0) : S1024x200.Idx → Elt F .i32) transposes_S1024x200_S200x1024_1_0) shapeCasts_S200x1024_S32x50x128 := by
  unfold fi V1 V0
  after_results
  rfl

/-- Every index of the blocks is below the table's height when every index of the first argument is. -/
theorem idxOK_of (d : Dev nD) (h : ∀ i, ((m (d, Proc.devRef .tc main_arg0) : S1024x200.Idx → Elt F .i32) i).toNat < 100000) : IdxOK (fi m d) := by
  intro x
  rw [fi_eq]
  exact h _

/-- A TensorCore reference outside every scope is one of the buffers the run tells of. -/
theorem mem_uc (r : Ref sig .tc) (h : (Proc.devRef .tc r : DevRef τ sig).isScoped = false) : (Proc.devRef .tc r : DevRef τ sig) ∈ Pipeline.ucRefs τ sig :=
  Finset.mem_filter.mpr ⟨devRef_mem_tcRefs r, by rw [h]; exact Bool.false_ne_true⟩

/-- THE FRAME: from indices in range the program runs, and ends with every argument as it was and every counter at zero. -/
theorem frame_main [∀ e, Nonempty (Elt F e)] [Cert.Pre_in_range.Facts] (ρ : Dev nD → PrngReg)
    (hp : ∀ c : Dev nD, Cert.Pre_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = fun _ => 1#1) :
    θ_run (defs (F := F)) (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) := by
  refine (θ_run (defs (F := F)) (threads (F := F)) ⟨m, fun _ => 0, ρ⟩).mono (fun r hr => ?_) (run_main m ρ fun d => idxOK_of m d (Cert.Pre_in_range.Pf.lt_of_fn _ _ _ _ _ _ _ _ _ _ _ _ (hp d)))
  obtain ⟨h, hs⟩ := hr
  exact ⟨fun c => ⟨(h c _ (mem_uc main_arg0 (by decide))).trans (kept m c main_arg0 (by decide) (by decide) (by decide) (by decide) (by decide)),
      (h c _ (mem_uc main_arg1 (by decide))).trans (kept m c main_arg1 (by decide) (by decide) (by decide) (by decide) (by decide)),
      (h c _ (mem_uc main_arg2 (by decide))).trans (kept m c main_arg2 (by decide) (by decide) (by decide) (by decide) (by decide)),
      (h c _ (mem_uc main_arg3 (by decide))).trans (kept m c main_arg3 (by decide) (by decide) (by decide) (by decide) (by decide)),
      (h c _ (mem_uc main_arg4 (by decide))).trans (kept m c main_arg4 (by decide) (by decide) (by decide) (by decide) (by decide)),
      (h c _ (mem_uc main_arg5 (by decide))).trans (kept m c main_arg5 (by decide) (by decide) (by decide) (by decide) (by decide)),
      (h c _ (mem_uc main_arg6 (by decide))).trans (kept m c main_arg6 (by decide) (by decide) (by decide) (by decide) (by decide)),
      (h c _ (mem_uc main_arg7 (by decide))).trans (kept m c main_arg7 (by decide) (by decide) (by decide) (by decide) (by decide)),
      (h c _ (mem_uc main_arg8 (by decide))).trans (kept m c main_arg8 (by decide) (by decide) (by decide) (by decide) (by decide)),
      (h c _ (mem_uc main_arg9 (by decide))).trans (kept m c main_arg9 (by decide) (by decide) (by decide) (by decide) (by decide)),
      (h c _ (mem_uc main_arg10 (by decide))).trans (kept m c main_arg10 (by decide) (by decide) (by decide) (by decide) (by decide)),
      (h c _ (mem_uc main_arg11 (by decide))).trans (kept m c main_arg11 (by decide) (by decide) (by decide) (by decide) (by decide))⟩, hs⟩

end Run

end Cert.KernelIdeal.Pf

end
-- ==== Proof.RI.Ops.lean ====
/-
  The reference program as lists of host operations: the stretches before, between and after its two scans, and the
  stretches of each scan's body; each list with the buffers it writes, and the program and the bodies as their chains.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.ReferenceIdeal.Pf

open Cert.ReferenceIdeal Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The lookup of the embedding rows (`jnp.take`). -/
abbrev opsT : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1024x200, .i32⟩) (broadcastInDim S1024x200 ![] bcast_S_S1024x200),
    StableHlo.TRef.binary (.of main_arg0 : StableHlo.TRef sig ⟨S1024x200, .i32⟩) (.of main_call0_v0 : StableHlo.TRef sig ⟨S1024x200, .i32⟩) (.of main_call0_v1 : StableHlo.TRef sig ⟨S1024x200, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S1024x200, .i32⟩) (broadcastInDim S1024x200 ![] bcast_S_S1024x200),
    StableHlo.TRef.binary (.of main_arg0 : StableHlo.TRef sig ⟨S1024x200, .i32⟩) (.of main_call0_v2 : StableHlo.TRef sig ⟨S1024x200, .i32⟩) (.of main_call0_v3 : StableHlo.TRef sig ⟨S1024x200, .i32⟩) addi,
    StableHlo.TRef.ternary (.of main_call0_v1 : StableHlo.TRef sig ⟨S1024x200, .i1⟩) (.of main_call0_v3 : StableHlo.TRef sig ⟨S1024x200, .i32⟩) (.of main_arg0 : StableHlo.TRef sig ⟨S1024x200, .i32⟩) (.of main_call0_v4 : StableHlo.TRef sig ⟨S1024x200, .i32⟩) select,
    StableHlo.TRef.unary main_call0_call0.v0 (.of main_call0_v5 : StableHlo.TRef sig ⟨S1024x200x1, .i32⟩) (broadcastInDim S1024x200x1 ![0, 1] bcast_S1024x200_S1024x200x1_0_1),
    StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1024x200x1, .i32⟩) (broadcastInDim S1024x200x1 ![] bcast_S_S1024x200x1),
    StableHlo.TRef.binary (.of main_call0_v5 : StableHlo.TRef sig ⟨S1024x200x1, .i32⟩) (.of main_call0_v6 : StableHlo.TRef sig ⟨S1024x200x1, .i32⟩) (.of main_call0_v7 : StableHlo.TRef sig ⟨S1024x200x1, .i1⟩) (cmpi .sge),
    StableHlo.TRef.unary (.of main_call0_c_1 : StableHlo.TRef sig ⟨S1, .i32⟩) (.of main_call0_v8 : StableHlo.TRef sig ⟨S1x1x1, .i32⟩) (broadcastInDim S1x1x1 ![2] bcast_S1_S1x1x1_2),
    StableHlo.TRef.unary (.of main_call0_v8 : StableHlo.TRef sig ⟨S1x1x1, .i32⟩) (.of main_call0_v9 : StableHlo.TRef sig ⟨S1024x200x1, .i32⟩) (broadcastInDim S1024x200x1 ![0, 1, 2] bcast_S1x1x1_S1024x200x1_0_1_2),
    StableHlo.TRef.binary (.of main_call0_v5 : StableHlo.TRef sig ⟨S1024x200x1, .i32⟩) (.of main_call0_v9 : StableHlo.TRef sig ⟨S1024x200x1, .i32⟩) (.of main_call0_v10 : StableHlo.TRef sig ⟨S1024x200x1, .i1⟩) (cmpi .sle),
    StableHlo.TRef.binary (.of main_call0_v7 : StableHlo.TRef sig ⟨S1024x200x1, .i1⟩) (.of main_call0_v10 : StableHlo.TRef sig ⟨S1024x200x1, .i1⟩) (.of main_call0_v11 : StableHlo.TRef sig ⟨S1024x200x1, .i1⟩) andi,
    StableHlo.TRef.nullary (.of main_call0_c_3 : StableHlo.TRef sig ⟨S_, .i1⟩) (constantI S_ 1 1#1),
    StableHlo.TRef.binary (.of main_call0_v11 : StableHlo.TRef sig ⟨S1024x200x1, .i1⟩) (.of main_call0_c_3 : StableHlo.TRef sig ⟨S_, .i1⟩) (.of main_call0_v12 : StableHlo.TRef sig ⟨S1024x200, .i1⟩) (fun x v => Host.reduce IntOp.andi x v reducesTo_S1024x200x1_S1024x200_d2 h_S_),
    StableHlo.TRef.binary (.of main_arg1 : StableHlo.TRef sig ⟨S100000x128, .f32⟩) (.of main_call0_v5 : StableHlo.TRef sig ⟨S1024x200x1, .i32⟩) (.of main_call0_v13 : StableHlo.TRef sig ⟨S1024x200x128, .f32⟩) (fun x i => Host.gather gather_S100000x128_S1024x200x1_S1024x200x128_2_0_n_n_0_2_1128 x i),
    StableHlo.TRef.unary (.of main_call0_v12 : StableHlo.TRef sig ⟨S1024x200, .i1⟩) (.of main_call0_v14 : StableHlo.TRef sig ⟨S1024x200x128, .i1⟩) (broadcastInDim S1024x200x128 ![0, 1] bcast_S1024x200_S1024x200x128_0_1),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S1024x200x128, .f32⟩) (broadcastInDim S1024x200x128 ![] bcast_S_S1024x200x128),
    StableHlo.TRef.ternary (.of main_call0_v14 : StableHlo.TRef sig ⟨S1024x200x128, .i1⟩) (.of main_call0_v13 : StableHlo.TRef sig ⟨S1024x200x128, .f32⟩) (.of main_call0_v15 : StableHlo.TRef sig ⟨S1024x200x128, .f32⟩) (.of main_v0 : StableHlo.TRef sig ⟨S1024x200x128, .f32⟩) select ]

theorem opsT_sub : (opsT : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

theorem opsT_fresh : (opsT : List (HloOp τ sig (Elt F))).Forall fun op => op.fresh = ∅ :=
  StableHlo.forall_fresh_of_map rfl

/-- The buffers that `opsT` writes, in order. -/
abbrev opsTW : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]

/-- A buffer outside `opsTW` keeps its contents through `opsT`. -/
theorem opsT_keep (V : Valuation τ sig (Elt F)) (r : Ref sig .tc) (h : r ∉ opsTW) : StableHlo.after opsT V (Proc.devRef .tc r) = V (Proc.devRef .tc r) :=
  StableHlo.after_of_writes_sub _ V (StableHlo.forall_writes_sub_of_map (W := opsTW) rfl) h

/-- The first scan's inputs and its carried buffers. -/
abbrev opsA : List (HloOp τ sig (Elt F)) :=
  [ StableHlo.nullary main_cst (constant S_ .f32 0x00000000#32),
    StableHlo.unary main_cst main_v1 (broadcastInDim S1024x128 ![] bcast_S_S1024x128 : (⟨S_, .f32⟩ : BufTy).Contents (Elt F) → (⟨S1024x128, .f32⟩ : BufTy).Contents (Elt F)),
    StableHlo.nullary main_cst_0 (constant S_ .f32 0x00000000#32),
    StableHlo.unary main_cst_0 main_v2 (broadcastInDim S1024x128 ![] bcast_S_S1024x128 : (⟨S_, .f32⟩ : BufTy).Contents (Elt F) → (⟨S1024x128, .f32⟩ : BufTy).Contents (Elt F)),
    StableHlo.unary main_v0 main_v3 ((transpose S200x1024x128 [1, 0, 2] · transposes_S1024x200x128_S200x1024x128_1_0_2) : (⟨S1024x200x128, .f32⟩ : BufTy).Contents (Elt F) → (⟨S200x1024x128, .f32⟩ : BufTy).Contents (Elt F)),
    StableHlo.nullary main_cst_1 (constant S_ .f32 0x00000000#32),
    StableHlo.unary main_cst_1 main_v4 (broadcastInDim S200x1024x128 ![] bcast_S_S200x1024x128 : (⟨S_, .f32⟩ : BufTy).Contents (Elt F) → (⟨S200x1024x128, .f32⟩ : BufTy).Contents (Elt F)),
    StableHlo.nullary main_c (constantI S_ 32 0#32),
    StableHlo.unary main_v3 main_v5_0 id,
    StableHlo.unary main_arg2 main_v5_1 id,
    StableHlo.unary main_arg4 main_v5_2 id,
    StableHlo.unary main_arg3 main_v5_3 id,
    StableHlo.unary main_arg5 main_v5_4 id,
    StableHlo.unary main_c main_v5_5 id,
    StableHlo.unary main_v1 main_v5_6 id,
    StableHlo.unary main_v2 main_v5_7 id,
    StableHlo.unary main_v4 main_v5_8 id ]

theorem opsA_sub : (opsA : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem opsA_fresh : (opsA : List (HloOp τ sig (Elt F))).Forall fun op => op.fresh = ∅ :=
  StableHlo.forall_fresh_of_map rfl

/-- The buffers that `opsA` writes, in order. -/
abbrev opsAW : List (Ref sig .tc) := [main_cst, main_v1, main_cst_0, main_v2, main_v3, main_cst_1, main_v4, main_c, main_v5_0, main_v5_1, main_v5_2, main_v5_3, main_v5_4, main_v5_5, main_v5_6, main_v5_7, main_v5_8]

/-- A buffer outside `opsAW` keeps its contents through `opsA`. -/
theorem opsA_keep (V : Valuation τ sig (Elt F)) (r : Ref sig .tc) (h : r ∉ opsAW) : StableHlo.after opsA V (Proc.devRef .tc r) = V (Proc.devRef .tc r) :=
  StableHlo.after_of_writes_sub _ V (StableHlo.forall_writes_sub_of_map (W := opsAW) rfl) h

/-- The first scan's outputs turned, and the second scan's inputs and carried buffers. -/
abbrev opsB : List (HloOp τ sig (Elt F)) :=
  [ StableHlo.unary main_v5_8 main_v6 ((transpose S1024x200x128 [1, 0, 2] · transposes_S200x1024x128_S1024x200x128_1_0_2) : (⟨S200x1024x128, .f32⟩ : BufTy).Contents (Elt F) → (⟨S1024x200x128, .f32⟩ : BufTy).Contents (Elt F)),
    StableHlo.nullary main_cst_2 (constant S_ .f32 0x00000000#32),
    StableHlo.unary main_cst_2 main_v7 (broadcastInDim S1024x128 ![] bcast_S_S1024x128 : (⟨S_, .f32⟩ : BufTy).Contents (Elt F) → (⟨S1024x128, .f32⟩ : BufTy).Contents (Elt F)),
    StableHlo.nullary main_cst_3 (constant S_ .f32 0x00000000#32),
    StableHlo.unary main_cst_3 main_v8 (broadcastInDim S1024x128 ![] bcast_S_S1024x128 : (⟨S_, .f32⟩ : BufTy).Contents (Elt F) → (⟨S1024x128, .f32⟩ : BufTy).Contents (Elt F)),
    StableHlo.unary main_v6 main_v9 ((transpose S200x1024x128 [1, 0, 2] · transposes_S1024x200x128_S200x1024x128_1_0_2) : (⟨S1024x200x128, .f32⟩ : BufTy).Contents (Elt F) → (⟨S200x1024x128, .f32⟩ : BufTy).Contents (Elt F)),
    StableHlo.nullary main_cst_4 (constant S_ .f32 0x00000000#32),
    StableHlo.unary main_cst_4 main_v10 (broadcastInDim S200x1024x128 ![] bcast_S_S200x1024x128 : (⟨S_, .f32⟩ : BufTy).Contents (Elt F) → (⟨S200x1024x128, .f32⟩ : BufTy).Contents (Elt F)),
    StableHlo.nullary main_c_5 (constantI S_ 32 0#32),
    StableHlo.unary main_v9 main_v11_0 id,
    StableHlo.unary main_arg6 main_v11_1 id,
    StableHlo.unary main_arg8 main_v11_2 id,
    StableHlo.unary main_arg7 main_v11_3 id,
    StableHlo.unary main_arg9 main_v11_4 id,
    StableHlo.unary main_c_5 main_v11_5 id,
    StableHlo.unary main_v7 main_v11_6 id,
    StableHlo.unary main_v8 main_v11_7 id,
    StableHlo.unary main_v10 main_v11_8 id ]

theorem opsB_sub : (opsB : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem opsB_fresh : (opsB : List (HloOp τ sig (Elt F))).Forall fun op => op.fresh = ∅ :=
  StableHlo.forall_fresh_of_map rfl

/-- The buffers that `opsB` writes, in order. -/
abbrev opsBW : List (Ref sig .tc) := [main_v6, main_cst_2, main_v7, main_cst_3, main_v8, main_v9, main_cst_4, main_v10, main_c_5, main_v11_0, main_v11_1, main_v11_2, main_v11_3, main_v11_4, main_v11_5, main_v11_6, main_v11_7, main_v11_8]

/-- A buffer outside `opsBW` keeps its contents through `opsB`. -/
theorem opsB_keep (V : Valuation τ sig (Elt F)) (r : Ref sig .tc) (h : r ∉ opsBW) : StableHlo.after opsB V (Proc.devRef .tc r) = V (Proc.devRef .tc r) :=
  StableHlo.after_of_writes_sub _ V (StableHlo.forall_writes_sub_of_map (W := opsBW) rfl) h

/-- The last hidden state through the linear layer, the logistic and the cut of column 3. -/
abbrev opsC : List (HloOp τ sig (Elt F)) :=
  [ StableHlo.unary main_v11_8 main_v12 ((transpose S1024x200x128 [1, 0, 2] · transposes_S200x1024x128_S1024x200x128_1_0_2) : (⟨S200x1024x128, .f32⟩ : BufTy).Contents (Elt F) → (⟨S1024x200x128, .f32⟩ : BufTy).Contents (Elt F)),
    StableHlo.unary main_arg10 main_v13 ((transpose S128x4 [1, 0] · transposes_S4x128_S128x4_1_0) : (⟨S4x128, .f32⟩ : BufTy).Contents (Elt F) → (⟨S128x4, .f32⟩ : BufTy).Contents (Elt F)),
    StableHlo.binary main_v11_6 main_v13 main_v14 ((fun l r => Host.dotGeneral dot_S1024x128_S128x4_S1024x4_1_0_0_1_n_n none l r) : (⟨S1024x128, .f32⟩ : BufTy).Contents (Elt F) → (⟨S128x4, .f32⟩ : BufTy).Contents (Elt F) → (⟨S1024x4, .f32⟩ : BufTy).Contents (Elt F)),
    StableHlo.unary main_arg11 main_v15 (broadcastInDim S1x4 ![1] bcast_S4_S1x4_1 : (⟨S4, .f32⟩ : BufTy).Contents (Elt F) → (⟨S1x4, .f32⟩ : BufTy).Contents (Elt F)),
    StableHlo.unary main_v15 main_v16 (broadcastInDim S1024x4 ![0, 1] bcast_S1x4_S1024x4_0_1 : (⟨S1x4, .f32⟩ : BufTy).Contents (Elt F) → (⟨S1024x4, .f32⟩ : BufTy).Contents (Elt F)),
    StableHlo.binary main_v14 main_v16 main_v17 (addf : (⟨S1024x4, .f32⟩ : BufTy).Contents (Elt F) → (⟨S1024x4, .f32⟩ : BufTy).Contents (Elt F) → (⟨S1024x4, .f32⟩ : BufTy).Contents (Elt F)),
    StableHlo.unary main_v17 main_v18 (Host.negf : (⟨S1024x4, .f32⟩ : BufTy).Contents (Elt F) → (⟨S1024x4, .f32⟩ : BufTy).Contents (Elt F)),
    StableHlo.unary main_v18 main_v19 (Host.exp : (⟨S1024x4, .f32⟩ : BufTy).Contents (Elt F) → (⟨S1024x4, .f32⟩ : BufTy).Contents (Elt F)),
    StableHlo.nullary main_cst_6 (constant S_ .f32 0x3F800000#32),
    StableHlo.unary main_cst_6 main_v20 (broadcastInDim S1024x4 ![] bcast_S_S1024x4 : (⟨S_, .f32⟩ : BufTy).Contents (Elt F) → (⟨S1024x4, .f32⟩ : BufTy).Contents (Elt F)),
    StableHlo.binary main_v20 main_v19 main_v21 (addf : (⟨S1024x4, .f32⟩ : BufTy).Contents (Elt F) → (⟨S1024x4, .f32⟩ : BufTy).Contents (Elt F) → (⟨S1024x4, .f32⟩ : BufTy).Contents (Elt F)),
    StableHlo.nullary main_cst_7 (constant S_ .f32 0x3F800000#32),
    StableHlo.unary main_cst_7 main_v22 (broadcastInDim S1024x4 ![] bcast_S_S1024x4 : (⟨S_, .f32⟩ : BufTy).Contents (Elt F) → (⟨S1024x4, .f32⟩ : BufTy).Contents (Elt F)),
    StableHlo.binary main_v22 main_v21 main_v23 (Host.divf : (⟨S1024x4, .f32⟩ : BufTy).Contents (Elt F) → (⟨S1024x4, .f32⟩ : BufTy).Contents (Elt F) → (⟨S1024x4, .f32⟩ : BufTy).Contents (Elt F)),
    StableHlo.unary main_v23 main_v24 ((extractStridedSlice S1024x1 ![0, 3] · slices_S1024x4_S1024x1_0_3) : (⟨S1024x4, .f32⟩ : BufTy).Contents (Elt F) → (⟨S1024x1, .f32⟩ : BufTy).Contents (Elt F)),
    StableHlo.reshape main_v24 main_v25 (rfl : (.f32 : EltTy) = .f32) shapeCasts_S1024x1_S1024 ]

theorem opsC_sub : (opsC : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub ..⟩

theorem opsC_fresh : (opsC : List (HloOp τ sig (Elt F))).Forall fun op => op.fresh = ∅ :=
  StableHlo.forall_fresh_of_map rfl

/-- The buffers that `opsC` writes, in order. -/
abbrev opsCW : List (Ref sig .tc) := [main_v12, main_v13, main_v14, main_v15, main_v16, main_v17, main_v18, main_v19, main_cst_6, main_v20, main_v21, main_cst_7, main_v22, main_v23, main_v24, main_v25]

/-- A buffer outside `opsCW` keeps its contents through `opsC`. -/
theorem opsC_keep (V : Valuation τ sig (Elt F)) (r : Ref sig .tc) (h : r ∉ opsCW) : StableHlo.after opsC V (Proc.devRef .tc r) = V (Proc.devRef .tc r) :=
  StableHlo.after_of_writes_sub _ V (StableHlo.forall_writes_sub_of_map (W := opsCW) rfl) h

/-- Scan 0: the counter compared with the number of steps. -/
abbrev cnd0 : List (HloOp τ sig (Elt F)) :=
  [ StableHlo.nullary main_while0c_c_16 (constantI S_ 32 200#32),
    StableHlo.binary main_v5_5 main_while0c_c_16 main_while0c_v26 (cmpi .slt) ]

theorem cnd0_sub : (cnd0 : List (HloOp τ sig (Elt F))).Forall fun op => op.bufs ⊆ StableHlo.tcRefs τ sig :=
  ⟨StableHlo.nullary_bufs_sub .., StableHlo.binary_bufs_sub ..⟩

theorem cnd0_fresh : (cnd0 : List (HloOp τ sig (Elt F))).Forall fun op => op.fresh = ∅ :=
  StableHlo.forall_fresh_of_map rfl

/-- The buffers that `cnd0` writes, in order. -/
abbrev cnd0W : List (Ref sig .tc) := [main_while0c_c_16, main_while0c_v26]

/-- A buffer outside `cnd0W` keeps its contents through `cnd0`. -/
theorem cnd0_keep (V : Valuation τ sig (Elt F)) (r : Ref sig .tc) (h : r ∉ cnd0W) : StableHlo.after cnd0 V (Proc.devRef .tc r) = V (Proc.devRef .tc r) :=
  StableHlo.after_of_writes_sub _ V (StableHlo.forall_writes_sub_of_map (W := cnd0W) rfl) h

/-- Scan 0: the step's input cut out of the stack. -/
abbrev idx0 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.unaryIndexed (.of main_v5_0 : StableHlo.TRef sig ⟨S200x1024x128, .f32⟩) ![(.of main_v5_5 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x1024x128, .f32⟩) (fun x i => Host.dynamicSlice S1x1024x128 x (fun k => (i k (Shape.Idx.first h_S_)).toInt) sliceFits_S200x1024x128_S1x1024x128),
    StableHlo.TRef.reshape (.of main_while0b_call1_v0 : StableHlo.TRef sig ⟨S1x1024x128, .f32⟩) (.of main_while0b_v26 : StableHlo.TRef sig ⟨S1024x128, .f32⟩) (rfl : (.f32 : EltTy) = .f32) shapeCasts_S1x1024x128_S1024x128 ]

theorem idx0_sub : (idx0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

theorem idx0_fresh : (idx0 : List (HloOp τ sig (Elt F))).Forall fun op => op.fresh = ∅ :=
  StableHlo.forall_fresh_of_map rfl

/-- The buffers that `idx0` writes, in order. -/
abbrev idx0W : List (Ref sig .tc) := [main_while0b_call1_c, main_while0b_call1_c_0, main_while0b_call1_v0, main_while0b_v26]

/-- A buffer outside `idx0W` keeps its contents through `idx0`. -/
theorem idx0_keep (V : Valuation τ sig (Elt F)) (r : Ref sig .tc) (h : r ∉ idx0W) : StableHlo.after idx0 V (Proc.devRef .tc r) = V (Proc.devRef .tc r) :=
  StableHlo.after_of_writes_sub _ V (StableHlo.forall_writes_sub_of_map (W := idx0W) rfl) h

/-- Scan 0: the four gates' pre-activations. -/
abbrev gts0 : List (HloOp τ sig (Elt F)) :=
  [ StableHlo.unary main_v5_1 main_while0b_v27 ((transpose S128x512 [1, 0] · transposes_S512x128_S128x512_1_0) : (⟨S512x128, .f32⟩ : BufTy).Contents (Elt F) → (⟨S128x512, .f32⟩ : BufTy).Contents (Elt F)),
    StableHlo.binary main_while0b_v26 main_while0b_v27 main_while0b_v28 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F)),
    StableHlo.unary main_v5_2 main_while0b_v29 (broadcastInDim S1x512 ![1] bcast_S512_S1x512_1 : (⟨S512, .f32⟩ : BufTy).Contents (Elt F) → (⟨S1x512, .f32⟩ : BufTy).Contents (Elt F)),
    StableHlo.unary main_while0b_v29 main_while0b_v30 (broadcastInDim S1024x512 ![0, 1] bcast_S1x512_S1024x512_0_1 : (⟨S1x512, .f32⟩ : BufTy).Contents (Elt F) → (⟨S1024x512, .f32⟩ : BufTy).Contents (Elt F)),
    StableHlo.binary main_while0b_v28 main_while0b_v30 main_while0b_v31 (addf : (⟨S1024x512, .f32⟩ : BufTy).Contents (Elt F) → (⟨S1024x512, .f32⟩ : BufTy).Contents (Elt F) → (⟨S1024x512, .f32⟩ : BufTy).Contents (Elt F)),
    StableHlo.unary main_v5_3 main_while0b_v32 ((transpose S128x512 [1, 0] · transposes_S512x128_S128x512_1_0) : (⟨S512x128, .f32⟩ : BufTy).Contents (Elt F) → (⟨S128x512, .f32⟩ : BufTy).Contents (Elt F)),
    StableHlo.binary main_v5_6 main_while0b_v32 main_while0b_v33 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F)),
    StableHlo.binary main_while0b_v31 main_while0b_v33 main_while0b_v34 (addf : (⟨S1024x512, .f32⟩ : BufTy).Contents (Elt F) → (⟨S1024x512, .f32⟩ : BufTy).Contents (Elt F) → (⟨S1024x512, .f32⟩ : BufTy).Contents (Elt F)),
    StableHlo.unary main_v5_4 main_while0b_v35 (broadcastInDim S1x512 ![1] bcast_S512_S1x512_1 : (⟨S512, .f32⟩ : BufTy).Contents (Elt F) → (⟨S1x512, .f32⟩ : BufTy).Contents (Elt F)),
    StableHlo.unary main_while0b_v35 main_while0b_v36 (broadcastInDim S1024x512 ![0, 1] bcast_S1x512_S1024x512_0_1 : (⟨S1x512, .f32⟩ : BufTy).Contents (Elt F) → (⟨S1024x512, .f32⟩ : BufTy).Contents (Elt F)),
    StableHlo.binary main_while0b_v34 main_while0b_v36 main_while0b_v37 (addf : (⟨S1024x512, .f32⟩ : BufTy).Contents (Elt F) → (⟨S1024x512, .f32⟩ : BufTy).Contents (Elt F) → (⟨S1024x512, .f32⟩ : BufTy).Contents (Elt F)) ]

theorem gts0_sub : (gts0 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub ..⟩

theorem gts0_fresh : (gts0 : List (HloOp τ sig (Elt F))).Forall fun op => op.fresh = ∅ :=
  StableHlo.forall_fresh_of_map rfl

/-- The buffers that `gts0` writes, in order. -/
abbrev gts0W : List (Ref sig .tc) := [main_while0b_v27, main_while0b_v28, main_while0b_v29, main_while0b_v30, main_while0b_v31, main_while0b_v32, main_while0b_v33, main_while0b_v34, main_while0b_v35, main_while0b_v36, main_while0b_v37]

/-- A buffer outside `gts0W` keeps its contents through `gts0`. -/
theorem gts0_keep (V : Valuation τ sig (Elt F)) (r : Ref sig .tc) (h : r ∉ gts0W) : StableHlo.after gts0 V (Proc.devRef .tc r) = V (Proc.devRef .tc r) :=
  StableHlo.after_of_writes_sub _ V (StableHlo.forall_writes_sub_of_map (W := gts0W) rfl) h

/-- Scan 0: the cell's update. -/
abbrev cel0 : List (HloOp τ sig (Elt F)) :=
  [ StableHlo.unary main_while0b_v37 main_while0b_v38 ((extractStridedSlice S1024x128 ![0, 0] · slices_S1024x512_S1024x128_0_0) : (⟨S1024x512, .f32⟩ : BufTy).Contents (Elt F) → (⟨S1024x128, .f32⟩ : BufTy).Contents (Elt F)),
    StableHlo.unary main_while0b_v37 main_while0b_v39 ((extractStridedSlice S1024x128 ![0, 128] · slices_S1024x512_S1024x128_0_128) : (⟨S1024x512, .f32⟩ : BufTy).Contents (Elt F) → (⟨S1024x128, .f32⟩ : BufTy).Contents (Elt F)),
    StableHlo.unary main_while0b_v37 main_while0b_v40 ((extractStridedSlice S1024x128 ![0, 256] · slices_S1024x512_S1024x128_0_256) : (⟨S1024x512, .f32⟩ : BufTy).Contents (Elt F) → (⟨S1024x128, .f32⟩ : BufTy).Contents (Elt F)),
    StableHlo.unary main_while0b_v37 main_while0b_v41 ((extractStridedSlice S1024x128 ![0, 384] · slices_S1024x512_S1024x128_0_384) : (⟨S1024x512, .f32⟩ : BufTy).Contents (Elt F) → (⟨S1024x128, .f32⟩ : BufTy).Contents (Elt F)),
    StableHlo.unary main_while0b_v38 main_while0b_v42 (Host.negf : (⟨S1024x128, .f32⟩ : BufTy).Contents (Elt F) → (⟨S1024x128, .f32⟩ : BufTy).Contents (Elt F)),
    StableHlo.unary main_while0b_v42 main_while0b_v43 (Host.exp : (⟨S1024x128, .f32⟩ : BufTy).Contents (Elt F) → (⟨S1024x128, .f32⟩ : BufTy).Contents (Elt F)),
    StableHlo.nullary main_while0b_cst_16 (constant S_ .f32 0x3F800000#32),
    StableHlo.unary main_while0b_cst_16 main_while0b_v44 (broadcastInDim S1024x128 ![] bcast_S_S1024x128 : (⟨S_, .f32⟩ : BufTy).Contents (Elt F) → (⟨S1024x128, .f32⟩ : BufTy).Contents (Elt F)),
    StableHlo.binary main_while0b_v44 main_while0b_v43 main_while0b_v45 (addf : (⟨S1024x128, .f32⟩ : BufTy).Contents (Elt F) → (⟨S1024x128, .f32⟩ : BufTy).Contents (Elt F) → (⟨S1024x128, .f32⟩ : BufTy).Contents (Elt F)),
    StableHlo.nullary main_while0b_cst_17 (constant S_ .f32 0x3F800000#32),
    StableHlo.unary main_while0b_cst_17 main_while0b_v46 (broadcastInDim S1024x128 ![] bcast_S_S1024x128 : (⟨S_, .f32⟩ : BufTy).Contents (Elt F) → (⟨S1024x128, .f32⟩ : BufTy).Contents (Elt F)),
    StableHlo.binary main_while0b_v46 main_while0b_v45 main_while0b_v47 (Host.divf : (⟨S1024x128, .f32⟩ : BufTy).Contents (Elt F) → (⟨S1024x128, .f32⟩ : BufTy).Contents (Elt F) → (⟨S1024x128, .f32⟩ : BufTy).Contents (Elt F)),
    StableHlo.unary main_while0b_v39 main_while0b_v48 (Host.negf : (⟨S1024x128, .f32⟩ : BufTy).Contents (Elt F) → (⟨S1024x128, .f32⟩ : BufTy).Contents (Elt F)),
    StableHlo.unary main_while0b_v48 main_while0b_v49 (Host.exp : (⟨S1024x128, .f32⟩ : BufTy).Contents (Elt F) → (⟨S1024x128, .f32⟩ : BufTy).Contents (Elt F)),
    StableHlo.nullary main_while0b_cst_18 (constant S_ .f32 0x3F800000#32),
    StableHlo.unary main_while0b_cst_18 main_while0b_v50 (broadcastInDim S1024x128 ![] bcast_S_S1024x128 : (⟨S_, .f32⟩ : BufTy).Contents (Elt F) → (⟨S1024x128, .f32⟩ : BufTy).Contents (Elt F)),
    StableHlo.binary main_while0b_v50 main_while0b_v49 main_while0b_v51 (addf : (⟨S1024x128, .f32⟩ : BufTy).Contents (Elt F) → (⟨S1024x128, .f32⟩ : BufTy).Contents (Elt F) → (⟨S1024x128, .f32⟩ : BufTy).Contents (Elt F)),
    StableHlo.nullary main_while0b_cst_19 (constant S_ .f32 0x3F800000#32),
    StableHlo.unary main_while0b_cst_19 main_while0b_v52 (broadcastInDim S1024x128 ![] bcast_S_S1024x128 : (⟨S_, .f32⟩ : BufTy).Contents (Elt F) → (⟨S1024x128, .f32⟩ : BufTy).Contents (Elt F)),
    StableHlo.binary main_while0b_v52 main_while0b_v51 main_while0b_v53 (Host.divf : (⟨S1024x128, .f32⟩ : BufTy).Contents (Elt F) → (⟨S1024x128, .f32⟩ : BufTy).Contents (Elt F) → (⟨S1024x128, .f32⟩ : BufTy).Contents (Elt F)),
    StableHlo.unary main_while0b_v40 main_while0b_v54 (Host.tanh : (⟨S1024x128, .f32⟩ : BufTy).Contents (Elt F) → (⟨S1024x128, .f32⟩ : BufTy).Contents (Elt F)),
    StableHlo.unary main_while0b_v41 main_while0b_v55 (Host.negf : (⟨S1024x128, .f32⟩ : BufTy).Contents (Elt F) → (⟨S1024x128, .f32⟩ : BufTy).Contents (Elt F)),
    StableHlo.unary main_while0b_v55 main_while0b_v56 (Host.exp : (⟨S1024x128, .f32⟩ : BufTy).Contents (Elt F) → (⟨S1024x128, .f32⟩ : BufTy).Contents (Elt F)),
    StableHlo.nullary main_while0b_cst_20 (constant S_ .f32 0x3F800000#32),
    StableHlo.unary main_while0b_cst_20 main_while0b_v57 (broadcastInDim S1024x128 ![] bcast_S_S1024x128 : (⟨S_, .f32⟩ : BufTy).Contents (Elt F) → (⟨S1024x128, .f32⟩ : BufTy).Contents (Elt F)),
    StableHlo.binary main_while0b_v57 main_while0b_v56 main_while0b_v58 (addf : (⟨S1024x128, .f32⟩ : BufTy).Contents (Elt F) → (⟨S1024x128, .f32⟩ : BufTy).Contents (Elt F) → (⟨S1024x128, .f32⟩ : BufTy).Contents (Elt F)),
    StableHlo.nullary main_while0b_cst_21 (constant S_ .f32 0x3F800000#32),
    StableHlo.unary main_while0b_cst_21 main_while0b_v59 (broadcastInDim S1024x128 ![] bcast_S_S1024x128 : (⟨S_, .f32⟩ : BufTy).Contents (Elt F) → (⟨S1024x128, .f32⟩ : BufTy).Contents (Elt F)),
    StableHlo.binary main_while0b_v59 main_while0b_v58 main_while0b_v60 (Host.divf : (⟨S1024x128, .f32⟩ : BufTy).Contents (Elt F) → (⟨S1024x128, .f32⟩ : BufTy).Contents (Elt F) → (⟨S1024x128, .f32⟩ : BufTy).Contents (Elt F)),
    StableHlo.binary main_while0b_v53 main_v5_7 main_while0b_v61 (mulf : (⟨S1024x128, .f32⟩ : BufTy).Contents (Elt F) → (⟨S1024x128, .f32⟩ : BufTy).Contents (Elt F) → (⟨S1024x128, .f32⟩ : BufTy).Contents (Elt F)),
    StableHlo.binary main_while0b_v47 main_while0b_v54 main_while0b_v62 (mulf : (⟨S1024x128, .f32⟩ : BufTy).Contents (Elt F) → (⟨S1024x128, .f32⟩ : BufTy).Contents (Elt F) → (⟨S1024x128, .f32⟩ : BufTy).Contents (Elt F)),
    StableHlo.binary main_while0b_v61 main_while0b_v62 main_while0b_v63 (addf : (⟨S1024x128, .f32⟩ : BufTy).Contents (Elt F) → (⟨S1024x128, .f32⟩ : BufTy).Contents (Elt F) → (⟨S1024x128, .f32⟩ : BufTy).Contents (Elt F)),
    StableHlo.unary main_while0b_v63 main_while0b_v64 (Host.tanh : (⟨S1024x128, .f32⟩ : BufTy).Contents (Elt F) → (⟨S1024x128, .f32⟩ : BufTy).Contents (Elt F)),
    StableHlo.binary main_while0b_v60 main_while0b_v64 main_while0b_v65 (mulf : (⟨S1024x128, .f32⟩ : BufTy).Contents (Elt F) → (⟨S1024x128, .f32⟩ : BufTy).Contents (Elt F) → (⟨S1024x128, .f32⟩ : BufTy).Contents (Elt F)) ]

theorem cel0_sub : (cel0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩

theorem cel0_fresh : (cel0 : List (HloOp τ sig (Elt F))).Forall fun op => op.fresh = ∅ :=
  StableHlo.forall_fresh_of_map rfl

/-- The buffers that `cel0` writes, in order. -/
abbrev cel0W : List (Ref sig .tc) := [main_while0b_v38, main_while0b_v39, main_while0b_v40, main_while0b_v41, main_while0b_v42, main_while0b_v43, main_while0b_cst_16, main_while0b_v44, main_while0b_v45, main_while0b_cst_17, main_while0b_v46, main_while0b_v47, main_while0b_v48, main_while0b_v49, main_while0b_cst_18, main_while0b_v50, main_while0b_v51, main_while0b_cst_19, main_while0b_v52, main_while0b_v53, main_while0b_v54, main_while0b_v55, main_while0b_v56, main_while0b_cst_20, main_while0b_v57, main_while0b_v58, main_while0b_cst_21, main_while0b_v59, main_while0b_v60, main_while0b_v61, main_while0b_v62, main_while0b_v63, main_while0b_v64, main_while0b_v65]

/-- A buffer outside `cel0W` keeps its contents through `cel0`. -/
theorem cel0_keep (V : Valuation τ sig (Elt F)) (r : Ref sig .tc) (h : r ∉ cel0W) : StableHlo.after cel0 V (Proc.devRef .tc r) = V (Proc.devRef .tc r) :=
  StableHlo.after_of_writes_sub _ V (StableHlo.forall_writes_sub_of_map (W := cel0W) rfl) h

/-- Scan 0: the step's output put into the stack. -/
abbrev upd0 : List (HloOp τ sig (Elt F)) :=
  [ StableHlo.TRef.unary (.of main_while0b_v65 : StableHlo.TRef sig ⟨S1024x128, .f32⟩) (.of main_while0b_call2_v0 : StableHlo.TRef sig ⟨S1x1024x128, .f32⟩) (broadcastInDim S1x1024x128 ![1, 2] bcast_S1024x128_S1x1024x128_1_2),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.binaryIndexed (.of main_v5_8 : StableHlo.TRef sig ⟨S200x1024x128, .f32⟩) (.of main_while0b_call2_v0 : StableHlo.TRef sig ⟨S1x1024x128, .f32⟩) ![(.of main_v5_5 : StableHlo.TRef sig ⟨S_, .i32⟩), (.of main_while0b_call2_c : StableHlo.TRef sig ⟨S_, .i32⟩), (.of main_while0b_call2_c_0 : StableHlo.TRef sig ⟨S_, .i32⟩)] (.of main_while0b_v66 : StableHlo.TRef sig ⟨S200x1024x128, .f32⟩) (fun x u i => Host.dynamicUpdateSlice x u (fun k => (i k (Shape.Idx.first h_S_)).toInt) updateFits_S200x1024x128_S1x1024x128) ]

theorem upd0_sub : (upd0 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

theorem upd0_fresh : (upd0 : List (HloOp τ sig (Elt F))).Forall fun op => op.fresh = ∅ :=
  StableHlo.forall_fresh_of_map rfl

/-- The buffers that `upd0` writes, in order. -/
abbrev upd0W : List (Ref sig .tc) := [main_while0b_call2_v0, main_while0b_call2_c, main_while0b_call2_c_0, main_while0b_v66]

/-- A buffer outside `upd0W` keeps its contents through `upd0`. -/
theorem upd0_keep (V : Valuation τ sig (Elt F)) (r : Ref sig .tc) (h : r ∉ upd0W) : StableHlo.after upd0 V (Proc.devRef .tc r) = V (Proc.devRef .tc r) :=
  StableHlo.after_of_writes_sub _ V (StableHlo.forall_writes_sub_of_map (W := upd0W) rfl) h

/-- Scan 0: the counter one on, and the carried buffers. -/
abbrev nxt0 : List (HloOp τ sig (Elt F)) :=
  [ StableHlo.nullary main_while0b_c_22 (constantI S_ 32 1#32),
    StableHlo.binary main_v5_5 main_while0b_c_22 main_while0b_v67 (addi : (⟨S_, .i32⟩ : BufTy).Contents (Elt F) → (⟨S_, .i32⟩ : BufTy).Contents (Elt F) → (⟨S_, .i32⟩ : BufTy).Contents (Elt F)),
    StableHlo.unary main_while0b_v67 main_v5_5 id,
    StableHlo.unary main_while0b_v65 main_v5_6 id,
    StableHlo.unary main_while0b_v63 main_v5_7 id,
    StableHlo.unary main_while0b_v66 main_v5_8 id ]

theorem nxt0_sub : (nxt0 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

theorem nxt0_fresh : (nxt0 : List (HloOp τ sig (Elt F))).Forall fun op => op.fresh = ∅ :=
  StableHlo.forall_fresh_of_map rfl

/-- The buffers that `nxt0` writes, in order. -/
abbrev nxt0W : List (Ref sig .tc) := [main_while0b_c_22, main_while0b_v67, main_v5_5, main_v5_6, main_v5_7, main_v5_8]

/-- A buffer outside `nxt0W` keeps its contents through `nxt0`. -/
theorem nxt0_keep (V : Valuation τ sig (Elt F)) (r : Ref sig .tc) (h : r ∉ nxt0W) : StableHlo.after nxt0 V (Proc.devRef .tc r) = V (Proc.devRef .tc r) :=
  StableHlo.after_of_writes_sub _ V (StableHlo.forall_writes_sub_of_map (W := nxt0W) rfl) h

/-- Scan 1: the counter compared with the number of steps. -/
abbrev cnd1 : List (HloOp τ sig (Elt F)) :=
  [ StableHlo.nullary main_while1c_c_16 (constantI S_ 32 200#32),
    StableHlo.binary main_v11_5 main_while1c_c_16 main_while1c_v26 (cmpi .slt) ]

theorem cnd1_sub : (cnd1 : List (HloOp τ sig (Elt F))).Forall fun op => op.bufs ⊆ StableHlo.tcRefs τ sig :=
  ⟨StableHlo.nullary_bufs_sub .., StableHlo.binary_bufs_sub ..⟩

theorem cnd1_fresh : (cnd1 : List (HloOp τ sig (Elt F))).Forall fun op => op.fresh = ∅ :=
  StableHlo.forall_fresh_of_map rfl

/-- The buffers that `cnd1` writes, in order. -/
abbrev cnd1W : List (Ref sig .tc) := [main_while1c_c_16, main_while1c_v26]

/-- A buffer outside `cnd1W` keeps its contents through `cnd1`. -/
theorem cnd1_keep (V : Valuation τ sig (Elt F)) (r : Ref sig .tc) (h : r ∉ cnd1W) : StableHlo.after cnd1 V (Proc.devRef .tc r) = V (Proc.devRef .tc r) :=
  StableHlo.after_of_writes_sub _ V (StableHlo.forall_writes_sub_of_map (W := cnd1W) rfl) h

/-- Scan 1: the step's input cut out of the stack. -/
abbrev idx1 : List (HloOp τ sig (Elt F)) :=
  [ StableHlo.TRef.nullary (.of main_while1b_call3_c : StableHlo.TRef sig ⟨S_, .i32⟩) (constantI S_ 32 0#32),
    StableHlo.TRef.nullary (.of main_while1b_call3_c_0 : StableHlo.TRef sig ⟨S_, .i32⟩) (constantI S_ 32 0#32),
    StableHlo.TRef.unaryIndexed (.of main_v11_0 : StableHlo.TRef sig ⟨S200x1024x128, .f32⟩) ![(.of main_v11_5 : StableHlo.TRef sig ⟨S_, .i32⟩), (.of main_while1b_call3_c : StableHlo.TRef sig ⟨S_, .i32⟩), (.of main_while1b_call3_c_0 : StableHlo.TRef sig ⟨S_, .i32⟩)] (.of main_while1b_call3_v0 : StableHlo.TRef sig ⟨S1x1024x128, .f32⟩) (fun x i => Host.dynamicSlice S1x1024x128 x (fun k => (i k (Shape.Idx.first h_S_)).toInt) sliceFits_S200x1024x128_S1x1024x128),
    StableHlo.TRef.reshape (.of main_while1b_call3_v0 : StableHlo.TRef sig ⟨S1x1024x128, .f32⟩) (.of main_while1b_v26 : StableHlo.TRef sig ⟨S1024x128, .f32⟩) (rfl : (.f32 : EltTy) = .f32) shapeCasts_S1x1024x128_S1024x128 ]

theorem idx1_sub : (idx1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

theorem idx1_fresh : (idx1 : List (HloOp τ sig (Elt F))).Forall fun op => op.fresh = ∅ :=
  StableHlo.forall_fresh_of_map rfl

/-- The buffers that `idx1` writes, in order. -/
abbrev idx1W : List (Ref sig .tc) := [main_while1b_call3_c, main_while1b_call3_c_0, main_while1b_call3_v0, main_while1b_v26]

/-- A buffer outside `idx1W` keeps its contents through `idx1`. -/
theorem idx1_keep (V : Valuation τ sig (Elt F)) (r : Ref sig .tc) (h : r ∉ idx1W) : StableHlo.after idx1 V (Proc.devRef .tc r) = V (Proc.devRef .tc r) :=
  StableHlo.after_of_writes_sub _ V (StableHlo.forall_writes_sub_of_map (W := idx1W) rfl) h

/-- Scan 1: the four gates' pre-activations. -/
abbrev gts1 : List (HloOp τ sig (Elt F)) :=
  [ StableHlo.unary main_v11_1 main_while1b_v27 ((transpose S128x512 [1, 0] · transposes_S512x128_S128x512_1_0) : (⟨S512x128, .f32⟩ : BufTy).Contents (Elt F) → (⟨S128x512, .f32⟩ : BufTy).Contents (Elt F)),
    StableHlo.binary main_while1b_v26 main_while1b_v27 main_while1b_v28 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F)),
    StableHlo.unary main_v11_2 main_while1b_v29 (broadcastInDim S1x512 ![1] bcast_S512_S1x512_1 : (⟨S512, .f32⟩ : BufTy).Contents (Elt F) → (⟨S1x512, .f32⟩ : BufTy).Contents (Elt F)),
    StableHlo.unary main_while1b_v29 main_while1b_v30 (broadcastInDim S1024x512 ![0, 1] bcast_S1x512_S1024x512_0_1 : (⟨S1x512, .f32⟩ : BufTy).Contents (Elt F) → (⟨S1024x512, .f32⟩ : BufTy).Contents (Elt F)),
    StableHlo.binary main_while1b_v28 main_while1b_v30 main_while1b_v31 (addf : (⟨S1024x512, .f32⟩ : BufTy).Contents (Elt F) → (⟨S1024x512, .f32⟩ : BufTy).Contents (Elt F) → (⟨S1024x512, .f32⟩ : BufTy).Contents (Elt F)),
    StableHlo.unary main_v11_3 main_while1b_v32 ((transpose S128x512 [1, 0] · transposes_S512x128_S128x512_1_0) : (⟨S512x128, .f32⟩ : BufTy).Contents (Elt F) → (⟨S128x512, .f32⟩ : BufTy).Contents (Elt F)),
    StableHlo.binary main_v11_6 main_while1b_v32 main_while1b_v33 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F)),
    StableHlo.binary main_while1b_v31 main_while1b_v33 main_while1b_v34 (addf : (⟨S1024x512, .f32⟩ : BufTy).Contents (Elt F) → (⟨S1024x512, .f32⟩ : BufTy).Contents (Elt F) → (⟨S1024x512, .f32⟩ : BufTy).Contents (Elt F)),
    StableHlo.unary main_v11_4 main_while1b_v35 (broadcastInDim S1x512 ![1] bcast_S512_S1x512_1 : (⟨S512, .f32⟩ : BufTy).Contents (Elt F) → (⟨S1x512, .f32⟩ : BufTy).Contents (Elt F)),
    StableHlo.unary main_while1b_v35 main_while1b_v36 (broadcastInDim S1024x512 ![0, 1] bcast_S1x512_S1024x512_0_1 : (⟨S1x512, .f32⟩ : BufTy).Contents (Elt F) → (⟨S1024x512, .f32⟩ : BufTy).Contents (Elt F)),
    StableHlo.binary main_while1b_v34 main_while1b_v36 main_while1b_v37 (addf : (⟨S1024x512, .f32⟩ : BufTy).Contents (Elt F) → (⟨S1024x512, .f32⟩ : BufTy).Contents (Elt F) → (⟨S1024x512, .f32⟩ : BufTy).Contents (Elt F)) ]

theorem gts1_sub : (gts1 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub ..⟩

theorem gts1_fresh : (gts1 : List (HloOp τ sig (Elt F))).Forall fun op => op.fresh = ∅ :=
  StableHlo.forall_fresh_of_map rfl

/-- The buffers that `gts1` writes, in order. -/
abbrev gts1W : List (Ref sig .tc) := [main_while1b_v27, main_while1b_v28, main_while1b_v29, main_while1b_v30, main_while1b_v31, main_while1b_v32, main_while1b_v33, main_while1b_v34, main_while1b_v35, main_while1b_v36, main_while1b_v37]

/-- A buffer outside `gts1W` keeps its contents through `gts1`. -/
theorem gts1_keep (V : Valuation τ sig (Elt F)) (r : Ref sig .tc) (h : r ∉ gts1W) : StableHlo.after gts1 V (Proc.devRef .tc r) = V (Proc.devRef .tc r) :=
  StableHlo.after_of_writes_sub _ V (StableHlo.forall_writes_sub_of_map (W := gts1W) rfl) h

/-- Scan 1: the cell's update. -/
abbrev cel1 : List (HloOp τ sig (Elt F)) :=
  [ StableHlo.unary main_while1b_v37 main_while1b_v38 ((extractStridedSlice S1024x128 ![0, 0] · slices_S1024x512_S1024x128_0_0) : (⟨S1024x512, .f32⟩ : BufTy).Contents (Elt F) → (⟨S1024x128, .f32⟩ : BufTy).Contents (Elt F)),
    StableHlo.unary main_while1b_v37 main_while1b_v39 ((extractStridedSlice S1024x128 ![0, 128] · slices_S1024x512_S1024x128_0_128) : (⟨S1024x512, .f32⟩ : BufTy).Contents (Elt F) → (⟨S1024x128, .f32⟩ : BufTy).Contents (Elt F)),
    StableHlo.unary main_while1b_v37 main_while1b_v40 ((extractStridedSlice S1024x128 ![0, 256] · slices_S1024x512_S1024x128_0_256) : (⟨S1024x512, .f32⟩ : BufTy).Contents (Elt F) → (⟨S1024x128, .f32⟩ : BufTy).Contents (Elt F)),
    StableHlo.unary main_while1b_v37 main_while1b_v41 ((extractStridedSlice S1024x128 ![0, 384] · slices_S1024x512_S1024x128_0_384) : (⟨S1024x512, .f32⟩ : BufTy).Contents (Elt F) → (⟨S1024x128, .f32⟩ : BufTy).Contents (Elt F)),
    StableHlo.unary main_while1b_v38 main_while1b_v42 (Host.negf : (⟨S1024x128, .f32⟩ : BufTy).Contents (Elt F) → (⟨S1024x128, .f32⟩ : BufTy).Contents (Elt F)),
    StableHlo.unary main_while1b_v42 main_while1b_v43 (Host.exp : (⟨S1024x128, .f32⟩ : BufTy).Contents (Elt F) → (⟨S1024x128, .f32⟩ : BufTy).Contents (Elt F)),
    StableHlo.nullary main_while1b_cst_16 (constant S_ .f32 0x3F800000#32),
    StableHlo.unary main_while1b_cst_16 main_while1b_v44 (broadcastInDim S1024x128 ![] bcast_S_S1024x128 : (⟨S_, .f32⟩ : BufTy).Contents (Elt F) → (⟨S1024x128, .f32⟩ : BufTy).Contents (Elt F)),
    StableHlo.binary main_while1b_v44 main_while1b_v43 main_while1b_v45 (addf : (⟨S1024x128, .f32⟩ : BufTy).Contents (Elt F) → (⟨S1024x128, .f32⟩ : BufTy).Contents (Elt F) → (⟨S1024x128, .f32⟩ : BufTy).Contents (Elt F)),
    StableHlo.nullary main_while1b_cst_17 (constant S_ .f32 0x3F800000#32),
    StableHlo.unary main_while1b_cst_17 main_while1b_v46 (broadcastInDim S1024x128 ![] bcast_S_S1024x128 : (⟨S_, .f32⟩ : BufTy).Contents (Elt F) → (⟨S1024x128, .f32⟩ : BufTy).Contents (Elt F)),
    StableHlo.binary main_while1b_v46 main_while1b_v45 main_while1b_v47 (Host.divf : (⟨S1024x128, .f32⟩ : BufTy).Contents (Elt F) → (⟨S1024x128, .f32⟩ : BufTy).Contents (Elt F) → (⟨S1024x128, .f32⟩ : BufTy).Contents (Elt F)),
    StableHlo.unary main_while1b_v39 main_while1b_v48 (Host.negf : (⟨S1024x128, .f32⟩ : BufTy).Contents (Elt F) → (⟨S1024x128, .f32⟩ : BufTy).Contents (Elt F)),
    StableHlo.unary main_while1b_v48 main_while1b_v49 (Host.exp : (⟨S1024x128, .f32⟩ : BufTy).Contents (Elt F) → (⟨S1024x128, .f32⟩ : BufTy).Contents (Elt F)),
    StableHlo.nullary main_while1b_cst_18 (constant S_ .f32 0x3F800000#32),
    StableHlo.unary main_while1b_cst_18 main_while1b_v50 (broadcastInDim S1024x128 ![] bcast_S_S1024x128 : (⟨S_, .f32⟩ : BufTy).Contents (Elt F) → (⟨S1024x128, .f32⟩ : BufTy).Contents (Elt F)),
    StableHlo.binary main_while1b_v50 main_while1b_v49 main_while1b_v51 (addf : (⟨S1024x128, .f32⟩ : BufTy).Contents (Elt F) → (⟨S1024x128, .f32⟩ : BufTy).Contents (Elt F) → (⟨S1024x128, .f32⟩ : BufTy).Contents (Elt F)),
    StableHlo.nullary main_while1b_cst_19 (constant S_ .f32 0x3F800000#32),
    StableHlo.unary main_while1b_cst_19 main_while1b_v52 (broadcastInDim S1024x128 ![] bcast_S_S1024x128 : (⟨S_, .f32⟩ : BufTy).Contents (Elt F) → (⟨S1024x128, .f32⟩ : BufTy).Contents (Elt F)),
    StableHlo.binary main_while1b_v52 main_while1b_v51 main_while1b_v53 (Host.divf : (⟨S1024x128, .f32⟩ : BufTy).Contents (Elt F) → (⟨S1024x128, .f32⟩ : BufTy).Contents (Elt F) → (⟨S1024x128, .f32⟩ : BufTy).Contents (Elt F)),
    StableHlo.unary main_while1b_v40 main_while1b_v54 (Host.tanh : (⟨S1024x128, .f32⟩ : BufTy).Contents (Elt F) → (⟨S1024x128, .f32⟩ : BufTy).Contents (Elt F)),
    StableHlo.unary main_while1b_v41 main_while1b_v55 (Host.negf : (⟨S1024x128, .f32⟩ : BufTy).Contents (Elt F) → (⟨S1024x128, .f32⟩ : BufTy).Contents (Elt F)),
    StableHlo.unary main_while1b_v55 main_while1b_v56 (Host.exp : (⟨S1024x128, .f32⟩ : BufTy).Contents (Elt F) → (⟨S1024x128, .f32⟩ : BufTy).Contents (Elt F)),
    StableHlo.nullary main_while1b_cst_20 (constant S_ .f32 0x3F800000#32),
    StableHlo.unary main_while1b_cst_20 main_while1b_v57 (broadcastInDim S1024x128 ![] bcast_S_S1024x128 : (⟨S_, .f32⟩ : BufTy).Contents (Elt F) → (⟨S1024x128, .f32⟩ : BufTy).Contents (Elt F)),
    StableHlo.binary main_while1b_v57 main_while1b_v56 main_while1b_v58 (addf : (⟨S1024x128, .f32⟩ : BufTy).Contents (Elt F) → (⟨S1024x128, .f32⟩ : BufTy).Contents (Elt F) → (⟨S1024x128, .f32⟩ : BufTy).Contents (Elt F)),
    StableHlo.nullary main_while1b_cst_21 (constant S_ .f32 0x3F800000#32),
    StableHlo.unary main_while1b_cst_21 main_while1b_v59 (broadcastInDim S1024x128 ![] bcast_S_S1024x128 : (⟨S_, .f32⟩ : BufTy).Contents (Elt F) → (⟨S1024x128, .f32⟩ : BufTy).Contents (Elt F)),
    StableHlo.binary main_while1b_v59 main_while1b_v58 main_while1b_v60 (Host.divf : (⟨S1024x128, .f32⟩ : BufTy).Contents (Elt F) → (⟨S1024x128, .f32⟩ : BufTy).Contents (Elt F) → (⟨S1024x128, .f32⟩ : BufTy).Contents (Elt F)),
    StableHlo.binary main_while1b_v53 main_v11_7 main_while1b_v61 (mulf : (⟨S1024x128, .f32⟩ : BufTy).Contents (Elt F) → (⟨S1024x128, .f32⟩ : BufTy).Contents (Elt F) → (⟨S1024x128, .f32⟩ : BufTy).Contents (Elt F)),
    StableHlo.binary main_while1b_v47 main_while1b_v54 main_while1b_v62 (mulf : (⟨S1024x128, .f32⟩ : BufTy).Contents (Elt F) → (⟨S1024x128, .f32⟩ : BufTy).Contents (Elt F) → (⟨S1024x128, .f32⟩ : BufTy).Contents (Elt F)),
    StableHlo.binary main_while1b_v61 main_while1b_v62 main_while1b_v63 (addf : (⟨S1024x128, .f32⟩ : BufTy).Contents (Elt F) → (⟨S1024x128, .f32⟩ : BufTy).Contents (Elt F) → (⟨S1024x128, .f32⟩ : BufTy).Contents (Elt F)),
    StableHlo.unary main_while1b_v63 main_while1b_v64 (Host.tanh : (⟨S1024x128, .f32⟩ : BufTy).Contents (Elt F) → (⟨S1024x128, .f32⟩ : BufTy).Contents (Elt F)),
    StableHlo.binary main_while1b_v60 main_while1b_v64 main_while1b_v65 (mulf : (⟨S1024x128, .f32⟩ : BufTy).Contents (Elt F) → (⟨S1024x128, .f32⟩ : BufTy).Contents (Elt F) → (⟨S1024x128, .f32⟩ : BufTy).Contents (Elt F)) ]

theorem cel1_sub : (cel1 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩

theorem cel1_fresh : (cel1 : List (HloOp τ sig (Elt F))).Forall fun op => op.fresh = ∅ :=
  StableHlo.forall_fresh_of_map rfl

/-- The buffers that `cel1` writes, in order. -/
abbrev cel1W : List (Ref sig .tc) := [main_while1b_v38, main_while1b_v39, main_while1b_v40, main_while1b_v41, main_while1b_v42, main_while1b_v43, main_while1b_cst_16, main_while1b_v44, main_while1b_v45, main_while1b_cst_17, main_while1b_v46, main_while1b_v47, main_while1b_v48, main_while1b_v49, main_while1b_cst_18, main_while1b_v50, main_while1b_v51, main_while1b_cst_19, main_while1b_v52, main_while1b_v53, main_while1b_v54, main_while1b_v55, main_while1b_v56, main_while1b_cst_20, main_while1b_v57, main_while1b_v58, main_while1b_cst_21, main_while1b_v59, main_while1b_v60, main_while1b_v61, main_while1b_v62, main_while1b_v63, main_while1b_v64, main_while1b_v65]

/-- A buffer outside `cel1W` keeps its contents through `cel1`. -/
theorem cel1_keep (V : Valuation τ sig (Elt F)) (r : Ref sig .tc) (h : r ∉ cel1W) : StableHlo.after cel1 V (Proc.devRef .tc r) = V (Proc.devRef .tc r) :=
  StableHlo.after_of_writes_sub _ V (StableHlo.forall_writes_sub_of_map (W := cel1W) rfl) h

/-- Scan 1: the step's output put into the stack. -/
abbrev upd1 : List (HloOp τ sig (Elt F)) :=
  [ StableHlo.TRef.unary (.of main_while1b_v65 : StableHlo.TRef sig ⟨S1024x128, .f32⟩) (.of main_while1b_call4_v0 : StableHlo.TRef sig ⟨S1x1024x128, .f32⟩) (broadcastInDim S1x1024x128 ![1, 2] bcast_S1024x128_S1x1024x128_1_2),
    StableHlo.TRef.nullary (.of main_while1b_call4_c : StableHlo.TRef sig ⟨S_, .i32⟩) (constantI S_ 32 0#32),
    StableHlo.TRef.nullary (.of main_while1b_call4_c_0 : StableHlo.TRef sig ⟨S_, .i32⟩) (constantI S_ 32 0#32),
    StableHlo.TRef.binaryIndexed (.of main_v11_8 : StableHlo.TRef sig ⟨S200x1024x128, .f32⟩) (.of main_while1b_call4_v0 : StableHlo.TRef sig ⟨S1x1024x128, .f32⟩) ![(.of main_v11_5 : StableHlo.TRef sig ⟨S_, .i32⟩), (.of main_while1b_call4_c : StableHlo.TRef sig ⟨S_, .i32⟩), (.of main_while1b_call4_c_0 : StableHlo.TRef sig ⟨S_, .i32⟩)] (.of main_while1b_v66 : StableHlo.TRef sig ⟨S200x1024x128, .f32⟩) (fun x u i => Host.dynamicUpdateSlice x u (fun k => (i k (Shape.Idx.first h_S_)).toInt) updateFits_S200x1024x128_S1x1024x128) ]

theorem upd1_sub : (upd1 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

theorem upd1_fresh : (upd1 : List (HloOp τ sig (Elt F))).Forall fun op => op.fresh = ∅ :=
  StableHlo.forall_fresh_of_map rfl

/-- The buffers that `upd1` writes, in order. -/
abbrev upd1W : List (Ref sig .tc) := [main_while1b_call4_v0, main_while1b_call4_c, main_while1b_call4_c_0, main_while1b_v66]

/-- A buffer outside `upd1W` keeps its contents through `upd1`. -/
theorem upd1_keep (V : Valuation τ sig (Elt F)) (r : Ref sig .tc) (h : r ∉ upd1W) : StableHlo.after upd1 V (Proc.devRef .tc r) = V (Proc.devRef .tc r) :=
  StableHlo.after_of_writes_sub _ V (StableHlo.forall_writes_sub_of_map (W := upd1W) rfl) h

/-- Scan 1: the counter one on, and the carried buffers. -/
abbrev nxt1 : List (HloOp τ sig (Elt F)) :=
  [ StableHlo.nullary main_while1b_c_22 (constantI S_ 32 1#32),
    StableHlo.binary main_v11_5 main_while1b_c_22 main_while1b_v67 (addi : (⟨S_, .i32⟩ : BufTy).Contents (Elt F) → (⟨S_, .i32⟩ : BufTy).Contents (Elt F) → (⟨S_, .i32⟩ : BufTy).Contents (Elt F)),
    StableHlo.unary main_while1b_v67 main_v11_5 id,
    StableHlo.unary main_while1b_v65 main_v11_6 id,
    StableHlo.unary main_while1b_v63 main_v11_7 id,
    StableHlo.unary main_while1b_v66 main_v11_8 id ]

theorem nxt1_sub : (nxt1 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

theorem nxt1_fresh : (nxt1 : List (HloOp τ sig (Elt F))).Forall fun op => op.fresh = ∅ :=
  StableHlo.forall_fresh_of_map rfl

/-- The buffers that `nxt1` writes, in order. -/
abbrev nxt1W : List (Ref sig .tc) := [main_while1b_c_22, main_while1b_v67, main_v11_5, main_v11_6, main_v11_7, main_v11_8]

/-- A buffer outside `nxt1W` keeps its contents through `nxt1`. -/
theorem nxt1_keep (V : Valuation τ sig (Elt F)) (r : Ref sig .tc) (h : r ∉ nxt1W) : StableHlo.after nxt1 V (Proc.devRef .tc r) = V (Proc.devRef .tc r) :=
  StableHlo.after_of_writes_sub _ V (StableHlo.forall_writes_sub_of_map (W := nxt1W) rfl) h

/-- The program is the chain of its stretches and its two scans. -/
theorem main_chain (c : Dev nD) : main (F := F) c = (Pipeline.chain
  [ StableHlo.seq opsT, StableHlo.seq opsA, HostLoop.enter 0, StableHlo.seq opsB, HostLoop.enter 1, StableHlo.seq opsC ] : Prog (TpuEff nD τ sig (Elt F) (HostLoop.Sig (Pipeline.Sig Λ₀ (Fin 0) fun p => (pcfgs (F := F) p).Adm) 2) .tc) PUnit) := by
  rewrite [Pipeline.chain_cons, StableHlo.chain_seq_cons, Pipeline.chain_cons, StableHlo.chain_seq_cons, Pipeline.chain_cons, StableHlo.chain_seq_cons]
  chain_rfl

/-- Scan 0's body is the chain of its stretches. -/
theorem body0_chain : main_while0_body (F := F) = (Pipeline.chain
  [ StableHlo.seq idx0, StableHlo.seq gts0, StableHlo.seq cel0, StableHlo.seq upd0, StableHlo.seq nxt0 ] : Prog (TpuEff nD τ sig (Elt F) (HostLoop.Sig (Pipeline.Sig Λ₀ (Fin 0) fun p => (pcfgs (F := F) p).Adm) 2) .tc) PUnit) := by
  rewrite [Pipeline.chain_cons, StableHlo.chain_seq_cons, StableHlo.chain_seq_cons, Pipeline.chain_cons, StableHlo.chain_seq_cons]
  chain_rfl

/-- Scan 1's body is the chain of its stretches. -/
theorem body1_chain : main_while1_body (F := F) = (Pipeline.chain
  [ StableHlo.seq idx1, StableHlo.seq gts1, StableHlo.seq cel1, StableHlo.seq upd1, StableHlo.seq nxt1 ] : Prog (TpuEff nD τ sig (Elt F) (HostLoop.Sig (Pipeline.Sig Λ₀ (Fin 0) fun p => (pcfgs (F := F) p).Adm) 2) .tc) PUnit) := by
  rewrite [Pipeline.chain_cons, StableHlo.chain_seq_cons, StableHlo.chain_seq_cons, Pipeline.chain_cons, StableHlo.chain_seq_cons]
  chain_rfl

end Cert.ReferenceIdeal.Pf

end
-- ==== Proof.RI.Run.lean ====
/-
  The run of the reference program: its stretches of host operations and its two scans, each of 200 trips, one after
  another; every buffer's final contents as the fold of these.
-/
module

public import proofs.«01_k».proof.Proof.RI.Ops
public import Idealize.ShloMosaic.Lib.Quiescent

@[expose] public section

set_option maxRecDepth 16384

noncomputable section

namespace Cert.ReferenceIdeal.Pf

open Cert.ReferenceIdeal Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs Ticket CSeg)
open Idealize.ShloMosaic.Rounds

variable {F : FTy → Type} [FloatOps F]

local notation "𝕄" => MT nD τ sig Unit (Elt F) ℕ (Option PUnit) ℕ

/-! ## The stretches -/

abbrev preI : List (List (HloOp τ sig (Elt F))) := [opsT, opsA]
abbrev midI : List (List (HloOp τ sig (Elt F))) := [opsB]
abbrev postI : List (List (HloOp τ sig (Elt F))) := [opsC]
abbrev body0 : List (List (HloOp τ sig (Elt F))) := [idx0, gts0, cel0, upd0, nxt0]
abbrev body1 : List (List (HloOp τ sig (Elt F))) := [idx1, gts1, cel1, upd1, nxt1]

theorem preI_plain : Plain (preI (F := F)) := .cons opsT_sub (hf := List.forall_iff_forall_mem.mp opsT_fresh) (.cons opsA_sub (hf := List.forall_iff_forall_mem.mp opsA_fresh) .nil)
theorem midI_plain : Plain (midI (F := F)) := .cons opsB_sub (hf := List.forall_iff_forall_mem.mp opsB_fresh) .nil
theorem postI_plain : Plain (postI (F := F)) := .cons opsC_sub (hf := List.forall_iff_forall_mem.mp opsC_fresh) .nil
theorem body0_plain : Plain (body0 (F := F)) :=
  .cons idx0_sub (hf := List.forall_iff_forall_mem.mp idx0_fresh) (.cons gts0_sub (hf := List.forall_iff_forall_mem.mp gts0_fresh) (.cons cel0_sub (hf := List.forall_iff_forall_mem.mp cel0_fresh)
    (.cons upd0_sub (hf := List.forall_iff_forall_mem.mp upd0_fresh) (.cons nxt0_sub (hf := List.forall_iff_forall_mem.mp nxt0_fresh) .nil))))
theorem body1_plain : Plain (body1 (F := F)) :=
  .cons idx1_sub (hf := List.forall_iff_forall_mem.mp idx1_fresh) (.cons gts1_sub (hf := List.forall_iff_forall_mem.mp gts1_fresh) (.cons cel1_sub (hf := List.forall_iff_forall_mem.mp cel1_fresh)
    (.cons upd1_sub (hf := List.forall_iff_forall_mem.mp upd1_fresh) (.cons nxt1_sub (hf := List.forall_iff_forall_mem.mp nxt1_fresh) .nil))))

/-! ## The launch's data: no pipeline, no ticket, no level -/

abbrev adm : (p : Fin 0) → ((pcfgs (F := F)) p).Adm := fun p => p.elim0
abbrev tk : Fin 0 → Ticket (Ix := Unit) (Name := ℕ) (U := Option PUnit) (Lvl := ℕ) (nD := nD) (τ := τ) (pcfgs (F := F)) adm := fun j => j.elim0
abbrev Lz : GSem nD τ sig → Finset Unit := fun _ => ∅
abbrev lz : GSem nD τ sig → Unit → ℕ := fun _ _ => 0

theorem cell_inj : Function.Injective (Pipeline.cellOf (nD := nD) (τ := τ) (Pipeline.pin (pcfgs (F := F)) adm)) := fun k => k.1.elim0

/-- What goes along unchanged beside the buffers: the core owes nothing. -/
abbrev Rw (c : Dev nD) : sProp 𝕄 := iprop(∃ W, owes (c : Thread nD τ) (0 : CellTallies nD τ sig Unit) W)

/-! ## Scan 0's condition -/

/-- Scan 0's body moves the counter one on. -/
theorem ctr0_step (X : Valuation τ sig (Elt F)) : after nxt0 X (Proc.devRef .tc main_v5_5) = addi (X (Proc.devRef .tc main_v5_5)) (constantI S_ 32 1#32) := by
  after_results
  rfl

/-- Before the condition's run `k` the counter reads `k`, when it enters at 0. -/
theorem ctr0_at (W₀ : Dev nD → Valuation τ sig (Elt F)) (c : Dev nD) (h0 : W₀ c (Proc.devRef .tc main_v5_5) = fun _ => (0#32 : BitVec 32)) :
    ∀ k, atTrip cnd0 body0 W₀ k c (Proc.devRef .tc main_v5_5) = fun _ => Scf.iv 0#32 1#32 k
  | 0 => by rw [atTrip_zero, h0, Scf.iv_zero]
  | k + 1 => by
    rw [atTrip_succ]
    simp only [afterL_cons, afterL_nil]
    rw [ctr0_step, upd0_keep _ _ (by decide), cel0_keep _ _ (by decide), gts0_keep _ _ (by decide), idx0_keep _ _ (by decide), cnd0_keep _ _ (by decide),
      ctr0_at W₀ c h0 k, Scf.iv_succ]
    rfl

set_option backward.isDefEq.respectTransparency.types false in
/-- Scan 0's condition holds exactly in the first 200 runs, and changes only its own two buffers. -/
theorem cond0 (W₀ : Dev nD → Valuation τ sig (Elt F)) (h0 : ∀ c, W₀ c (Proc.devRef .tc main_v5_5) = fun _ => (0#32 : BitVec 32)) :
    LoopCond (pcfgs (F := F)) defs₀ Variants.none loops (Rw (F := F)) (main_while0_cond (F := F)) cnd0 body0 W₀ 200 := by
  intro k hk c bd
  have hctr := ctr0_at W₀ c (h0 c) k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cnd0 body0 W₀ k c) main_v5_5 HostLoop.idx0)
        (HloOp.result _ (atTrip cnd0 body0 W₀ k c) main_while0c_c_16 HostLoop.idx0) = 1#1) (k < 200)
    rw [nullary_result_ne _ _ _ _ (by decide), nullary_result, hctr]
    exact Scf.cmpi_slt_iv_ub_iff (lb := 0#32) (ub := 200#32) (st := 1#32) (by decide) (show k ≤ Scf.trips 0#32 200#32 1#32 from hk)
  isplitl [Hb]; · iexact Hb
  isplitl [Hh]
  · rw [after_cons, after_cons, after_nil]; iexact Hh
  iexact HR

/-! ## Scan 1's condition -/

/-- Scan 1's body moves the counter one on. -/
theorem ctr1_step (X : Valuation τ sig (Elt F)) : after nxt1 X (Proc.devRef .tc main_v11_5) = addi (X (Proc.devRef .tc main_v11_5)) (constantI S_ 32 1#32) := by
  after_results
  rfl

/-- Before the condition's run `k` the counter reads `k`, when it enters at 0. -/
theorem ctr1_at (W₀ : Dev nD → Valuation τ sig (Elt F)) (c : Dev nD) (h0 : W₀ c (Proc.devRef .tc main_v11_5) = fun _ => (0#32 : BitVec 32)) :
    ∀ k, atTrip cnd1 body1 W₀ k c (Proc.devRef .tc main_v11_5) = fun _ => Scf.iv 0#32 1#32 k
  | 0 => by rw [atTrip_zero, h0, Scf.iv_zero]
  | k + 1 => by
    rw [atTrip_succ]
    simp only [afterL_cons, afterL_nil]
    rw [ctr1_step, upd1_keep _ _ (by decide), cel1_keep _ _ (by decide), gts1_keep _ _ (by decide), idx1_keep _ _ (by decide), cnd1_keep _ _ (by decide),
      ctr1_at W₀ c h0 k, Scf.iv_succ]
    rfl

set_option backward.isDefEq.respectTransparency.types false in
/-- Scan 1's condition holds exactly in the first 200 runs, and changes only its own two buffers. -/
theorem cond1 (W₀ : Dev nD → Valuation τ sig (Elt F)) (h0 : ∀ c, W₀ c (Proc.devRef .tc main_v11_5) = fun _ => (0#32 : BitVec 32)) :
    LoopCond (pcfgs (F := F)) defs₀ Variants.none loops (Rw (F := F)) (main_while1_cond (F := F)) cnd1 body1 W₀ 200 := by
  intro k hk c bd
  have hctr := ctr1_at W₀ c (h0 c) k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cnd1 body1 W₀ k c) main_v11_5 HostLoop.idx0)
        (HloOp.result _ (atTrip cnd1 body1 W₀ k c) main_while1c_c_16 HostLoop.idx0) = 1#1) (k < 200)
    rw [nullary_result_ne _ _ _ _ (by decide), nullary_result, hctr]
    exact Scf.cmpi_slt_iv_ub_iff (lb := 0#32) (ub := 200#32) (st := 1#32) (by decide) (show k ≤ Scf.trips 0#32 200#32 1#32 from hk)
  isplitl [Hb]; · iexact Hb
  isplitl [Hh]
  · rw [after_cons, after_cons, after_nil]; iexact Hh
  iexact HR

/-! ## The contents along the program -/

variable (m : (ℓ : Loc nD τ sig) → Buf (Elt F) ℓ) (ρ : Dev nD → PrngReg)

/-- At the first scan's entry; at its exit; at the second scan's entry; at its exit; at the end. -/
abbrev W0 (c : Dev nD) : Valuation τ sig (Elt F) := afterL preI (launchContents m c)
abbrev E0 (c : Dev nD) : Valuation τ sig (Elt F) := after cnd0 (atTrip cnd0 body0 (W0 m) 200 c)
abbrev W1 (c : Dev nD) : Valuation τ sig (Elt F) := afterL midI (E0 m c)
abbrev E1 (c : Dev nD) : Valuation τ sig (Elt F) := after cnd1 (atTrip cnd1 body1 (W1 m) 200 c)
abbrev Wf (c : Dev nD) : Valuation τ sig (Elt F) := afterL postI (E1 m c)

theorem opsA_ctr (V : Valuation τ sig (Elt F)) : after opsA V (Proc.devRef .tc main_v5_5) = fun _ => (0#32 : BitVec 32) := by
  after_reads_simp
  rfl

theorem opsB_ctr (V : Valuation τ sig (Elt F)) : after opsB V (Proc.devRef .tc main_v11_5) = fun _ => (0#32 : BitVec 32) := by
  after_reads_simp
  rfl

theorem c0 : LoopCond (pcfgs (F := F)) defs₀ Variants.none loops (Rw (F := F)) (main_while0_cond (F := F)) cnd0 body0 (W0 m) 200 := cond0 (W0 m) fun c => by simp only [W0, afterL_cons, afterL_nil]; exact opsA_ctr _
theorem c1 : LoopCond (pcfgs (F := F)) defs₀ Variants.none loops (Rw (F := F)) (main_while1_cond (F := F)) cnd1 body1 (W1 m) 200 := cond1 (W1 m) fun c => by simp only [W1, afterL_cons, afterL_nil]; exact opsB_ctr _

/-- The program's segments. -/
def segs : List (CSeg (pcfgs (F := F)) adm defs₀ Variants.none Lz lz loops tk) :=
  segsOf _ _ _ _ _ _ _ _ Rw preI preI_plain (launchContents m)
    ++ loopSeg _ _ _ _ _ _ _ _ 0 main_while0_cond main_while0_body rfl cnd0 body0 body0_plain (by rw [body0_chain]; rfl) 200 (W0 m) Rw (c0 m)
      :: (segsOf _ _ _ _ _ _ _ _ Rw midI midI_plain (E0 m)
        ++ loopSeg _ _ _ _ _ _ _ _ 1 main_while1_cond main_while1_body rfl cnd1 body1 body1_plain (by rw [body1_chain]; rfl) 200 (W1 m) Rw (c1 m)
          :: segsOf _ _ _ _ _ _ _ _ Rw postI postI_plain (E1 m))

theorem segs_prog (c : Dev nD) : main (F := F) c = Pipeline.chain ((segs m).map CSeg.prog) := by
  unfold segs
  rw [List.map_append, List.map_cons, List.map_append, List.map_cons, segsOf_prog, segsOf_prog, segsOf_prog, main_chain]
  rfl

theorem segs_chains : CSeg.Chains (fun c => iprop(held (c : Thread nD τ) (ucRefs τ sig) (launchContents m c) ∗ Rw c)) (segs m)
    (fun c => iprop(iprop(held (c : Thread nD τ) (ucRefs τ sig) (Wf m c)) ∗ Rw c)) := by
  unfold segs
  refine CSeg.Chains.append (segsOf_chains _ _ _ _ _ _ _ _ Rw preI preI_plain _) ⟨fun _ => .rfl, ?_⟩
  exact CSeg.Chains.append (segsOf_chains _ _ _ _ _ _ _ _ Rw midI midI_plain _) ⟨fun _ => .rfl, segsOf_chains _ _ _ _ _ _ _ _ Rw postI postI_plain _⟩

/-- THE RUN: from any memory with zero counters the reference terminates with every TensorCore buffer outside the scopes at
    the fold of its stretches and scans. -/
theorem run [∀ e, Nonempty (Elt F e)] : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = Wf m c (Proc.devRef .tc b)) :=
  Pipeline.θ_run_regions_loop_kit (Ix := Unit) (Name := ℕ) (U := Option PUnit) (Lvl := ℕ) (J := Fin 0) (P := Fin 0) (Val := Elt F)
    (pcfgs (F := F)) adm cell_inj defs₀ Variants.none Lz lz loops tk m ρ main (segs m)
    (fun c Q => by rw [segs_prog m c]; rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (Wf m c)))
    (hch := segs_chains m)
    (hinit := by
      refine Pipeline.initEach Lz lz fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Wf m c b)
    (hfin := fun c s' => by
      unfold held
      iintro ⟨Hh, HSI⟩
      ihave Hr := (pointsTo_read_all (ucRefs τ sig) (fun b => ((c : Dev nD), b)) (fun b => Wf m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-! ## What the program leaves alone -/

/-- A buffer that no stretch of scan 0 writes keeps its contents through the trips. -/
theorem trips0_keep (W₀ : Dev nD → Valuation τ sig (Elt F)) (c : Dev nD) (r : Ref sig .tc) (hc : r ∉ cnd0W) (hi : r ∉ idx0W) (hg : r ∉ gts0W) (hl : r ∉ cel0W) (hu : r ∉ upd0W) (hn : r ∉ nxt0W) :
    ∀ k, atTrip cnd0 body0 W₀ k c (Proc.devRef .tc r) = W₀ c (Proc.devRef .tc r)
  | 0 => by rw [atTrip_zero]
  | k + 1 => by
    rw [atTrip_succ]
    simp only [afterL_cons, afterL_nil]
    rw [nxt0_keep _ _ hn, upd0_keep _ _ hu, cel0_keep _ _ hl, gts0_keep _ _ hg, idx0_keep _ _ hi, cnd0_keep _ _ hc, trips0_keep W₀ c r hc hi hg hl hu hn k]

/-- A buffer that no stretch of scan 1 writes keeps its contents through the trips. -/
theorem trips1_keep (W₀ : Dev nD → Valuation τ sig (Elt F)) (c : Dev nD) (r : Ref sig .tc) (hc : r ∉ cnd1W) (hi : r ∉ idx1W) (hg : r ∉ gts1W) (hl : r ∉ cel1W) (hu : r ∉ upd1W) (hn : r ∉ nxt1W) :
    ∀ k, atTrip cnd1 body1 W₀ k c (Proc.devRef .tc r) = W₀ c (Proc.devRef .tc r)
  | 0 => by rw [atTrip_zero]
  | k + 1 => by
    rw [atTrip_succ]
    simp only [afterL_cons, afterL_nil]
    rw [nxt1_keep _ _ hn, upd1_keep _ _ hu, cel1_keep _ _ hl, gts1_keep _ _ hg, idx1_keep _ _ hi, cnd1_keep _ _ hc, trips1_keep W₀ c r hc hi hg hl hu hn k]

/-- A buffer that no stretch before the second scan's entry writes keeps its launch contents until then. -/
theorem W1_keep (c : Dev nD) (r : Ref sig .tc) (hT : r ∉ opsTW) (hA : r ∉ opsAW) (hc : r ∉ cnd0W) (hi : r ∉ idx0W) (hg : r ∉ gts0W) (hl : r ∉ cel0W) (hu : r ∉ upd0W) (hn : r ∉ nxt0W)
    (hB : r ∉ opsBW) : W1 m c (Proc.devRef .tc r) = m (c, Proc.devRef .tc r) := by
  show after opsB _ _ = _
  rw [opsB_keep _ _ hB]
  show after cnd0 _ _ = _
  rw [cnd0_keep _ _ hc, trips0_keep _ c r hc hi hg hl hu hn]
  show after opsA _ _ = _
  rw [opsA_keep _ _ hA, opsT_keep _ _ hT]

/-- An argument ends as it was launched. -/
theorem kept (c : Dev nD) (r : Ref sig .tc) (hT : r ∉ opsTW) (hA : r ∉ opsAW) (hc : r ∉ cnd0W) (hi : r ∉ idx0W) (hg : r ∉ gts0W) (hl : r ∉ cel0W) (hu : r ∉ upd0W) (hn : r ∉ nxt0W)
    (hB : r ∉ opsBW) (hc1 : r ∉ cnd1W) (hi1 : r ∉ idx1W) (hg1 : r ∉ gts1W) (hl1 : r ∉ cel1W) (hu1 : r ∉ upd1W) (hn1 : r ∉ nxt1W) (hC : r ∉ opsCW) : Wf m c (Proc.devRef .tc r) = m (c, Proc.devRef .tc r) := by
  show after opsC _ _ = _
  rw [opsC_keep _ _ hC]
  show after cnd1 _ _ = _
  rw [cnd1_keep _ _ hc1, trips1_keep _ c r hc1 hi1 hg1 hl1 hu1 hn1, W1_keep m c r hT hA hc hi hg hl hu hn hB]

/-- THE FRAME, with the result: the reference runs, and ends with its result at the fold and every argument as it was. -/
theorem frame_main [∀ e, Nonempty (Elt F e)] : θ_run (defs (F := F)) (onTc (τ := τ) (main (F := F))) ⟨m, fun _ => 0, ρ⟩ (fun r => (∀ c : Dev nD,
      r.2.mem ((c.tc : Thread nD τ).loc main_v25) = Wf m c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) := by
  refine (θ_run (defs (F := F)) (onTc (τ := τ) (main (F := F))) ⟨m, fun _ => 0, ρ⟩).mono (fun r h => ?_) (run m ρ)
  refine ⟨fun c => ?_, sem_eq_zero_of_no_sems rfl r.2⟩
  exact ⟨h c main_v25 (by decide), (h c main_arg0 (by decide)).trans (kept m c main_arg0 (by decide) (by decide) (by decide) (by decide) (by decide) (by decide) (by decide) (by decide) (by decide) (by decide) (by decide) (by decide) (by decide) (by decide) (by decide) (by decide)),
      (h c main_arg1 (by decide)).trans (kept m c main_arg1 (by decide) (by decide) (by decide) (by decide) (by decide) (by decide) (by decide) (by decide) (by decide) (by decide) (by decide) (by decide) (by decide) (by decide) (by decide) (by decide)),
      (h c main_arg2 (by decide)).trans (kept m c main_arg2 (by decide) (by decide) (by decide) (by decide) (by decide) (by decide) (by decide) (by decide) (by decide) (by decide) (by decide) (by decide) (by decide) (by decide) (by decide) (by decide)),
      (h c main_arg3 (by decide)).trans (kept m c main_arg3 (by decide) (by decide) (by decide) (by decide) (by decide) (by decide) (by decide) (by decide) (by decide) (by decide) (by decide) (by decide) (by decide) (by decide) (by decide) (by decide)),
      (h c main_arg4 (by decide)).trans (kept m c main_arg4 (by decide) (by decide) (by decide) (by decide) (by decide) (by decide) (by decide) (by decide) (by decide) (by decide) (by decide) (by decide) (by decide) (by decide) (by decide) (by decide)),
      (h c main_arg5 (by decide)).trans (kept m c main_arg5 (by decide) (by decide) (by decide) (by decide) (by decide) (by decide) (by decide) (by decide) (by decide) (by decide) (by decide) (by decide) (by decide) (by decide) (by decide) (by decide)),
      (h c main_arg6 (by decide)).trans (kept m c main_arg6 (by decide) (by decide) (by decide) (by decide) (by decide) (by decide) (by decide) (by decide) (by decide) (by decide) (by decide) (by decide) (by decide) (by decide) (by decide) (by decide)),
      (h c main_arg7 (by decide)).trans (kept m c main_arg7 (by decide) (by decide) (by decide) (by decide) (by decide) (by decide) (by decide) (by decide) (by decide) (by decide) (by decide) (by decide) (by decide) (by decide) (by decide) (by decide)),
      (h c main_arg8 (by decide)).trans (kept m c main_arg8 (by decide) (by decide) (by decide) (by decide) (by decide) (by decide) (by decide) (by decide) (by decide) (by decide) (by decide) (by decide) (by decide) (by decide) (by decide) (by decide)),
      (h c main_arg9 (by decide)).trans (kept m c main_arg9 (by decide) (by decide) (by decide) (by decide) (by decide) (by decide) (by decide) (by decide) (by decide) (by decide) (by decide) (by decide) (by decide) (by decide) (by decide) (by decide)),
      (h c main_arg10 (by decide)).trans (kept m c main_arg10 (by decide) (by decide) (by decide) (by decide) (by decide) (by decide) (by decide) (by decide) (by decide) (by decide) (by decide) (by decide) (by decide) (by decide) (by decide) (by decide)),
      (h c main_arg11 (by decide)).trans (kept m c main_arg11 (by decide) (by decide) (by decide) (by decide) (by decide) (by decide) (by decide) (by decide) (by decide) (by decide) (by decide) (by decide) (by decide) (by decide) (by decide) (by decide))⟩

end Cert.ReferenceIdeal.Pf

end
-- ==== Proof.Model.lean ====
/-
  The mathematics of the two-layer network, one batch row at a time, over the extended reals: the gates, the cell, the
  states after each step.
-/
module

public import Idealize.ShloMosaic.Lib.Pointwise

@[expose] public section

noncomputable section

namespace Cert.Lstm

open Idealize.ShloMosaic

/-- A vector of 128 units. -/
abbrev Row := Fin 128 → EReal

/-- The weights of one layer. -/
structure Par where
  wi : Fin 512 → Row
  wh : Fin 512 → Row
  bi : Fin 512 → EReal
  bh : Fin 512 → EReal

/-- Unit `j` of the gate that starts at `o`. -/
abbrev at' (o : ℕ) (ho : o ≤ 384) (j : Fin 128) : Fin 512 := ⟨o + j.val, by omega⟩

/-- The gates before their activations. -/
def gate (p : Par) (x h : Row) (j : Fin 512) : EReal :=
  (((∑ k, x k * p.wi j k) + p.bi j) + ∑ k, h k * p.wh j k) + p.bh j

/-- The new cell state. -/
def cellOf (g : Fin 512 → EReal) (c : Row) (j : Fin 128) : EReal :=
  Ideal.logistic (g (at' 128 (by decide) j)) * c j + Ideal.logistic (g (at' 0 (by decide) j)) * Ideal.tanh (g (at' 256 (by decide) j))

/-- The new hidden state. -/
def hidOf (g : Fin 512 → EReal) (c : Row) (j : Fin 128) : EReal :=
  Ideal.logistic (g (at' 384 (by decide) j)) * Ideal.tanh (cellOf g c j)

/-- Hidden and cell state of a row after `t` steps on the inputs `x 0`, `x 1`, …. -/
def roll (p : Par) (x : ℕ → Row) : ℕ → Row × Row
  | 0 => (fun _ => 0, fun _ => 0)
  | t + 1 => (hidOf (gate p (x t) (roll p x t).1) (roll p x t).2, cellOf (gate p (x t) (roll p x t).1) (roll p x t).2)

/-- The states after `t` steps depend on the first `t` inputs only. -/
theorem roll_congr (p : Par) (x y : ℕ → Row) : ∀ t, (∀ s < t, x s = y s) → roll p x t = roll p y t
  | 0, _ => rfl
  | t + 1, h => by
    rw [roll, roll, roll_congr p x y t fun s hs => h s (Nat.lt_succ_of_lt hs), h t (Nat.lt_succ_self t)]

/-- The hidden state of the second layer after `t` steps, the first layer's hidden states its inputs. -/
def top (p q : Par) (x : ℕ → Row) (t : ℕ) : Row := (roll q (fun s => (roll p x (s + 1)).1) t).1

/-- The probability that the network gives: the logistic function of the last layer at the hidden state. -/
def prob (h w : Row) (b : EReal) : EReal := Ideal.logistic ((∑ k, h k * w k) + b)

end Cert.Lstm

end
-- ==== Proof.KI.Math.lean ====
/-
  The kernel's payloads read at an index, over the extended reals: one step of both layers is the model's step, row by
  row, with the stacked weights cut into the input's and the state's.
-/
module

public import proofs.«01_k».proof.Proof.KI.Body
public import proofs.«01_k».proof.Proof.Model
public import Idealize.ShloMosaic.Lib.Pointwise

@[expose] public section

set_option maxRecDepth 16384
set_option maxHeartbeats 2000000

noncomputable section

namespace Cert.KernelIdeal.Pf

open Cert.KernelIdeal Cert.KernelIdeal.Gen
open Idealize.ShloMosaic
open Cert.Lstm

/-- The stacked weights of a layer. -/
abbrev wT (wi wh : FVec Ideal S512x128 .f32) : FVec Ideal S256x512 .f32 :=
  concatenate S256x512 0 [⟨S128x512, transpose S128x512 [1, 0] wi transposes_S512x128_S128x512_1_0⟩, ⟨S128x512, transpose S128x512 [1, 0] wh transposes_S512x128_S128x512_1_0⟩] concatenates_S128x512_S128x512_S256x512_d0

/-- The two biases of a layer, added. -/
abbrev bT (bi bh : FVec Ideal S512 .f32) : FVec Ideal S1x512 .f32 := shapeCast S1x512 (addf bi bh) shapeCasts_S512_S1x512

/-- The model's weights of the arrays of one layer. -/
def parOf (wi wh : FVec Ideal S512x128 .f32) (bi bh : FVec Ideal S512 .f32) : Par :=
  ⟨fun j k => wi (ix2 j k), fun j k => wh (ix2 j k), fun j => bi (ix1 j), fun j => bh (ix1 j)⟩

/-- A sum of four terms, the second and the third exchanged. -/
theorem four (a b c d : EReal) : a + b + (c + d) = a + c + b + d := by abel

theorem gates0_apply (e : FVec Ideal S1x1024x128 .f32) (h : FVec Ideal S1024x128 .f32) (wi wh : FVec Ideal S512x128 .f32) (bi bh : FVec Ideal S512 .f32)
    (b : Fin 1024) (j : Fin 512) :
    k1_pay11 (F := Ideal) e h (wT wi wh) (bT bi bh) (ix2 b j) = gate (parOf wi wh bi bh) (fun k => e (ix3 0 b k)) (fun k => h (ix2 b k)) j := by
  rw [gate, ← four]
  pointwise [k1_pay11, parOf]

theorem gates1_apply (x h : FVec Ideal S1024x128 .f32) (wi wh : FVec Ideal S512x128 .f32) (bi bh : FVec Ideal S512 .f32)
    (b : Fin 1024) (j : Fin 512) :
    k1_pay1 (F := Ideal) (concatenate S1024x256 1 [⟨S1024x128, x⟩, ⟨S1024x128, h⟩] concatenates_S1024x128_S1024x128_S1024x256_d1) (wT wi wh) (bT bi bh) (ix2 b j)
      = gate (parOf wi wh bi bh) (fun k => x (ix2 b k)) (fun k => h (ix2 b k)) j := by
  rw [gate, ← four]
  pointwise [k1_pay1, parOf]

/-- Row `b` of a block of 1024 rows. -/
def rowsAt (x : FVec Ideal S1024x128 .f32) (b : Fin 1024) : Row := fun k => x (ix2 b k)

theorem cell0_apply (e : FVec Ideal S1x1024x128 .f32) (h cc : FVec Ideal S1024x128 .f32) (w : FVec Ideal S256x512 .f32) (bb : FVec Ideal S1x512 .f32)
    (b : Fin 1024) (j : Fin 128) :
    k1_pay12 (F := Ideal) e h w bb cc (ix2 b j) = cellOf (fun q => k1_pay11 (F := Ideal) e h w bb (ix2 b q)) (rowsAt cc b) j := by
  pointwise [k1_pay12, cellOf, rowsAt, at', Nat.zero_add]

theorem hid0_apply (e : FVec Ideal S1x1024x128 .f32) (h cc : FVec Ideal S1024x128 .f32) (w : FVec Ideal S256x512 .f32) (bb : FVec Ideal S1x512 .f32)
    (b : Fin 1024) (j : Fin 128) :
    k1_pay13 (F := Ideal) e h w bb cc (ix2 b j) = hidOf (fun q => k1_pay11 (F := Ideal) e h w bb (ix2 b q)) (rowsAt cc b) j := by
  rw [hidOf, ← cell0_apply]
  pointwise [k1_pay13, at', Nat.zero_add]

theorem cell1_apply (x : FVec Ideal S1024x256 .f32) (cc : FVec Ideal S1024x128 .f32) (w : FVec Ideal S256x512 .f32) (bb : FVec Ideal S1x512 .f32)
    (b : Fin 1024) (j : Fin 128) :
    k1_pay2 (F := Ideal) x w bb cc (ix2 b j) = cellOf (fun q => k1_pay1 (F := Ideal) x w bb (ix2 b q)) (rowsAt cc b) j := by
  pointwise [k1_pay2, cellOf, rowsAt, at', Nat.zero_add]

theorem hid1_apply (x : FVec Ideal S1024x256 .f32) (cc : FVec Ideal S1024x128 .f32) (w : FVec Ideal S256x512 .f32) (bb : FVec Ideal S1x512 .f32)
    (b : Fin 1024) (j : Fin 128) :
    k1_pay3 (F := Ideal) x w bb cc (ix2 b j) = hidOf (fun q => k1_pay1 (F := Ideal) x w bb (ix2 b q)) (rowsAt cc b) j := by
  rw [hidOf, ← cell1_apply]
  pointwise [k1_pay3, at', Nat.zero_add]

theorem cast_self (x : FVec Ideal S1024x128 .f32) (b : Fin 1024) (j : Fin 128) : shapeCast S1024x128 x shapeCasts_S1024x128_S1024x128 (ix2 b j) = x (ix2 b j) := by
  pointwise

section Step

variable (e : FVec Ideal S1x1024x128 .f32) (wi wh ui uh : FVec Ideal S512x128 .f32) (bi bh ci ch : FVec Ideal S512 .f32) (s : St Ideal) (b : Fin 1024)

/-- One step of both layers, from arrays. -/
abbrev nextOf : St Ideal := St.step (F := Ideal) e (wT wi wh) (wT ui uh) (bT bi bh) (bT ci ch) s

theorem next_hid0 : rowsAt (k1_pay13 (F := Ideal) e s.h0 (wT wi wh) (bT bi bh) s.c0) b
    = hidOf (gate (parOf wi wh bi bh) (fun k => e (ix3 0 b k)) (rowsAt s.h0 b)) (rowsAt s.c0 b) := by
  funext j
  exact (hid0_apply e s.h0 s.c0 (wT wi wh) (bT bi bh) b j).trans (congrArg (fun g => hidOf g (rowsAt s.c0 b) j) (funext fun q => gates0_apply e s.h0 wi wh bi bh b q))

theorem next_h0 : rowsAt (nextOf e wi wh ui uh bi bh ci ch s).h0 b = hidOf (gate (parOf wi wh bi bh) (fun k => e (ix3 0 b k)) (rowsAt s.h0 b)) (rowsAt s.c0 b) :=
  (funext fun j => cast_self _ b j).trans (next_hid0 e wi wh bi bh s b)

theorem next_c0 : rowsAt (nextOf e wi wh ui uh bi bh ci ch s).c0 b = cellOf (gate (parOf wi wh bi bh) (fun k => e (ix3 0 b k)) (rowsAt s.h0 b)) (rowsAt s.c0 b) := by
  funext j
  refine (cast_self (k1_pay12 (F := Ideal) e s.h0 (wT wi wh) (bT bi bh) s.c0) b j).trans ?_
  exact (cell0_apply e s.h0 s.c0 (wT wi wh) (bT bi bh) b j).trans (congrArg (fun g => cellOf g (rowsAt s.c0 b) j) (funext fun q => gates0_apply e s.h0 wi wh bi bh b q))

/-- The second layer's gates at a step. -/
theorem next_gates (q : Fin 512) : k1_pay1 (F := Ideal) (catOf e (wT wi wh) (bT bi bh) s) (wT ui uh) (bT ci ch) (ix2 b q)
    = gate (parOf ui uh ci ch) (rowsAt (nextOf e wi wh ui uh bi bh ci ch s).h0 b) (rowsAt s.h1 b) q := by
  refine (gates1_apply (k1_pay13 (F := Ideal) e s.h0 (wT wi wh) (bT bi bh) s.c0) s.h1 ui uh ci ch b q).trans ?_
  refine congrArg (fun r => gate (parOf ui uh ci ch) r (rowsAt s.h1 b) q) ?_
  exact (funext fun j => (cast_self _ b j).symm)

theorem next_hid1 : rowsAt (k1_pay3 (F := Ideal) (catOf e (wT wi wh) (bT bi bh) s) (wT ui uh) (bT ci ch) s.c1) b
    = hidOf (gate (parOf ui uh ci ch) (rowsAt (nextOf e wi wh ui uh bi bh ci ch s).h0 b) (rowsAt s.h1 b)) (rowsAt s.c1 b) := by
  funext j
  exact (hid1_apply _ s.c1 (wT ui uh) (bT ci ch) b j).trans (congrArg (fun g => hidOf g (rowsAt s.c1 b) j) (funext fun q => next_gates e wi wh ui uh bi bh ci ch s b q))

theorem next_h1 : rowsAt (nextOf e wi wh ui uh bi bh ci ch s).h1 b = hidOf (gate (parOf ui uh ci ch) (rowsAt (nextOf e wi wh ui uh bi bh ci ch s).h0 b) (rowsAt s.h1 b)) (rowsAt s.c1 b) :=
  (funext fun j => cast_self _ b j).trans (next_hid1 e wi wh ui uh bi bh ci ch s b)

theorem next_c1 : rowsAt (nextOf e wi wh ui uh bi bh ci ch s).c1 b = cellOf (gate (parOf ui uh ci ch) (rowsAt (nextOf e wi wh ui uh bi bh ci ch s).h0 b) (rowsAt s.h1 b)) (rowsAt s.c1 b) := by
  funext j
  refine (cast_self (k1_pay2 (F := Ideal) (catOf e (wT wi wh) (bT bi bh) s) (wT ui uh) (bT ci ch) s.c1) b j).trans ?_
  exact (cell1_apply _ s.c1 (wT ui uh) (bT ci ch) b j).trans (congrArg (fun g => cellOf g (rowsAt s.c1 b) j) (funext fun q => next_gates e wi wh ui uh bi bh ci ch s b q))

/-- The last payload is the logistic function of the last layer at the second layer's new hidden state. -/
theorem out_apply (lw : FVec Ideal S4x128 .f32) (lb : FVec Ideal S4 .f32) :
    outOf (F := Ideal) e (wT wi wh) (wT ui uh) (bT bi bh) (bT ci ch) (transpose S128x4 [1, 0] lw transposes_S4x128_S128x4_1_0) (shapeCast S1x4 lb shapeCasts_S4_S1x4) s (ix2 b 3)
      = prob (rowsAt (nextOf e wi wh ui uh bi bh ci ch s).h1 b) (fun k => lw (ix2 3 k)) (lb (ix1 3)) := by
  have h : rowsAt (nextOf e wi wh ui uh bi bh ci ch s).h1 b = rowsAt (k1_pay3 (F := Ideal) (catOf e (wT wi wh) (bT bi bh) s) (wT ui uh) (bT ci ch) s.c1) b := funext fun j => cast_self (k1_pay3 (F := Ideal) (catOf e (wT wi wh) (bT bi bh) s) (wT ui uh) (bT ci ch) s.c1) b j
  rw [h]
  unfold outOf
  generalize catOf e (wT wi wh) (bT bi bh) s = x
  pointwise [k1_pay6, prob, rowsAt]

end Step

theorem init_zero (b : Fin 1024) : rowsAt (St.init (F := Ideal)).h0 b = (fun _ => 0) ∧ rowsAt (St.init (F := Ideal)).c0 b = (fun _ => 0)
    ∧ rowsAt (St.init (F := Ideal)).h1 b = (fun _ => 0) ∧ rowsAt (St.init (F := Ideal)).c1 b = (fun _ => 0) := by
  refine ⟨funext fun j => ?_, funext fun j => ?_, funext fun j => ?_, funext fun j => ?_⟩
  · pointwise [rowsAt, St.init, k1_pay7]
  · pointwise [rowsAt, St.init, k1_pay8]
  · pointwise [rowsAt, St.init, k1_pay9]
  · pointwise [rowsAt, St.init, k1_pay10]

end Cert.KernelIdeal.Pf

end
-- ==== Proof.KI.Blocks.lean ====
/-
  The blocks of the LSTM's windows: the weights' windows hold their whole arrays at every point, the input's window holds
  the point's slab; the output array ends as the last point left it.
-/
module

public import proofs.«01_k».proof.Proof.KI.Region
public import Idealize.ShloMosaic.Lib.Pointwise
public import Idealize.ShloMosaic.Lib.Pipeline.ValueKit

@[expose] public section

set_option maxRecDepth 16384
set_option maxHeartbeats 2000000

noncomputable section

namespace Cert.KernelIdeal.Pf

open Cert.KernelIdeal Cert.KernelIdeal.Gen
open Idealize.ShloMosaic Idealize.ShloMosaic.TcCoe

variable {F : FTy → Type} [FloatOps F]

variable (W : Dev nD → Valuation τ sig (Elt F)) (c : Dev nD) (t : Fin cfg1.N)

/-- The input's window is at the point's own slab. -/
theorem index0 : ∀ t : Fin cfg1.N, win1_0.index t = ![(grid1.coords t 0).val, 0, 0] := (by decide +kernel : ∀ t : Fin grid1.N, _)
theorem coord0 : ∀ t : Fin cfg1.N, (grid1.coords t 0).val = t.val := (by decide +kernel : ∀ t : Fin grid1.N, _)

theorem iblk0 (b : Fin 1024) (k : Fin 128) (u : Fin 200) (hu : u.val = t.val) : (iblk W c 0 t : FVec F S1x1024x128 .f32) (ix3 0 b k) = (W c (Proc.devRef .tc main_v3) : FVec F S200x1024x128 .f32) (ix3 u b k) := by
  blk_simp [iblk]
  refine congrArg _ ?_
  blk_ext [index0, coord0]

theorem index1 : ∀ t : Fin cfg1.N, win1_1.index t = ![0, 0] := (by decide +kernel : ∀ t : Fin grid1.N, _)
theorem iblk1 : (iblk W c 1 t : FVec F S256x512 .f32) = W c (Proc.devRef .tc main_v6) := by
  funext y
  blk_simp [iblk]
  refine congrArg _ ?_
  blk_ext [index1]

theorem index2 : ∀ t : Fin cfg1.N, win1_2.index t = ![0, 0] := (by decide +kernel : ∀ t : Fin grid1.N, _)
theorem iblk2 : (iblk W c 2 t : FVec F S256x512 .f32) = W c (Proc.devRef .tc main_v9) := by
  funext y
  blk_simp [iblk]
  refine congrArg _ ?_
  blk_ext [index2]

theorem index3 : ∀ t : Fin cfg1.N, win1_3.index t = ![0, 0] := (by decide +kernel : ∀ t : Fin grid1.N, _)
theorem iblk3 : (iblk W c 3 t : FVec F S1x512 .f32) = W c (Proc.devRef .tc main_v11) := by
  funext y
  blk_simp [iblk]
  refine congrArg _ ?_
  blk_ext [index3]

theorem index4 : ∀ t : Fin cfg1.N, win1_4.index t = ![0, 0] := (by decide +kernel : ∀ t : Fin grid1.N, _)
theorem iblk4 : (iblk W c 4 t : FVec F S1x512 .f32) = W c (Proc.devRef .tc main_v13) := by
  funext y
  blk_simp [iblk]
  refine congrArg _ ?_
  blk_ext [index4]

theorem index5 : ∀ t : Fin cfg1.N, win1_5.index t = ![0, 0] := (by decide +kernel : ∀ t : Fin grid1.N, _)
theorem iblk5 : (iblk W c 5 t : FVec F S128x4 .f32) = W c (Proc.devRef .tc main_v14) := by
  funext y
  blk_simp [iblk]
  refine congrArg _ ?_
  blk_ext [index5]

theorem index6 : ∀ t : Fin cfg1.N, win1_6.index t = ![0, 0] := (by decide +kernel : ∀ t : Fin grid1.N, _)
theorem iblk6 : (iblk W c 6 t : FVec F S1x4 .f32) = W c (Proc.devRef .tc main_v15) := by
  funext y
  blk_simp [iblk]
  refine congrArg _ ?_
  blk_ext [index6]

/-- The output array ends as what the last point wrote. -/
theorem out_end (n : Fin cfg1.N) (hn : n.val = 199) : (dat W c).arrAt 7 cfg1.N = outAt W c n := by
  obtain rfl : n = (⟨199, by decide⟩ : Fin cfg1.N) := Fin.ext hn
  funext i
  refine ((dat W c).arrAt_emb_eq_after_last 7 ⟨199, by decide⟩ (by decide +kernel) i).trans ?_
  rfl

end Cert.KernelIdeal.Pf

end
-- ==== Proof.KI.Value.lean ====
/-
  The kernel's value over the extended reals: the layers' states after each point are the model's, row by row, on the rows
  that the gather laid down; the result is the model's probability at the last point.
-/
module

public import proofs.«01_k».proof.Proof.KI.Frame
public import proofs.«01_k».proof.Proof.KI.Math
public import proofs.«01_k».proof.Proof.KI.Blocks
public import Idealize.ShloMosaic.Lib.StableHlo.RunRead

@[expose] public section

set_option maxRecDepth 16384
set_option maxHeartbeats 1000000

noncomputable section

namespace Cert.KernelIdeal.Pf

open Cert.KernelIdeal Cert.KernelIdeal.Gen

open Idealize.ShloMosaic Idealize.ShloMosaic.TcCoe Idealize.ShloMosaic.StableHlo
open Idealize.SL Idealize.SL.Sem
open Cert.Lstm

/-- Row `b` of each slab of a stack of 200. -/
def inp (x : FVec Ideal S200x1024x128 .f32) (b : Fin 1024) (s : ℕ) : Row := fun k => if h : s < 200 then x (ix3 ⟨s, h⟩ b k) else 0

section Steps

variable (W : Dev nD → Valuation τ sig (Elt Ideal)) (c : Dev nD)
  (wi wh ui uh : FVec Ideal S512x128 .f32) (bi bh ci ch : FVec Ideal S512 .f32)
  (h6 : W c (Proc.devRef .tc main_v6) = wT wi wh) (h9 : W c (Proc.devRef .tc main_v9) = wT ui uh)
  (h11 : W c (Proc.devRef .tc main_v11) = bT bi bh) (h13 : W c (Proc.devRef .tc main_v13) = bT ci ch)

include h6 h9 h11 h13

/-- The states after a point are one step of both layers from those before it. -/
theorem stAt_next (t : Fin cfg1.N) : stAt W c (t.val + 1) = nextOf (iblk W c 0 t) wi wh ui uh bi bh ci ch (stAt W c t.val) := by
  rw [stAt_succ, iblk1, iblk2, iblk3, iblk4, h6, h9, h11, h13]

/-- After `n` points the states' row `b` is the model's after `n` steps, the second layer on the first's hidden states. -/
theorem st_rows (b : Fin 1024) : ∀ n, n ≤ 200 →
    (rowsAt (stAt W c n).h0 b, rowsAt (stAt W c n).c0 b) = roll (parOf wi wh bi bh) (inp (W c (Proc.devRef .tc main_v3)) b) n
    ∧ (rowsAt (stAt W c n).h1 b, rowsAt (stAt W c n).c1 b) = roll (parOf ui uh ci ch) (fun s => (roll (parOf wi wh bi bh) (inp (W c (Proc.devRef .tc main_v3)) b) (s + 1)).1) n
  | 0, _ => by
    obtain ⟨z0, z1, z2, z3⟩ := init_zero b
    rw [stAt_zero, z0, z1, z2, z3]
    exact ⟨rfl, rfl⟩
  | n + 1, hn => by
    obtain ⟨i0, i1⟩ := st_rows b n (Nat.le_of_succ_le hn)
    have a0 : rowsAt (stAt W c n).h0 b = (roll (parOf wi wh bi bh) (inp (W c (Proc.devRef .tc main_v3)) b) n).1 := congrArg Prod.fst i0
    have a1 : rowsAt (stAt W c n).c0 b = (roll (parOf wi wh bi bh) (inp (W c (Proc.devRef .tc main_v3)) b) n).2 := congrArg Prod.snd i0
    have a2 : rowsAt (stAt W c n).h1 b = (roll (parOf ui uh ci ch) (fun s => (roll (parOf wi wh bi bh) (inp (W c (Proc.devRef .tc main_v3)) b) (s + 1)).1) n).1 := congrArg Prod.fst i1
    have a3 : rowsAt (stAt W c n).c1 b = (roll (parOf ui uh ci ch) (fun s => (roll (parOf wi wh bi bh) (inp (W c (Proc.devRef .tc main_v3)) b) (s + 1)).1) n).2 := congrArg Prod.snd i1
    have hN : n < cfg1.N := Nat.lt_of_lt_of_eq hn N_1.symm
    have hx : (fun k => (iblk W c 0 ⟨n, hN⟩ : FVec Ideal S1x1024x128 .f32) (ix3 0 b k)) = inp (W c (Proc.devRef .tc main_v3)) b n := by
      funext k
      rw [inp, dif_pos (show n < 200 from hn)]
      exact iblk0 W c ⟨n, hN⟩ b k ⟨n, hn⟩ rfl
    have e := stAt_next W c wi wh ui uh bi bh ci ch h6 h9 h11 h13 ⟨n, hN⟩
    have r0 : rowsAt (stAt W c (n + 1)).h0 b = (roll (parOf wi wh bi bh) (inp (W c (Proc.devRef .tc main_v3)) b) (n + 1)).1 := by
      refine (congrArg (fun s : St Ideal => rowsAt s.h0 b) e).trans ((next_h0 (iblk W c 0 ⟨n, hN⟩) wi wh ui uh bi bh ci ch (stAt W c n) b).trans ?_)
      rw [hx, a0, a1]
      rfl
    have r1 : rowsAt (stAt W c (n + 1)).c0 b = (roll (parOf wi wh bi bh) (inp (W c (Proc.devRef .tc main_v3)) b) (n + 1)).2 := by
      refine (congrArg (fun s : St Ideal => rowsAt s.c0 b) e).trans ((next_c0 (iblk W c 0 ⟨n, hN⟩) wi wh ui uh bi bh ci ch (stAt W c n) b).trans ?_)
      rw [hx, a0, a1]
      rfl
    have r0' : rowsAt (nextOf (iblk W c 0 ⟨n, hN⟩) wi wh ui uh bi bh ci ch (stAt W c n)).h0 b = (roll (parOf wi wh bi bh) (inp (W c (Proc.devRef .tc main_v3)) b) (n + 1)).1 :=
      (congrArg (fun s : St Ideal => rowsAt s.h0 b) e).symm.trans r0
    refine ⟨Prod.ext r0 r1, Prod.ext ?_ ?_⟩
    · refine (congrArg (fun s : St Ideal => rowsAt s.h1 b) e).trans ((next_h1 (iblk W c 0 ⟨n, hN⟩) wi wh ui uh bi bh ci ch (stAt W c n) b).trans ?_)
      rw [r0', a2, a3]
      rfl
    · refine (congrArg (fun s : St Ideal => rowsAt s.c1 b) e).trans ((next_c1 (iblk W c 0 ⟨n, hN⟩) wi wh ui uh bi bh ci ch (stAt W c n) b).trans ?_)
      rw [r0', a2, a3]
      rfl

/-- The last point writes the model's probability in column 3. -/
theorem out_rows (lw : FVec Ideal S4x128 .f32) (lb : FVec Ideal S4 .f32)
    (h14 : W c (Proc.devRef .tc main_v14) = transpose S128x4 [1, 0] lw transposes_S4x128_S128x4_1_0)
    (h15 : W c (Proc.devRef .tc main_v15) = shapeCast S1x4 lb shapeCasts_S4_S1x4) (n : Fin cfg1.N) (hn : n.val = 199) (b : Fin 1024) :
    outAt W c n (ix2 b 3) = prob (top (parOf wi wh bi bh) (parOf ui uh ci ch) (inp (W c (Proc.devRef .tc main_v3)) b) 200) (fun k => lw (ix2 3 k)) (lb (ix1 3)) := by
  have ho : outAt W c n = outOf (F := Ideal) (iblk W c 0 n) (wT wi wh) (wT ui uh) (bT bi bh) (bT ci ch) (transpose S128x4 [1, 0] lw transposes_S4x128_S128x4_1_0) (shapeCast S1x4 lb shapeCasts_S4_S1x4) (stAt W c n.val) := by
    unfold outAt
    rw [iblk1, iblk2, iblk3, iblk4, iblk5, iblk6, h6, h9, h11, h13, h14, h15]
  rw [ho, out_apply]
  refine congrArg (fun r => prob r (fun k => lw (ix2 3 k)) (lb (ix1 3))) ?_
  rw [← stAt_next W c wi wh ui uh bi bh ci ch h6 h9 h11 h13 n, hn]
  exact congrArg Prod.fst (st_rows W c wi wh ui uh bi bh ci ch h6 h9 h11 h13 b 200 (Nat.le_refl _)).2

end Steps

/-! ## The gathered rows -/

/-- Regrouped by step, row `b` of step `s` is the gather's lane `b % 128` of slab `8 s + b / 128`. -/
theorem regroup {α : Type} (x : S1600x128x128.Idx → α) (s : Fin 200) (b : Fin 1024) (k : Fin 128) :
    shapeCast S200x1024x128 x shapeCasts_S1600x128x128_S200x1024x128 (ix3 s b k) = x (ix3 ⟨s.val * 8 + b.val / 128, by omega⟩ ⟨b.val % 128, by omega⟩ k) := by
  pointwise

/-- The index blocks hold row-major what they were cut from. -/
theorem blocks {α : Type} (x : S200x1024.Idx → α) (s : Fin 200) (b : Fin 1024) :
    shapeCast S32x50x128 x shapeCasts_S200x1024_S32x50x128 (ixAt ⟨s.val * 8 + b.val / 128, by omega⟩ ⟨b.val % 128, by omega⟩) = x (ix2 s b) := by
  have e : ixAt ⟨s.val * 8 + b.val / 128, by omega⟩ ⟨b.val % 128, by omega⟩
      = (ix3 ⟨(s.val * 8 + b.val / 128) / 50, by omega⟩ ⟨(s.val * 8 + b.val / 128) % 50, by omega⟩ ⟨b.val % 128, by omega⟩ : S32x50x128.Idx) := by
    funext a
    match a with
    | 0 => rfl
    | 1 => rfl
    | 2 => rfl
  rw [e]
  pointwise

variable (m : (ℓ : Loc nD τ sig) → Buf (Elt Ideal) ℓ) (c : Dev nD)

/-- What the host's line 1 leaves, from the launch's arrays. -/
theorem V2_arg (r : Ref sig .tc) (h0 : r ∉ wr0) (hg : r ≠ main_v2) : V2 m c (Proc.devRef .tc r) = m (c, Proc.devRef .tc r) :=
  (Function.update_of_ne (fun e => hg (Proc.devRef_injective _ e)) _ _).trans (keep0 _ r h0)

theorem V3_v6 : V3 m c (Proc.devRef .tc main_v6) = wT (m (c, Proc.devRef .tc main_arg2)) (m (c, Proc.devRef .tc main_arg3)) := by
  rw [← V2_arg m c main_arg2 (by decide) (by decide), ← V2_arg m c main_arg3 (by decide) (by decide)]
  unfold V3
  after_reads_simp
  rfl

theorem V3_v9 : V3 m c (Proc.devRef .tc main_v9) = wT (m (c, Proc.devRef .tc main_arg6)) (m (c, Proc.devRef .tc main_arg7)) := by
  rw [← V2_arg m c main_arg6 (by decide) (by decide), ← V2_arg m c main_arg7 (by decide) (by decide)]
  unfold V3
  after_reads_simp
  rfl

theorem V3_v11 : V3 m c (Proc.devRef .tc main_v11) = bT (m (c, Proc.devRef .tc main_arg4)) (m (c, Proc.devRef .tc main_arg5)) := by
  rw [← V2_arg m c main_arg4 (by decide) (by decide), ← V2_arg m c main_arg5 (by decide) (by decide)]
  unfold V3
  after_reads_simp
  rfl

theorem V3_v13 : V3 m c (Proc.devRef .tc main_v13) = bT (m (c, Proc.devRef .tc main_arg8)) (m (c, Proc.devRef .tc main_arg9)) := by
  rw [← V2_arg m c main_arg8 (by decide) (by decide), ← V2_arg m c main_arg9 (by decide) (by decide)]
  unfold V3
  after_reads_simp
  rfl

theorem V3_v14 : V3 m c (Proc.devRef .tc main_v14) = transpose S128x4 [1, 0] (m (c, Proc.devRef .tc main_arg10) : FVec Ideal S4x128 .f32) transposes_S4x128_S128x4_1_0 := by
  rw [← V2_arg m c main_arg10 (by decide) (by decide)]
  unfold V3
  after_reads_simp

theorem V3_v15 : V3 m c (Proc.devRef .tc main_v15) = shapeCast S1x4 (m (c, Proc.devRef .tc main_arg11) : FVec Ideal S4 .f32) shapeCasts_S4_S1x4 := by
  rw [← V2_arg m c main_arg11 (by decide) (by decide)]
  unfold V3
  after_reads_simp
  rfl

theorem V3_v3 : V3 m c (Proc.devRef .tc main_v3) = shapeCast S200x1024x128 (gat (F := Ideal) (fi m c) (fe m c)) shapeCasts_S1600x128x128_S200x1024x128 := by
  have e : V2 m c (Proc.devRef .tc main_v2) = gat (F := Ideal) (fi m c) (fe m c) := Function.update_self _ _ _
  rw [← e]
  unfold V3
  after_reads_simp
  rfl

/-- The window's rows are the embedding rows of the step's indices. -/
theorem V3_inp (hx : ∀ i, ((m (c, Proc.devRef .tc main_arg0) : IVec S1024x200 32) i).toNat < 100000) (b : Fin 1024) (s : ℕ) (hs : s < 200) (k : Fin 128) :
    inp (V3 m c (Proc.devRef .tc main_v3)) b s k
      = (m (c, Proc.devRef .tc main_arg1) : FVec Ideal S100000x128 .f32) (ix2 ⟨((m (c, Proc.devRef .tc main_arg0) : IVec S1024x200 32) (ix2 b ⟨s, hs⟩)).toNat, hx _⟩ k) := by
  have hfe : fe m c = m (c, Proc.devRef .tc main_arg1) := keep0 _ main_arg1 (by decide)
  have hfi : fi m c (ixAt ⟨s * 8 + b.val / 128, by omega⟩ ⟨b.val % 128, by omega⟩) = (m (c, Proc.devRef .tc main_arg0) : IVec S1024x200 32) (ix2 b ⟨s, hs⟩) := by
    rw [fi_eq]
    refine (blocks _ ⟨s, hs⟩ b).trans ?_
    pointwise
  rw [V3_v3, inp, dif_pos hs, regroup, hfe]
  show (m (c, Proc.devRef .tc main_arg1) : FVec Ideal S100000x128 .f32) (rowAt (rowNo (F := Ideal) (fi m c (ixAt ⟨s * 8 + b.val / 128, _⟩ ⟨b.val % 128, _⟩))) k) = _
  rw [hfi]
  have e (r q : Fin 100000) (h : r = q) : (rowAt r k : S100000x128.Idx) = ix2 q k := by
    subst h
    funext a
    match a with
    | 0 => rfl
    | 1 => rfl
  exact congrArg _ (e _ _ (Fin.ext (Nat.mod_eq_of_lt (hx _))))

/-! ## The result -/

/-- THE KERNEL'S VALUE: at each row the model's probability of the gathered rows and the launch's weights. -/
theorem value (b : Fin 1024) : (V5 m c (Proc.devRef .tc main_v18) : FVec Ideal S1024 .f32) (ix1 b)
    = prob (top (parOf (m (c, Proc.devRef .tc main_arg2)) (m (c, Proc.devRef .tc main_arg3)) (m (c, Proc.devRef .tc main_arg4)) (m (c, Proc.devRef .tc main_arg5)))
          (parOf (m (c, Proc.devRef .tc main_arg6)) (m (c, Proc.devRef .tc main_arg7)) (m (c, Proc.devRef .tc main_arg8)) (m (c, Proc.devRef .tc main_arg9)))
          (inp (V3 m c (Proc.devRef .tc main_v3)) b) 200)
        (fun k => (m (c, Proc.devRef .tc main_arg10) : FVec Ideal S4x128 .f32) (ix2 3 k)) ((m (c, Proc.devRef .tc main_arg11) : FVec Ideal S4 .f32) (ix1 3)) := by
  have hN : 199 < cfg1.N := Nat.lt_of_lt_of_eq (by decide) N_1.symm
  have e4 : V4 m c (Proc.devRef .tc main_v16) = outAt (V3 m) c ⟨199, hN⟩ :=
    (Pipeline.afterRegion_arr (dat (V3 m) c) (V3 m c) launch1.win.arr_inj 7).trans (out_end (V3 m) c ⟨199, hN⟩ rfl)
  have e5 : V5 m c (Proc.devRef .tc main_v18) = shapeCast S1024 (extractStridedSlice S1024x1 ![0, 3] (V4 m c (Proc.devRef .tc main_v16) : FVec Ideal S1024x4 .f32) slices_S1024x4_S1024x1_0_3) shapeCasts_S1024x1_S1024 := by
    unfold V5
    after_reads_simp
    rfl
  rw [← out_rows (V3 m) c _ _ _ _ _ _ _ _ (V3_v6 m c) (V3_v9 m c) (V3_v11 m c) (V3_v13 m c) _ _ (V3_v14 m c) (V3_v15 m c) ⟨199, hN⟩ rfl b, e5, e4]
  generalize outAt (V3 m) c ⟨199, hN⟩ = y
  pointwise

end Cert.KernelIdeal.Pf

end
-- ==== Proof.RI.Terms.lean ====
/-
  What the reference's stretches of host operations leave, as terms of the contents they start from: the lookup of the
  embedding rows, one step of a scan (slab, gates, cell, stack), and the operations after the second scan.
-/
module

public import proofs.«01_k».proof.Proof.RI.Run

@[expose] public section

set_option maxRecDepth 16384
set_option maxHeartbeats 2000000

noncomputable section

namespace Cert.ReferenceIdeal.Pf

open Cert.ReferenceIdeal Cert.ReferenceIdeal.Gen

open Idealize.ShloMosaic Idealize.ShloMosaic.TcCoe Idealize.ShloMosaic.Tactic
open Idealize.SL Idealize.SL.RA Idealize.SL.BI
open Idealize.SL.BI.BIBase Idealize.SL.Sem
open Idealize.ShloMosaic.StableHlo

variable {F : FTy → Type} [FloatOps F]

/-! ## The terms -/

/-- One slab of a stack of 200, at the counter. -/
def slabT (x : FVec F S200x1024x128 .f32) (i : IVec S_ 32) : FVec F S1024x128 .f32 :=
  shapeCast S1024x128 (Host.dynamicSlice S1x1024x128 x (fun k => ((![i, constantI S_ 32 0#32, constantI S_ 32 0#32] : Fin 3 → IVec S_ 32) k (Shape.Idx.first h_S_)).toInt) sliceFits_S200x1024x128_S1x1024x128) shapeCasts_S1x1024x128_S1024x128

/-- The four gates before their activations: `x·W_ihᵀ + b_ih + h·W_hhᵀ + b_hh`. -/
def gatesT (x : FVec F S1024x128 .f32) (wi : FVec F S512x128 .f32) (bi : FVec F S512 .f32) (wh : FVec F S512x128 .f32) (bh : FVec F S512 .f32) (h : FVec F S1024x128 .f32) : FVec F S1024x512 .f32 :=
  addf (addf (addf (Host.dotGeneral dot_S1024x128_S128x512_S1024x512_1_0_0_1_n_n none x (transpose S128x512 [1, 0] wi transposes_S512x128_S128x512_1_0))
      (broadcastInDim S1024x512 ![0, 1] bcast_S1x512_S1024x512_0_1 (broadcastInDim S1x512 ![1] bcast_S512_S1x512_1 bi)))
      (Host.dotGeneral dot_S1024x128_S128x512_S1024x512_1_0_0_1_n_n none h (transpose S128x512 [1, 0] wh transposes_S512x128_S128x512_1_0)))
      (broadcastInDim S1024x512 ![0, 1] bcast_S1x512_S1024x512_0_1 (broadcastInDim S1x512 ![1] bcast_S512_S1x512_1 bh))

/-- The logistic function as the reference spells it, on a 1024 × 128 block. -/
def sigT (x : FVec F S1024x128 .f32) : FVec F S1024x128 .f32 :=
  Host.divf (broadcastInDim S1024x128 ![] bcast_S_S1024x128 (constant S_ .f32 0x3F800000#32))
    (addf (broadcastInDim S1024x128 ![] bcast_S_S1024x128 (constant S_ .f32 0x3F800000#32)) (Host.exp (Host.negf x)))

/-- The new cell state of a step. -/
def cellT (g : FVec F S1024x512 .f32) (c : FVec F S1024x128 .f32) : FVec F S1024x128 .f32 :=
  addf (mulf (sigT (extractStridedSlice S1024x128 ![0, 128] g slices_S1024x512_S1024x128_0_128)) c)
    (mulf (sigT (extractStridedSlice S1024x128 ![0, 0] g slices_S1024x512_S1024x128_0_0))
      (Host.tanh (extractStridedSlice S1024x128 ![0, 256] g slices_S1024x512_S1024x128_0_256)))

/-- The new hidden state of a step. -/
def hidT (g : FVec F S1024x512 .f32) (c : FVec F S1024x128 .f32) : FVec F S1024x128 .f32 :=
  mulf (sigT (extractStridedSlice S1024x128 ![0, 384] g slices_S1024x512_S1024x128_0_384)) (Host.tanh (cellT g c))

/-- A stack of 200 with the slab at the counter replaced. -/
def putT (x : FVec F S200x1024x128 .f32) (u : FVec F S1024x128 .f32) (i : IVec S_ 32) : FVec F S200x1024x128 .f32 :=
  Host.dynamicUpdateSlice x (broadcastInDim S1x1024x128 ![1, 2] bcast_S1024x128_S1x1024x128_1_2 u)
    (fun k => ((![i, constantI S_ 32 0#32, constantI S_ 32 0#32] : Fin 3 → IVec S_ 32) k (Shape.Idx.first h_S_)).toInt) updateFits_S200x1024x128_S1x1024x128

/-- The last layer, the logistic function, and the last of the four columns. -/
def outT (h : FVec F S1024x128 .f32) (w : FVec F S4x128 .f32) (b : FVec F S4 .f32) : FVec F S1024 .f32 :=
  shapeCast S1024 (extractStridedSlice S1024x1 ![0, 3] (Host.divf (broadcastInDim S1024x4 ![] bcast_S_S1024x4 (constant S_ .f32 0x3F800000#32))
    (addf (broadcastInDim S1024x4 ![] bcast_S_S1024x4 (constant S_ .f32 0x3F800000#32)) (Host.exp (Host.negf
      (addf (Host.dotGeneral dot_S1024x128_S128x4_S1024x4_1_0_0_1_n_n none h (transpose S128x4 [1, 0] w transposes_S4x128_S128x4_1_0))
        (broadcastInDim S1024x4 ![0, 1] bcast_S1x4_S1024x4_0_1 (broadcastInDim S1x4 ![1] bcast_S4_S1x4_1 b))))))) slices_S1024x4_S1024x1_0_3) shapeCasts_S1024x1_S1024

/-- The row indices as the lookup reads them: a negative one moved up by the table's height. -/
def idxT (x : IVec S1024x200 32) : IVec S1024x200x1 32 :=
  broadcastInDim S1024x200x1 ![0, 1] bcast_S1024x200_S1024x200x1_0_1
    (select (cmpi .slt x (broadcastInDim S1024x200 ![] bcast_S_S1024x200 (constantI S_ 32 0#32)))
      (addi x (broadcastInDim S1024x200 ![] bcast_S_S1024x200 (constantI S_ 32 100000#32))) x)

/-- Which row indices lie in the table. -/
def okT (x : IVec S1024x200 32) : IVec S1024x200 1 :=
  Host.reduce IntOp.andi (andi (cmpi .sge (idxT x) (broadcastInDim S1024x200x1 ![] bcast_S_S1024x200x1 (constantI S_ 32 0#32)))
    (cmpi .sle (idxT x) (broadcastInDim S1024x200x1 ![0, 1, 2] bcast_S1x1x1_S1024x200x1_0_1_2 (broadcastInDim S1x1x1 ![2] bcast_S1_S1x1x1_2 (constantI S1 32 99999#32)))))
    (constantI S_ 1 1#1) reducesTo_S1024x200x1_S1024x200_d2 h_S_

/-- The rows looked up, with the fill where an index lies outside. -/
def takeT (x : IVec S1024x200 32) (e : FVec F S100000x128 .f32) : FVec F S1024x200x128 .f32 :=
  select (broadcastInDim S1024x200x128 ![0, 1] bcast_S1024x200_S1024x200x128_0_1 (okT x))
    (Host.gather gather_S100000x128_S1024x200x1_S1024x200x128_2_0_n_n_0_2_1128 e (idxT x))
    (broadcastInDim S1024x200x128 ![] bcast_S_S1024x200x128 (constant S_ .f32 0x7FC00000#32))

end Cert.ReferenceIdeal.Pf

end
-- ==== Proof.RI.Host.lean ====
/-
  What the reference's stretches before, between and after the scans leave, as the terms of the contents they start from.
-/
module

public import proofs.«01_k».proof.Proof.RI.Terms

@[expose] public section

set_option maxRecDepth 16384
set_option maxHeartbeats 2000000

noncomputable section

namespace Cert.ReferenceIdeal.Pf

open Cert.ReferenceIdeal Cert.ReferenceIdeal.Gen

open Idealize.ShloMosaic Idealize.ShloMosaic.TcCoe Idealize.ShloMosaic.Tactic
open Idealize.SL Idealize.SL.RA Idealize.SL.BI
open Idealize.SL.BI.BIBase Idealize.SL.Sem
open Idealize.ShloMosaic.StableHlo

variable {F : FTy → Type} [FloatOps F]

variable (V : Valuation τ sig (Elt F))

set_option maxRecDepth 65536 in
theorem opsT_v0 : after opsT V (Proc.devRef .tc main_v0) = takeT (V (Proc.devRef .tc main_arg0)) (V (Proc.devRef .tc main_arg1)) := by
  unfold takeT okT idxT
  after_results_entrywise [cast_eq]

theorem opsA_x : after opsA V (Proc.devRef .tc main_v5_0) = transpose S200x1024x128 [1, 0, 2] (V (Proc.devRef .tc main_v0)) transposes_S1024x200x128_S200x1024x128_1_0_2 := by
  after_reads_simp
  rfl

theorem opsB_x : after opsB V (Proc.devRef .tc main_v11_0) = transpose S200x1024x128 [1, 0, 2] (transpose S1024x200x128 [1, 0, 2] (V (Proc.devRef .tc main_v5_8)) transposes_S200x1024x128_S1024x200x128_1_0_2) transposes_S1024x200x128_S200x1024x128_1_0_2 := by
  after_reads_simp
  rfl

theorem opsC_out : after opsC V (Proc.devRef .tc main_v25) = outT (V (Proc.devRef .tc main_v11_6)) (V (Proc.devRef .tc main_arg10)) (V (Proc.devRef .tc main_arg11)) := by
  after_reads_simp
  rfl

/-- A block of zeros. -/
abbrev zeroT : FVec F S1024x128 .f32 := broadcastInDim S1024x128 ![] bcast_S_S1024x128 (constant S_ .f32 0x00000000#32)

theorem opsA_1 : after opsA V (Proc.devRef .tc main_v5_1) = V (Proc.devRef .tc main_arg2) := by
  after_reads_simp
  rfl

theorem opsA_2 : after opsA V (Proc.devRef .tc main_v5_2) = V (Proc.devRef .tc main_arg4) := by
  after_reads_simp
  rfl

theorem opsA_3 : after opsA V (Proc.devRef .tc main_v5_3) = V (Proc.devRef .tc main_arg3) := by
  after_reads_simp
  rfl

theorem opsA_4 : after opsA V (Proc.devRef .tc main_v5_4) = V (Proc.devRef .tc main_arg5) := by
  after_reads_simp
  rfl

theorem opsA_6 : after opsA V (Proc.devRef .tc main_v5_6) = zeroT := by
  after_reads_simp
  rfl

theorem opsA_7 : after opsA V (Proc.devRef .tc main_v5_7) = zeroT := by
  after_reads_simp
  rfl

theorem opsB_1 : after opsB V (Proc.devRef .tc main_v11_1) = V (Proc.devRef .tc main_arg6) := by
  after_reads_simp
  rfl

theorem opsB_2 : after opsB V (Proc.devRef .tc main_v11_2) = V (Proc.devRef .tc main_arg8) := by
  after_reads_simp
  rfl

theorem opsB_3 : after opsB V (Proc.devRef .tc main_v11_3) = V (Proc.devRef .tc main_arg7) := by
  after_reads_simp
  rfl

theorem opsB_4 : after opsB V (Proc.devRef .tc main_v11_4) = V (Proc.devRef .tc main_arg9) := by
  after_reads_simp
  rfl

theorem opsB_6 : after opsB V (Proc.devRef .tc main_v11_6) = zeroT := by
  after_reads_simp
  rfl

theorem opsB_7 : after opsB V (Proc.devRef .tc main_v11_7) = zeroT := by
  after_reads_simp
  rfl

end Cert.ReferenceIdeal.Pf

end
-- ==== Proof.RI.Step0.lean ====
/-
  What the stretches of a step of scan 0 leave, as the terms of the contents they start from.
-/
module

public import proofs.«01_k».proof.Proof.RI.Terms

@[expose] public section

set_option maxRecDepth 16384
set_option maxHeartbeats 2000000

noncomputable section

namespace Cert.ReferenceIdeal.Pf

open Cert.ReferenceIdeal Cert.ReferenceIdeal.Gen

open Idealize.ShloMosaic Idealize.ShloMosaic.TcCoe Idealize.ShloMosaic.Tactic
open Idealize.SL Idealize.SL.RA Idealize.SL.BI
open Idealize.SL.BI.BIBase Idealize.SL.Sem
open Idealize.ShloMosaic.StableHlo

variable {F : FTy → Type} [FloatOps F]

variable (V : Valuation τ sig (Elt F))

theorem idx0_slab : after idx0 V (Proc.devRef .tc main_while0b_v26) = slabT (V (Proc.devRef .tc main_v5_0)) (V (Proc.devRef .tc main_v5_5)) := by
  unfold slabT
  after_results_entrywise [cast_eq]

theorem gts0_gates : after gts0 V (Proc.devRef .tc main_while0b_v37) = gatesT (V (Proc.devRef .tc main_while0b_v26)) (V (Proc.devRef .tc main_v5_1)) (V (Proc.devRef .tc main_v5_2)) (V (Proc.devRef .tc main_v5_3)) (V (Proc.devRef .tc main_v5_4)) (V (Proc.devRef .tc main_v5_6)) := by
  after_reads_simp
  rfl

theorem cel0_cell : after cel0 V (Proc.devRef .tc main_while0b_v63) = cellT (V (Proc.devRef .tc main_while0b_v37)) (V (Proc.devRef .tc main_v5_7)) := by
  after_reads_simp
  rfl

theorem cel0_hid : after cel0 V (Proc.devRef .tc main_while0b_v65) = hidT (V (Proc.devRef .tc main_while0b_v37)) (V (Proc.devRef .tc main_v5_7)) := by
  after_reads_simp
  rfl

theorem upd0_put : after upd0 V (Proc.devRef .tc main_while0b_v66) = putT (V (Proc.devRef .tc main_v5_8)) (V (Proc.devRef .tc main_while0b_v65)) (V (Proc.devRef .tc main_v5_5)) := by
  unfold putT
  after_results_entrywise [cast_eq]

theorem nxt0_6 : after nxt0 V (Proc.devRef .tc main_v5_6) = V (Proc.devRef .tc main_while0b_v65) := by
  after_reads_simp
  rfl

theorem nxt0_7 : after nxt0 V (Proc.devRef .tc main_v5_7) = V (Proc.devRef .tc main_while0b_v63) := by
  after_reads_simp
  rfl

theorem nxt0_8 : after nxt0 V (Proc.devRef .tc main_v5_8) = V (Proc.devRef .tc main_while0b_v66) := by
  after_reads_simp
  rfl

end Cert.ReferenceIdeal.Pf

end
-- ==== Proof.RI.Step1.lean ====
/-
  What the stretches of a step of scan 1 leave, as the terms of the contents they start from.
-/
module

public import proofs.«01_k».proof.Proof.RI.Terms

@[expose] public section

set_option maxRecDepth 16384
set_option maxHeartbeats 2000000

noncomputable section

namespace Cert.ReferenceIdeal.Pf

open Cert.ReferenceIdeal Cert.ReferenceIdeal.Gen

open Idealize.ShloMosaic Idealize.ShloMosaic.TcCoe Idealize.ShloMosaic.Tactic
open Idealize.SL Idealize.SL.RA Idealize.SL.BI
open Idealize.SL.BI.BIBase Idealize.SL.Sem
open Idealize.ShloMosaic.StableHlo

variable {F : FTy → Type} [FloatOps F]

variable (V : Valuation τ sig (Elt F))

theorem idx1_slab : after idx1 V (Proc.devRef .tc main_while1b_v26) = slabT (V (Proc.devRef .tc main_v11_0)) (V (Proc.devRef .tc main_v11_5)) := by
  unfold slabT
  after_results_entrywise [cast_eq]

theorem gts1_gates : after gts1 V (Proc.devRef .tc main_while1b_v37) = gatesT (V (Proc.devRef .tc main_while1b_v26)) (V (Proc.devRef .tc main_v11_1)) (V (Proc.devRef .tc main_v11_2)) (V (Proc.devRef .tc main_v11_3)) (V (Proc.devRef .tc main_v11_4)) (V (Proc.devRef .tc main_v11_6)) := by
  after_reads_simp
  rfl

theorem cel1_cell : after cel1 V (Proc.devRef .tc main_while1b_v63) = cellT (V (Proc.devRef .tc main_while1b_v37)) (V (Proc.devRef .tc main_v11_7)) := by
  after_reads_simp
  rfl

theorem cel1_hid : after cel1 V (Proc.devRef .tc main_while1b_v65) = hidT (V (Proc.devRef .tc main_while1b_v37)) (V (Proc.devRef .tc main_v11_7)) := by
  after_reads_simp
  rfl

theorem upd1_put : after upd1 V (Proc.devRef .tc main_while1b_v66) = putT (V (Proc.devRef .tc main_v11_8)) (V (Proc.devRef .tc main_while1b_v65)) (V (Proc.devRef .tc main_v11_5)) := by
  unfold putT
  after_results_entrywise [cast_eq]

theorem nxt1_6 : after nxt1 V (Proc.devRef .tc main_v11_6) = V (Proc.devRef .tc main_while1b_v65) := by
  after_reads_simp
  rfl

theorem nxt1_7 : after nxt1 V (Proc.devRef .tc main_v11_7) = V (Proc.devRef .tc main_while1b_v63) := by
  after_reads_simp
  rfl

theorem nxt1_8 : after nxt1 V (Proc.devRef .tc main_v11_8) = V (Proc.devRef .tc main_while1b_v66) := by
  after_reads_simp
  rfl

end Cert.ReferenceIdeal.Pf

end
-- ==== Proof.RI.Math.lean ====
/-
  The reference's terms read at an index, over the extended reals: one step of a scan is the model's step, row by row.
-/
module

public import proofs.«01_k».proof.Proof.RI.Terms
public import proofs.«01_k».proof.Proof.Model
public import Idealize.ShloMosaic.Lib.StableHlo.Predicate
public import Idealize.ShloMosaic.Lib.ReduceAll

@[expose] public section

set_option maxRecDepth 16384
set_option maxHeartbeats 2000000

noncomputable section

namespace Cert.ReferenceIdeal.Pf

open Cert.ReferenceIdeal Cert.ReferenceIdeal.Gen
open Idealize.ShloMosaic
open Cert.Lstm

/-- The model's weights of the arrays of one layer. -/
def parOf (wi wh : FVec Ideal S512x128 .f32) (bi bh : FVec Ideal S512 .f32) : Par :=
  ⟨fun j k => wi (ix2 j k), fun j k => wh (ix2 j k), fun j => bi (ix1 j), fun j => bh (ix1 j)⟩

theorem gatesT_apply (x : FVec Ideal S1024x128 .f32) (wi wh : FVec Ideal S512x128 .f32) (bi bh : FVec Ideal S512 .f32)
    (h : FVec Ideal S1024x128 .f32) (b : Fin 1024) (j : Fin 512) :
    gatesT x wi bi wh bh h (ix2 b j) = gate (parOf wi wh bi bh) (fun k => x (ix2 b k)) (fun k => h (ix2 b k)) j := by
  pointwise [gatesT, gate, parOf]

theorem sigT_apply (x : FVec Ideal S1024x128 .f32) (b : Fin 1024) (j : Fin 128) :
    sigT x (ix2 b j) = Ideal.logistic (x (ix2 b j)) := by
  pointwise [sigT, Ideal.logistic]

theorem cellT_apply (g : FVec Ideal S1024x512 .f32) (c : FVec Ideal S1024x128 .f32) (b : Fin 1024) (j : Fin 128) :
    cellT g c (ix2 b j) = cellOf (fun k => g (ix2 b k)) (fun k => c (ix2 b k)) j := by
  pointwise [cellT, cellOf, sigT, Ideal.logistic, at', Nat.zero_add]

theorem hidT_apply (g : FVec Ideal S1024x512 .f32) (c : FVec Ideal S1024x128 .f32) (b : Fin 1024) (j : Fin 128) :
    hidT g c (ix2 b j) = hidOf (fun k => g (ix2 b k)) (fun k => c (ix2 b k)) j := by
  pointwise [hidT, cellT, hidOf, cellOf, sigT, Ideal.logistic, at', Nat.zero_add]

theorem outT_apply (h : FVec Ideal S1024x128 .f32) (w : FVec Ideal S4x128 .f32) (bb : FVec Ideal S4 .f32) (b : Fin 1024) :
    outT h w bb (ix1 b) = prob (fun k => h (ix2 b k)) (fun k => w (ix2 3 k)) (bb (ix1 3)) := by
  pointwise [outT, prob, Ideal.logistic]

theorem zeroT_apply (b : Fin 1024) (j : Fin 128) : (broadcastInDim S1024x128 ![] bcast_S_S1024x128 (constant (F := Ideal) S_ .f32 0x00000000#32)) (ix2 b j) = 0 := by
  pointwise

/-- The counter's word at trip `n`, read signed. -/
theorem iv_int (n : ℕ) (hn : n < 200) : (Scf.iv 0#32 1#32 n).toInt = n := by
  rw [Scf.toInt_iv (ub := 200#32) (by decide) (show n ≤ Scf.trips 0#32 200#32 1#32 from Nat.le_of_lt hn)]
  show (0 : Int) + n * 1 = n
  omega

/-- Where a slab of the stack starts: at the counter, and at 0 on the other two dimensions. -/
abbrev startT (i : IVec S_ 32) : Fin 3 → Int := fun k => ((![i, constantI S_ 32 0#32, constantI S_ 32 0#32] : Fin 3 → IVec S_ 32) k (Shape.Idx.first h_S_)).toInt

theorem start0 (hr : S1x1024x128.rank = S200x1024x128.rank) (n : ℕ) (hn : n < 200) :
    Host.clampedStart S200x1024x128 S1x1024x128 hr (startT fun _ => Scf.iv 0#32 1#32 n) 0 = n :=
  Host.clampedStart_of_le hr _ 0 n (iv_int n hn) (by show n + 1 ≤ 200; omega)

theorem start1 (hr : S1x1024x128.rank = S200x1024x128.rank) (i : IVec S_ 32) :
    Host.clampedStart S200x1024x128 S1x1024x128 hr (startT i) 1 = 0 :=
  Host.clampedStart_of_le hr _ 1 0 rfl (by show 0 + 1024 ≤ 1024; omega)

theorem start2 (hr : S1x1024x128.rank = S200x1024x128.rank) (i : IVec S_ 32) :
    Host.clampedStart S200x1024x128 S1x1024x128 hr (startT i) 2 = 0 :=
  Host.clampedStart_of_le hr _ 2 0 rfl (by show 0 + 128 ≤ 128; omega)

theorem slabT_apply (x : FVec Ideal S200x1024x128 .f32) (n : ℕ) (hn : n < 200) (b : Fin 1024) (j : Fin 128) :
    slabT x (fun _ => Scf.iv 0#32 1#32 n) (ix2 b j) = x (ix3 ⟨n, hn⟩ b j) := by
  pointwise [slabT]
  simp only [start0 _ n hn, start1, start2, Nat.zero_add, Fin.eta]

theorem putT_apply (x : FVec Ideal S200x1024x128 .f32) (u : FVec Ideal S1024x128 .f32) (n : ℕ) (hn : n < 200) (t : Fin 200) (b : Fin 1024) (j : Fin 128) :
    putT x u (fun _ => Scf.iv 0#32 1#32 n) (ix3 t b j) = if t.val = n then u (ix2 b j) else x (ix3 t b j) := by
  pointwise [putT]
  simp only [start0 _ n hn, start1, start2, Nat.sub_zero, Fin.eta, Nat.zero_le, and_true, dite_eq_ite]
  exact if_congr (by omega) rfl rfl

/-! ## The lookup -/

theorem idxT_apply (x : IVec S1024x200 32) (hx : ∀ i, (x i).toNat < 100000) (b : Fin 1024) (t : Fin 200) (k : Fin 1) : idxT x (ix3 b t k) = x (ix2 b t) := by
  have h0 := hx (ix2 b t)
  have hs : ¬ IntOp.cmpi .slt (x (ix2 b t)) 0#32 = 1#1 := fun e =>
    absurd ((StableHlo.Predicate.slt_iff_toNat (by omega) (by decide)).mp e) (Nat.not_lt_zero _)
  pointwise [idxT]
  unfold Scalar.select
  exact if_neg hs

theorem okT_apply (x : IVec S1024x200 32) (hx : ∀ i, (x i).toNat < 100000) (i : S1024x200.Idx) : okT x i = 1#1 := by
  refine Host.reduce_andi_one _ _ _ _ _ rfl fun j => ?_
  idx_vars j
  have h0 := hx (ix2 j0 j1)
  show IntOp.andi (IntOp.cmpi .sge (idxT x _) 0#32) (IntOp.cmpi .sle (idxT x _) 99999#32) = 1#1
  rw [idxT_apply x hx, (StableHlo.Predicate.sge_iff_toNat (by omega) (by decide)).mpr (Nat.zero_le _),
    (StableHlo.Predicate.sle_iff_toNat (by omega) (by decide)).mpr (show (x (ix2 j0 j1)).toNat ≤ 99999 by omega)]
  rfl

/-- The lookup's row at a batch row and a step: the table's row at that index word, read signed and clamped. -/
theorem gather_at (e : FVec Ideal S100000x128 .f32) (ix : IVec S1024x200x1 32) (b : Fin 1024) (t : Fin 200) (j : Fin 128) :
    Host.gather gather_S100000x128_S1024x200x1_S1024x200x128_2_0_n_n_0_2_1128 e ix (ix3 b t j)
      = e (ix2 ⟨min (ix (ix3 b t 0)).toInt.toNat 99999, by omega⟩ j) := by
  show e (GatherDims.operandIdx _ _ _) = _
  congr 1
  funext a
  apply Fin.ext
  show GatherDims.start _ _ _ a + GatherDims.batchCoord _ _ a + GatherDims.offCoord _ _ a = _
  rw [GatherDims.batchCoord_eq_zero _ _ _ List.not_mem_nil, Nat.add_zero]
  have h01 : a = (0 : Fin 2) ∨ a = (1 : Fin 2) := by
    match a with
    | ⟨0, _⟩ => exact .inl rfl
    | ⟨1, _⟩ => exact .inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S100000x128_S1024x200x1_S1024x200x128_2_0_n_n_0_2_1128.startIndexMap from List.mem_singleton.mpr rfl)]
    refine congrArg (fun z => min (ix z).toInt.toNat 99999) ?_
    funext c
    match c with
    | ⟨0, _⟩ => rfl
    | ⟨1, _⟩ => rfl
    | ⟨2, _⟩ => rfl
  · unfold GatherDims.start
    rw [dif_neg (show ¬ (1 : Fin 2) ∈ gather_S100000x128_S1024x200x1_S1024x200x128_2_0_n_n_0_2_1128.startIndexMap from fun h => absurd (List.mem_singleton.mp h) (by decide)), Nat.zero_add]
    rfl

theorem select_one {s : Shape} {α : Type} (c : IVec s 1) (x y : s.Idx → α) (i : s.Idx) (h : c i = 1#1) : select c x y i = x i := by
  unfold select Scalar.select
  exact if_pos h

/-- In range, the lookup's row is the table's row at the index. -/
theorem takeT_apply (x : IVec S1024x200 32) (hx : ∀ i, (x i).toNat < 100000) (e : FVec Ideal S100000x128 .f32) (b : Fin 1024) (t : Fin 200) (j : Fin 128) :
    takeT x e (ix3 b t j) = e (ix2 ⟨(x (ix2 b t)).toNat, hx _⟩ j) := by
  have hm : (broadcastInDim S1024x200x128 ![0, 1] bcast_S1024x200_S1024x200x128_0_1 (okT x)) (ix3 b t j) = 1#1 := okT_apply x hx _
  unfold takeT
  rw [select_one _ _ _ _ hm]
  rw [gather_at]
  refine congrArg (fun r : Fin 100000 => e (ix2 r j)) (Fin.ext ?_)
  show min (idxT x (ix3 b t 0)).toInt.toNat 99999 = (x (ix2 b t)).toNat
  have h0 := hx (ix2 b t)
  rw [idxT_apply x hx, StableHlo.Predicate.toInt_eq_toNat_of_lt (by omega)]
  omega

theorem swap_swap (x : FVec Ideal S200x1024x128 .f32) : transpose S200x1024x128 [1, 0, 2] (transpose S1024x200x128 [1, 0, 2] x transposes_S200x1024x128_S1024x200x128_1_0_2) transposes_S1024x200x128_S200x1024x128_1_0_2 = x := by
  funext i
  idx_vars i
  pointwise

end Cert.ReferenceIdeal.Pf

end
-- ==== Proof.RI.Value.lean ====
/-
  The reference's value over the extended reals: each scan's carried states are the model's, trip by trip; the result is
  the model's probability at the second layer's last hidden state.
-/
module

public import proofs.«01_k».proof.Proof.RI.Host
public import proofs.«01_k».proof.Proof.RI.Step0
public import proofs.«01_k».proof.Proof.RI.Step1
public import proofs.«01_k».proof.Proof.RI.Math

@[expose] public section

set_option maxRecDepth 16384
set_option maxHeartbeats 1000000

noncomputable section

namespace Cert.ReferenceIdeal.Pf

open Cert.ReferenceIdeal Cert.ReferenceIdeal.Gen

open Idealize.ShloMosaic Idealize.ShloMosaic.TcCoe
open Idealize.SL Idealize.SL.RA Idealize.SL.BI
open Idealize.SL.BI.BIBase Idealize.SL.Sem
open Idealize.ShloMosaic.StableHlo
open Cert.Lstm

/-- Row `b` of a block of 1024 rows. -/
def blk (x : FVec Ideal S1024x128 .f32) (b : Fin 1024) : Row := fun k => x (ix2 b k)

/-- Row `b` of each slab of a stack of 200. -/
def inp (x : FVec Ideal S200x1024x128 .f32) (b : Fin 1024) (s : ℕ) : Row := fun k => if h : s < 200 then x (ix3 ⟨s, h⟩ b k) else 0

/-- One step on blocks is the model's step on each row. -/
theorem step_hid (x : FVec Ideal S200x1024x128 .f32) (wi wh : FVec Ideal S512x128 .f32) (bi bh : FVec Ideal S512 .f32) (h cc : FVec Ideal S1024x128 .f32)
    (n : ℕ) (hn : n < 200) (b : Fin 1024) :
    blk (hidT (gatesT (slabT x (fun _ => Scf.iv 0#32 1#32 n)) wi bi wh bh h) cc) b
      = hidOf (gate (parOf wi wh bi bh) (inp x b n) (blk h b)) (blk cc b) := by
  funext j
  unfold blk
  rw [hidT_apply]
  refine congrArg (fun g => hidOf g _ j) (funext fun q => ?_)
  rw [gatesT_apply]
  refine congrArg (fun r => gate _ r _ q) (funext fun k => ?_)
  rw [slabT_apply _ _ hn, inp, dif_pos hn]

theorem step_cell (x : FVec Ideal S200x1024x128 .f32) (wi wh : FVec Ideal S512x128 .f32) (bi bh : FVec Ideal S512 .f32) (h cc : FVec Ideal S1024x128 .f32)
    (n : ℕ) (hn : n < 200) (b : Fin 1024) :
    blk (cellT (gatesT (slabT x (fun _ => Scf.iv 0#32 1#32 n)) wi bi wh bh h) cc) b
      = cellOf (gate (parOf wi wh bi bh) (inp x b n) (blk h b)) (blk cc b) := by
  funext j
  unfold blk
  rw [cellT_apply]
  refine congrArg (fun g => cellOf g _ j) (funext fun q => ?_)
  rw [gatesT_apply]
  refine congrArg (fun r => gate _ r _ q) (funext fun k => ?_)
  rw [slabT_apply _ _ hn, inp, dif_pos hn]

/-! ## Scan 0 -/

/-- The gates that one trip of scan 0 makes. -/
theorem trip0_gates (V : Valuation τ sig (Elt Ideal)) : after gts0 (after idx0 V) (Proc.devRef .tc main_while0b_v37) = (gatesT (F := Ideal) (slabT (F := Ideal) (V (Proc.devRef .tc main_v5_0)) (V (Proc.devRef .tc main_v5_5))) (V (Proc.devRef .tc main_v5_1)) (V (Proc.devRef .tc main_v5_2)) (V (Proc.devRef .tc main_v5_3)) (V (Proc.devRef .tc main_v5_4)) (V (Proc.devRef .tc main_v5_6))) := by
  rw [gts0_gates, idx0_slab, idx0_keep _ main_v5_1 (by decide), idx0_keep _ main_v5_2 (by decide), idx0_keep _ main_v5_3 (by decide), idx0_keep _ main_v5_4 (by decide), idx0_keep _ main_v5_6 (by decide)]

/-- The hidden state that one trip of scan 0 leaves. -/
theorem trip0_hid (V : Valuation τ sig (Elt Ideal)) : afterL body0 V (Proc.devRef .tc main_v5_6) = hidT (F := Ideal) (gatesT (F := Ideal) (slabT (F := Ideal) (V (Proc.devRef .tc main_v5_0)) (V (Proc.devRef .tc main_v5_5))) (V (Proc.devRef .tc main_v5_1)) (V (Proc.devRef .tc main_v5_2)) (V (Proc.devRef .tc main_v5_3)) (V (Proc.devRef .tc main_v5_4)) (V (Proc.devRef .tc main_v5_6))) (V (Proc.devRef .tc main_v5_7)) := by
  simp only [afterL_cons, afterL_nil]
  rw [nxt0_6, upd0_keep _ main_while0b_v65 (by decide), cel0_hid, trip0_gates, gts0_keep _ main_v5_7 (by decide), idx0_keep _ main_v5_7 (by decide)]

/-- The cell state that one trip of scan 0 leaves. -/
theorem trip0_cell (V : Valuation τ sig (Elt Ideal)) : afterL body0 V (Proc.devRef .tc main_v5_7) = cellT (F := Ideal) (gatesT (F := Ideal) (slabT (F := Ideal) (V (Proc.devRef .tc main_v5_0)) (V (Proc.devRef .tc main_v5_5))) (V (Proc.devRef .tc main_v5_1)) (V (Proc.devRef .tc main_v5_2)) (V (Proc.devRef .tc main_v5_3)) (V (Proc.devRef .tc main_v5_4)) (V (Proc.devRef .tc main_v5_6))) (V (Proc.devRef .tc main_v5_7)) := by
  simp only [afterL_cons, afterL_nil]
  rw [nxt0_7, upd0_keep _ main_while0b_v63 (by decide), cel0_cell, trip0_gates, gts0_keep _ main_v5_7 (by decide), idx0_keep _ main_v5_7 (by decide)]

/-- The stack of hidden states that one trip of scan 0 leaves. -/
theorem trip0_put (V : Valuation τ sig (Elt Ideal)) : afterL body0 V (Proc.devRef .tc main_v5_8) = putT (F := Ideal) (V (Proc.devRef .tc main_v5_8)) (hidT (F := Ideal) (gatesT (F := Ideal) (slabT (F := Ideal) (V (Proc.devRef .tc main_v5_0)) (V (Proc.devRef .tc main_v5_5))) (V (Proc.devRef .tc main_v5_1)) (V (Proc.devRef .tc main_v5_2)) (V (Proc.devRef .tc main_v5_3)) (V (Proc.devRef .tc main_v5_4)) (V (Proc.devRef .tc main_v5_6))) (V (Proc.devRef .tc main_v5_7))) (V (Proc.devRef .tc main_v5_5)) := by
  simp only [afterL_cons, afterL_nil]
  rw [nxt0_8, upd0_put, cel0_hid, trip0_gates, gts0_keep _ main_v5_7 (by decide), idx0_keep _ main_v5_7 (by decide), cel0_keep _ main_v5_8 (by decide), gts0_keep _ main_v5_8 (by decide), idx0_keep _ main_v5_8 (by decide), cel0_keep _ main_v5_5 (by decide), gts0_keep _ main_v5_5 (by decide), idx0_keep _ main_v5_5 (by decide)]

/-- Before trip `n` of scan 0 every row's states are the model's after `n` steps, and the stack's first `n` slabs are the
    hidden states after the steps so far. -/
theorem scan0 (W₀ : Dev nD → Valuation τ sig (Elt Ideal)) (c : Dev nD) (h5 : W₀ c (Proc.devRef .tc main_v5_5) = fun _ => (0#32 : BitVec 32))
    (h6 : W₀ c (Proc.devRef .tc main_v5_6) = zeroT (F := Ideal)) (h7 : W₀ c (Proc.devRef .tc main_v5_7) = zeroT (F := Ideal)) (b : Fin 1024) : ∀ n, n ≤ 200 →
      (blk (atTrip cnd0 body0 W₀ n c (Proc.devRef .tc main_v5_6)) b, blk (atTrip cnd0 body0 W₀ n c (Proc.devRef .tc main_v5_7)) b)
        = roll (parOf (W₀ c (Proc.devRef .tc main_v5_1)) (W₀ c (Proc.devRef .tc main_v5_3)) (W₀ c (Proc.devRef .tc main_v5_2)) (W₀ c (Proc.devRef .tc main_v5_4))) (inp (W₀ c (Proc.devRef .tc main_v5_0)) b) n
      ∧ ∀ s < n, inp (atTrip cnd0 body0 W₀ n c (Proc.devRef .tc main_v5_8)) b s = (roll (parOf (W₀ c (Proc.devRef .tc main_v5_1)) (W₀ c (Proc.devRef .tc main_v5_3)) (W₀ c (Proc.devRef .tc main_v5_2)) (W₀ c (Proc.devRef .tc main_v5_4))) (inp (W₀ c (Proc.devRef .tc main_v5_0)) b) (s + 1)).1
  | 0, _ => by
    refine ⟨?_, fun s hs => absurd hs (Nat.not_lt_zero s)⟩
    rw [atTrip_zero, h6, h7]
    exact Prod.ext (funext fun j => zeroT_apply b j) (funext fun j => zeroT_apply b j)
  | n + 1, hn => by
    obtain ⟨ih, ihs⟩ := scan0 W₀ c h5 h6 h7 b n (Nat.le_of_succ_le hn)
    have i6 : blk (atTrip cnd0 body0 W₀ n c (Proc.devRef .tc main_v5_6)) b = (roll (parOf (W₀ c (Proc.devRef .tc main_v5_1)) (W₀ c (Proc.devRef .tc main_v5_3)) (W₀ c (Proc.devRef .tc main_v5_2)) (W₀ c (Proc.devRef .tc main_v5_4))) (inp (W₀ c (Proc.devRef .tc main_v5_0)) b) n).1 := congrArg Prod.fst ih
    have i7 : blk (atTrip cnd0 body0 W₀ n c (Proc.devRef .tc main_v5_7)) b = (roll (parOf (W₀ c (Proc.devRef .tc main_v5_1)) (W₀ c (Proc.devRef .tc main_v5_3)) (W₀ c (Proc.devRef .tc main_v5_2)) (W₀ c (Proc.devRef .tc main_v5_4))) (inp (W₀ c (Proc.devRef .tc main_v5_0)) b) n).2 := congrArg Prod.snd ih
    have e (r : Ref sig .tc) (hc : r ∉ cnd0W) : after cnd0 (atTrip cnd0 body0 W₀ n c) (Proc.devRef .tc r) = atTrip cnd0 body0 W₀ n c (Proc.devRef .tc r) := cnd0_keep _ _ hc
    have kp (r : Ref sig .tc) (hc : r ∉ cnd0W) (hi : r ∉ idx0W) (hg : r ∉ gts0W) (hl : r ∉ cel0W) (hu : r ∉ upd0W) (hx : r ∉ nxt0W) :
        atTrip cnd0 body0 W₀ n c (Proc.devRef .tc r) = W₀ c (Proc.devRef .tc r) := trips0_keep W₀ c r hc hi hg hl hu hx n
    have hh : blk (atTrip cnd0 body0 W₀ (n + 1) c (Proc.devRef .tc main_v5_6)) b = (roll (parOf (W₀ c (Proc.devRef .tc main_v5_1)) (W₀ c (Proc.devRef .tc main_v5_3)) (W₀ c (Proc.devRef .tc main_v5_2)) (W₀ c (Proc.devRef .tc main_v5_4))) (inp (W₀ c (Proc.devRef .tc main_v5_0)) b) (n + 1)).1 := by
      rw [atTrip_succ, trip0_hid, e main_v5_0 (by decide), e main_v5_1 (by decide), e main_v5_2 (by decide), e main_v5_3 (by decide), e main_v5_4 (by decide), e main_v5_5 (by decide), e main_v5_6 (by decide), e main_v5_7 (by decide),
        kp main_v5_0 (by decide) (by decide) (by decide) (by decide) (by decide) (by decide), kp main_v5_1 (by decide) (by decide) (by decide) (by decide) (by decide) (by decide), kp main_v5_2 (by decide) (by decide) (by decide) (by decide) (by decide) (by decide), kp main_v5_3 (by decide) (by decide) (by decide) (by decide) (by decide) (by decide), kp main_v5_4 (by decide) (by decide) (by decide) (by decide) (by decide) (by decide), ctr0_at W₀ c h5 n]
      refine (step_hid _ _ _ _ _ _ _ n hn b).trans ?_
      rw [i6, i7]
      rfl
    have hc : blk (atTrip cnd0 body0 W₀ (n + 1) c (Proc.devRef .tc main_v5_7)) b = (roll (parOf (W₀ c (Proc.devRef .tc main_v5_1)) (W₀ c (Proc.devRef .tc main_v5_3)) (W₀ c (Proc.devRef .tc main_v5_2)) (W₀ c (Proc.devRef .tc main_v5_4))) (inp (W₀ c (Proc.devRef .tc main_v5_0)) b) (n + 1)).2 := by
      rw [atTrip_succ, trip0_cell, e main_v5_0 (by decide), e main_v5_1 (by decide), e main_v5_2 (by decide), e main_v5_3 (by decide), e main_v5_4 (by decide), e main_v5_5 (by decide), e main_v5_6 (by decide), e main_v5_7 (by decide),
        kp main_v5_0 (by decide) (by decide) (by decide) (by decide) (by decide) (by decide), kp main_v5_1 (by decide) (by decide) (by decide) (by decide) (by decide) (by decide), kp main_v5_2 (by decide) (by decide) (by decide) (by decide) (by decide) (by decide), kp main_v5_3 (by decide) (by decide) (by decide) (by decide) (by decide) (by decide), kp main_v5_4 (by decide) (by decide) (by decide) (by decide) (by decide) (by decide), ctr0_at W₀ c h5 n]
      refine (step_cell _ _ _ _ _ _ _ n hn b).trans ?_
      rw [i6, i7]
      rfl
    refine ⟨Prod.ext hh hc, fun s hs => ?_⟩
    have hput : atTrip cnd0 body0 W₀ (n + 1) c (Proc.devRef .tc main_v5_8) = putT (F := Ideal) (atTrip cnd0 body0 W₀ n c (Proc.devRef .tc main_v5_8)) (atTrip cnd0 body0 W₀ (n + 1) c (Proc.devRef .tc main_v5_6)) (fun _ => Scf.iv 0#32 1#32 n) := by
      rw [atTrip_succ, trip0_put, trip0_hid, e main_v5_8 (by decide), e main_v5_5 (by decide), ctr0_at W₀ c h5 n]
      rfl
    rw [hput]
    funext j
    have hs2 : s < 200 := Nat.lt_of_lt_of_le hs hn
    rw [inp, dif_pos hs2, putT_apply _ _ n hn]
    rcases Nat.lt_succ_iff_lt_or_eq.mp hs with h | h
    · rw [if_neg (Nat.ne_of_lt h)]
      have := congrFun (ihs s h) j
      rwa [inp, dif_pos hs2] at this
    · subst h
      rw [if_pos rfl]
      exact congrFun hh j

/-! ## Scan 1 -/

/-- The gates that one trip of scan 1 makes. -/
theorem trip1_gates (V : Valuation τ sig (Elt Ideal)) : after gts1 (after idx1 V) (Proc.devRef .tc main_while1b_v37) = (gatesT (F := Ideal) (slabT (F := Ideal) (V (Proc.devRef .tc main_v11_0)) (V (Proc.devRef .tc main_v11_5))) (V (Proc.devRef .tc main_v11_1)) (V (Proc.devRef .tc main_v11_2)) (V (Proc.devRef .tc main_v11_3)) (V (Proc.devRef .tc main_v11_4)) (V (Proc.devRef .tc main_v11_6))) := by
  rw [gts1_gates, idx1_slab, idx1_keep _ main_v11_1 (by decide), idx1_keep _ main_v11_2 (by decide), idx1_keep _ main_v11_3 (by decide), idx1_keep _ main_v11_4 (by decide), idx1_keep _ main_v11_6 (by decide)]

/-- The hidden state that one trip of scan 1 leaves. -/
theorem trip1_hid (V : Valuation τ sig (Elt Ideal)) : afterL body1 V (Proc.devRef .tc main_v11_6) = hidT (F := Ideal) (gatesT (F := Ideal) (slabT (F := Ideal) (V (Proc.devRef .tc main_v11_0)) (V (Proc.devRef .tc main_v11_5))) (V (Proc.devRef .tc main_v11_1)) (V (Proc.devRef .tc main_v11_2)) (V (Proc.devRef .tc main_v11_3)) (V (Proc.devRef .tc main_v11_4)) (V (Proc.devRef .tc main_v11_6))) (V (Proc.devRef .tc main_v11_7)) := by
  simp only [afterL_cons, afterL_nil]
  rw [nxt1_6, upd1_keep _ main_while1b_v65 (by decide), cel1_hid, trip1_gates, gts1_keep _ main_v11_7 (by decide), idx1_keep _ main_v11_7 (by decide)]

/-- The cell state that one trip of scan 1 leaves. -/
theorem trip1_cell (V : Valuation τ sig (Elt Ideal)) : afterL body1 V (Proc.devRef .tc main_v11_7) = cellT (F := Ideal) (gatesT (F := Ideal) (slabT (F := Ideal) (V (Proc.devRef .tc main_v11_0)) (V (Proc.devRef .tc main_v11_5))) (V (Proc.devRef .tc main_v11_1)) (V (Proc.devRef .tc main_v11_2)) (V (Proc.devRef .tc main_v11_3)) (V (Proc.devRef .tc main_v11_4)) (V (Proc.devRef .tc main_v11_6))) (V (Proc.devRef .tc main_v11_7)) := by
  simp only [afterL_cons, afterL_nil]
  rw [nxt1_7, upd1_keep _ main_while1b_v63 (by decide), cel1_cell, trip1_gates, gts1_keep _ main_v11_7 (by decide), idx1_keep _ main_v11_7 (by decide)]

/-- The stack of hidden states that one trip of scan 1 leaves. -/
theorem trip1_put (V : Valuation τ sig (Elt Ideal)) : afterL body1 V (Proc.devRef .tc main_v11_8) = putT (F := Ideal) (V (Proc.devRef .tc main_v11_8)) (hidT (F := Ideal) (gatesT (F := Ideal) (slabT (F := Ideal) (V (Proc.devRef .tc main_v11_0)) (V (Proc.devRef .tc main_v11_5))) (V (Proc.devRef .tc main_v11_1)) (V (Proc.devRef .tc main_v11_2)) (V (Proc.devRef .tc main_v11_3)) (V (Proc.devRef .tc main_v11_4)) (V (Proc.devRef .tc main_v11_6))) (V (Proc.devRef .tc main_v11_7))) (V (Proc.devRef .tc main_v11_5)) := by
  simp only [afterL_cons, afterL_nil]
  rw [nxt1_8, upd1_put, cel1_hid, trip1_gates, gts1_keep _ main_v11_7 (by decide), idx1_keep _ main_v11_7 (by decide), cel1_keep _ main_v11_8 (by decide), gts1_keep _ main_v11_8 (by decide), idx1_keep _ main_v11_8 (by decide), cel1_keep _ main_v11_5 (by decide), gts1_keep _ main_v11_5 (by decide), idx1_keep _ main_v11_5 (by decide)]

/-- Before trip `n` of scan 1 every row's states are the model's after `n` steps, and the stack's first `n` slabs are the
    hidden states after the steps so far. -/
theorem scan1 (W₀ : Dev nD → Valuation τ sig (Elt Ideal)) (c : Dev nD) (h5 : W₀ c (Proc.devRef .tc main_v11_5) = fun _ => (0#32 : BitVec 32))
    (h6 : W₀ c (Proc.devRef .tc main_v11_6) = zeroT (F := Ideal)) (h7 : W₀ c (Proc.devRef .tc main_v11_7) = zeroT (F := Ideal)) (b : Fin 1024) : ∀ n, n ≤ 200 →
      (blk (atTrip cnd1 body1 W₀ n c (Proc.devRef .tc main_v11_6)) b, blk (atTrip cnd1 body1 W₀ n c (Proc.devRef .tc main_v11_7)) b)
        = roll (parOf (W₀ c (Proc.devRef .tc main_v11_1)) (W₀ c (Proc.devRef .tc main_v11_3)) (W₀ c (Proc.devRef .tc main_v11_2)) (W₀ c (Proc.devRef .tc main_v11_4))) (inp (W₀ c (Proc.devRef .tc main_v11_0)) b) n
      ∧ ∀ s < n, inp (atTrip cnd1 body1 W₀ n c (Proc.devRef .tc main_v11_8)) b s = (roll (parOf (W₀ c (Proc.devRef .tc main_v11_1)) (W₀ c (Proc.devRef .tc main_v11_3)) (W₀ c (Proc.devRef .tc main_v11_2)) (W₀ c (Proc.devRef .tc main_v11_4))) (inp (W₀ c (Proc.devRef .tc main_v11_0)) b) (s + 1)).1
  | 0, _ => by
    refine ⟨?_, fun s hs => absurd hs (Nat.not_lt_zero s)⟩
    rw [atTrip_zero, h6, h7]
    exact Prod.ext (funext fun j => zeroT_apply b j) (funext fun j => zeroT_apply b j)
  | n + 1, hn => by
    obtain ⟨ih, ihs⟩ := scan1 W₀ c h5 h6 h7 b n (Nat.le_of_succ_le hn)
    have i6 : blk (atTrip cnd1 body1 W₀ n c (Proc.devRef .tc main_v11_6)) b = (roll (parOf (W₀ c (Proc.devRef .tc main_v11_1)) (W₀ c (Proc.devRef .tc main_v11_3)) (W₀ c (Proc.devRef .tc main_v11_2)) (W₀ c (Proc.devRef .tc main_v11_4))) (inp (W₀ c (Proc.devRef .tc main_v11_0)) b) n).1 := congrArg Prod.fst ih
    have i7 : blk (atTrip cnd1 body1 W₀ n c (Proc.devRef .tc main_v11_7)) b = (roll (parOf (W₀ c (Proc.devRef .tc main_v11_1)) (W₀ c (Proc.devRef .tc main_v11_3)) (W₀ c (Proc.devRef .tc main_v11_2)) (W₀ c (Proc.devRef .tc main_v11_4))) (inp (W₀ c (Proc.devRef .tc main_v11_0)) b) n).2 := congrArg Prod.snd ih
    have e (r : Ref sig .tc) (hc : r ∉ cnd1W) : after cnd1 (atTrip cnd1 body1 W₀ n c) (Proc.devRef .tc r) = atTrip cnd1 body1 W₀ n c (Proc.devRef .tc r) := cnd1_keep _ _ hc
    have kp (r : Ref sig .tc) (hc : r ∉ cnd1W) (hi : r ∉ idx1W) (hg : r ∉ gts1W) (hl : r ∉ cel1W) (hu : r ∉ upd1W) (hx : r ∉ nxt1W) :
        atTrip cnd1 body1 W₀ n c (Proc.devRef .tc r) = W₀ c (Proc.devRef .tc r) := trips1_keep W₀ c r hc hi hg hl hu hx n
    have hh : blk (atTrip cnd1 body1 W₀ (n + 1) c (Proc.devRef .tc main_v11_6)) b = (roll (parOf (W₀ c (Proc.devRef .tc main_v11_1)) (W₀ c (Proc.devRef .tc main_v11_3)) (W₀ c (Proc.devRef .tc main_v11_2)) (W₀ c (Proc.devRef .tc main_v11_4))) (inp (W₀ c (Proc.devRef .tc main_v11_0)) b) (n + 1)).1 := by
      rw [atTrip_succ, trip1_hid, e main_v11_0 (by decide), e main_v11_1 (by decide), e main_v11_2 (by decide), e main_v11_3 (by decide), e main_v11_4 (by decide), e main_v11_5 (by decide), e main_v11_6 (by decide), e main_v11_7 (by decide),
        kp main_v11_0 (by decide) (by decide) (by decide) (by decide) (by decide) (by decide), kp main_v11_1 (by decide) (by decide) (by decide) (by decide) (by decide) (by decide), kp main_v11_2 (by decide) (by decide) (by decide) (by decide) (by decide) (by decide), kp main_v11_3 (by decide) (by decide) (by decide) (by decide) (by decide) (by decide), kp main_v11_4 (by decide) (by decide) (by decide) (by decide) (by decide) (by decide), ctr1_at W₀ c h5 n]
      refine (step_hid _ _ _ _ _ _ _ n hn b).trans ?_
      rw [i6, i7]
      rfl
    have hc : blk (atTrip cnd1 body1 W₀ (n + 1) c (Proc.devRef .tc main_v11_7)) b = (roll (parOf (W₀ c (Proc.devRef .tc main_v11_1)) (W₀ c (Proc.devRef .tc main_v11_3)) (W₀ c (Proc.devRef .tc main_v11_2)) (W₀ c (Proc.devRef .tc main_v11_4))) (inp (W₀ c (Proc.devRef .tc main_v11_0)) b) (n + 1)).2 := by
      rw [atTrip_succ, trip1_cell, e main_v11_0 (by decide), e main_v11_1 (by decide), e main_v11_2 (by decide), e main_v11_3 (by decide), e main_v11_4 (by decide), e main_v11_5 (by decide), e main_v11_6 (by decide), e main_v11_7 (by decide),
        kp main_v11_0 (by decide) (by decide) (by decide) (by decide) (by decide) (by decide), kp main_v11_1 (by decide) (by decide) (by decide) (by decide) (by decide) (by decide), kp main_v11_2 (by decide) (by decide) (by decide) (by decide) (by decide) (by decide), kp main_v11_3 (by decide) (by decide) (by decide) (by decide) (by decide) (by decide), kp main_v11_4 (by decide) (by decide) (by decide) (by decide) (by decide) (by decide), ctr1_at W₀ c h5 n]
      refine (step_cell _ _ _ _ _ _ _ n hn b).trans ?_
      rw [i6, i7]
      rfl
    refine ⟨Prod.ext hh hc, fun s hs => ?_⟩
    have hput : atTrip cnd1 body1 W₀ (n + 1) c (Proc.devRef .tc main_v11_8) = putT (F := Ideal) (atTrip cnd1 body1 W₀ n c (Proc.devRef .tc main_v11_8)) (atTrip cnd1 body1 W₀ (n + 1) c (Proc.devRef .tc main_v11_6)) (fun _ => Scf.iv 0#32 1#32 n) := by
      rw [atTrip_succ, trip1_put, trip1_hid, e main_v11_8 (by decide), e main_v11_5 (by decide), ctr1_at W₀ c h5 n]
      rfl
    rw [hput]
    funext j
    have hs2 : s < 200 := Nat.lt_of_lt_of_le hs hn
    rw [inp, dif_pos hs2, putT_apply _ _ n hn]
    rcases Nat.lt_succ_iff_lt_or_eq.mp hs with h | h
    · rw [if_neg (Nat.ne_of_lt h)]
      have := congrFun (ihs s h) j
      rwa [inp, dif_pos hs2] at this
    · subst h
      rw [if_pos rfl]
      exact congrFun hh j

/-! ## The program -/

variable (m : (ℓ : Loc nD τ sig) → Buf (Elt Ideal) ℓ) (c : Dev nD)

/-- The model's weights of the two layers, of the launch's arrays. -/
def par0 : Par := parOf (m (c, Proc.devRef .tc main_arg2)) (m (c, Proc.devRef .tc main_arg3)) (m (c, Proc.devRef .tc main_arg4)) (m (c, Proc.devRef .tc main_arg5))
def par1 : Par := parOf (m (c, Proc.devRef .tc main_arg6)) (m (c, Proc.devRef .tc main_arg7)) (m (c, Proc.devRef .tc main_arg8)) (m (c, Proc.devRef .tc main_arg9))

theorem W0_arg (r : Ref sig .tc) (hT : r ∉ opsTW) (hA : r ∉ opsAW) : W0 m c (Proc.devRef .tc r) = m (c, Proc.devRef .tc r) := by
  show after opsA _ _ = _
  rw [opsA_keep _ _ hA, opsT_keep _ _ hT]

/-- The first scan's inputs are the embedding rows of the step's indices. -/
theorem W0_inp (hx : ∀ i, ((m (c, Proc.devRef .tc main_arg0) : IVec S1024x200 32) i).toNat < 100000) (b : Fin 1024) (s : ℕ) (hs : s < 200) (k : Fin 128) :
    inp (W0 m c (Proc.devRef .tc main_v5_0)) b s k
      = (m (c, Proc.devRef .tc main_arg1) : FVec Ideal S100000x128 .f32) (ix2 ⟨((m (c, Proc.devRef .tc main_arg0) : IVec S1024x200 32) (ix2 b ⟨s, hs⟩)).toNat, hx _⟩ k) := by
  have e : W0 m c (Proc.devRef .tc main_v5_0) = transpose S200x1024x128 [1, 0, 2] (takeT (F := Ideal) (m (c, Proc.devRef .tc main_arg0)) (m (c, Proc.devRef .tc main_arg1))) transposes_S1024x200x128_S200x1024x128_1_0_2 := by
    exact (opsA_x (F := Ideal) _).trans (congrArg (fun z => transpose S200x1024x128 [1, 0, 2] z transposes_S1024x200x128_S200x1024x128_1_0_2) (opsT_v0 (F := Ideal) _))
  rw [e, inp, dif_pos hs, ← takeT_apply _ hx (m (c, Proc.devRef .tc main_arg1))]
  pointwise

theorem scan0_end (b : Fin 1024) (s : ℕ) (hs : s < 200) :
    inp (E0 m c (Proc.devRef .tc main_v5_8)) b s = (roll (par0 m c) (inp (W0 m c (Proc.devRef .tc main_v5_0)) b) (s + 1)).1 := by
  have h5 : W0 m c (Proc.devRef .tc main_v5_5) = fun _ => (0#32 : BitVec 32) := opsA_ctr (F := Ideal) _
  have h := (scan0 (W0 m) c h5 (opsA_6 (F := Ideal) _) (opsA_7 (F := Ideal) _) b 200 (Nat.le_refl _)).2 s hs
  have e : E0 m c (Proc.devRef .tc main_v5_8) = atTrip cnd0 body0 (W0 m) 200 c (Proc.devRef .tc main_v5_8) := cnd0_keep _ _ (by decide)
  have e1 : W0 m c (Proc.devRef .tc main_v5_1) = m (c, Proc.devRef .tc main_arg2) := (opsA_1 (F := Ideal) _).trans (opsT_keep _ _ (by decide))
  have e2 : W0 m c (Proc.devRef .tc main_v5_2) = m (c, Proc.devRef .tc main_arg4) := (opsA_2 (F := Ideal) _).trans (opsT_keep _ _ (by decide))
  have e3 : W0 m c (Proc.devRef .tc main_v5_3) = m (c, Proc.devRef .tc main_arg3) := (opsA_3 (F := Ideal) _).trans (opsT_keep _ _ (by decide))
  have e4 : W0 m c (Proc.devRef .tc main_v5_4) = m (c, Proc.devRef .tc main_arg5) := (opsA_4 (F := Ideal) _).trans (opsT_keep _ _ (by decide))
  rw [e1, e2, e3, e4] at h
  rw [e]
  exact h

theorem E0_arg (r : Ref sig .tc) (hT : r ∉ opsTW) (hA : r ∉ opsAW) (hc : r ∉ cnd0W) (hi : r ∉ idx0W) (hg : r ∉ gts0W) (hl : r ∉ cel0W) (hu : r ∉ upd0W) (hn : r ∉ nxt0W) :
    E0 m c (Proc.devRef .tc r) = m (c, Proc.devRef .tc r) := by
  show after cnd0 _ _ = _
  rw [cnd0_keep _ _ hc, trips0_keep _ c r hc hi hg hl hu hn, W0_arg m c r hT hA]

/-- The second scan's inputs are the first scan's hidden states. -/
theorem W1_inp (b : Fin 1024) (s : ℕ) (hs : s < 200) :
    inp (W1 m c (Proc.devRef .tc main_v11_0)) b s = (roll (par0 m c) (inp (W0 m c (Proc.devRef .tc main_v5_0)) b) (s + 1)).1 := by
  have e : W1 m c (Proc.devRef .tc main_v11_0) = E0 m c (Proc.devRef .tc main_v5_8) := (opsB_x (F := Ideal) _).trans (swap_swap _)
  rw [e, scan0_end m c b s hs]

theorem scan1_end (b : Fin 1024) :
    blk (E1 m c (Proc.devRef .tc main_v11_6)) b = top (par0 m c) (par1 m c) (inp (W0 m c (Proc.devRef .tc main_v5_0)) b) 200 := by
  have h5 : W1 m c (Proc.devRef .tc main_v11_5) = fun _ => (0#32 : BitVec 32) := opsB_ctr (F := Ideal) _
  have h := congrArg Prod.fst (scan1 (W1 m) c h5 (opsB_6 (F := Ideal) _) (opsB_7 (F := Ideal) _) b 200 (Nat.le_refl _)).1
  have e : E1 m c (Proc.devRef .tc main_v11_6) = atTrip cnd1 body1 (W1 m) 200 c (Proc.devRef .tc main_v11_6) := cnd1_keep _ _ (by decide)
  have e1 : W1 m c (Proc.devRef .tc main_v11_1) = m (c, Proc.devRef .tc main_arg6) := (opsB_1 (F := Ideal) _).trans (E0_arg m c main_arg6 (by decide) (by decide) (by decide) (by decide) (by decide) (by decide) (by decide) (by decide))
  have e2 : W1 m c (Proc.devRef .tc main_v11_2) = m (c, Proc.devRef .tc main_arg8) := (opsB_2 (F := Ideal) _).trans (E0_arg m c main_arg8 (by decide) (by decide) (by decide) (by decide) (by decide) (by decide) (by decide) (by decide))
  have e3 : W1 m c (Proc.devRef .tc main_v11_3) = m (c, Proc.devRef .tc main_arg7) := (opsB_3 (F := Ideal) _).trans (E0_arg m c main_arg7 (by decide) (by decide) (by decide) (by decide) (by decide) (by decide) (by decide) (by decide))
  have e4 : W1 m c (Proc.devRef .tc main_v11_4) = m (c, Proc.devRef .tc main_arg9) := (opsB_4 (F := Ideal) _).trans (E0_arg m c main_arg9 (by decide) (by decide) (by decide) (by decide) (by decide) (by decide) (by decide) (by decide))
  rw [e1, e2, e3, e4, roll_congr _ _ (fun s => (roll (par0 m c) (inp (W0 m c (Proc.devRef .tc main_v5_0)) b) (s + 1)).1) 200 (fun s hs => W1_inp m c b s hs)] at h
  rw [e]
  exact h

/-- THE REFERENCE'S VALUE: at each row the model's probability of the embedding rows and the launch's weights. -/
theorem value (b : Fin 1024) : (Wf m c (Proc.devRef .tc main_v25) : FVec Ideal S1024 .f32) (ix1 b)
    = prob (top (par0 m c) (par1 m c) (inp (W0 m c (Proc.devRef .tc main_v5_0)) b) 200)
        (fun k => (m (c, Proc.devRef .tc main_arg10) : FVec Ideal S4x128 .f32) (ix2 3 k)) ((m (c, Proc.devRef .tc main_arg11) : FVec Ideal S4 .f32) (ix1 3)) := by
  have e : Wf m c (Proc.devRef .tc main_v25) = outT (F := Ideal) (E1 m c (Proc.devRef .tc main_v11_6)) (E1 m c (Proc.devRef .tc main_arg10)) (E1 m c (Proc.devRef .tc main_arg11)) := opsC_out (F := Ideal) _
  have k (r : Ref sig .tc) (hc1 : r ∉ cnd1W) (hi1 : r ∉ idx1W) (hg1 : r ∉ gts1W) (hl1 : r ∉ cel1W) (hu1 : r ∉ upd1W) (hn1 : r ∉ nxt1W) : E1 m c (Proc.devRef .tc r) = W1 m c (Proc.devRef .tc r) := by
    show after cnd1 _ _ = _
    rw [cnd1_keep _ _ hc1, trips1_keep _ c r hc1 hi1 hg1 hl1 hu1 hn1]
  have e10 : E1 m c (Proc.devRef .tc main_arg10) = m (c, Proc.devRef .tc main_arg10) :=
    (k main_arg10 (by decide) (by decide) (by decide) (by decide) (by decide) (by decide)).trans (W1_keep m c main_arg10 (by decide) (by decide) (by decide) (by decide) (by decide) (by decide) (by decide) (by decide) (by decide))
  have e11 : E1 m c (Proc.devRef .tc main_arg11) = m (c, Proc.devRef .tc main_arg11) :=
    (k main_arg11 (by decide) (by decide) (by decide) (by decide) (by decide) (by decide)).trans (W1_keep m c main_arg11 (by decide) (by decide) (by decide) (by decide) (by decide) (by decide) (by decide) (by decide) (by decide))
  rw [e, e10, e11, outT_apply, ← scan1_end m c b]
  rfl

end Cert.ReferenceIdeal.Pf

end
-- ==== Proof.Alg.lean ====
/-
  The kernel and the reference over the extended reals: from memories that agree on the arguments, with the indices in
  range, both run and end with the same result, which is the model's probability at each row.
-/
module

public import proofs.«01_k».proof.Proof.KI.Value
public import proofs.«01_k».proof.Proof.RI.Value
public import proofs.«01_k».proof.Proof.Gen.Pre_in_range

@[expose] public section

set_option maxRecDepth 16384
set_option maxHeartbeats 1000000

noncomputable section

namespace Cert.Proof

open Idealize.ShloMosaic Idealize.ShloMosaic.TcCoe Idealize.SL Idealize.SL.Sem
open Cert.Lstm

/-- The second layer's hidden state after `t` steps depends on the first `t` inputs only. -/
theorem top_congr (p q : Par) (x y : ℕ → Row) (t : ℕ) (h : ∀ s < t, x s = y s) : top p q x t = top p q y t := by
  unfold top
  rw [roll_congr q _ _ t fun s hs => congrArg Prod.fst (roll_congr p x y (s + 1) fun r hr => h r (by omega))]

/-- Equal tables read at equal indices. -/
theorem read_congr (x x' : IVec ⟨2, ![1024, 200]⟩ 32) (e e' : FVec Ideal ⟨2, ![100000, 128]⟩ .f32) (hx : ∀ i, (x i).toNat < 100000) (hx' : ∀ i, (x' i).toNat < 100000)
    (h0 : x' = x) (h1 : e' = e) (b : Fin 1024) (s : Fin 200) (k : Fin 128) :
    e' (ix2 ⟨(x' (ix2 b s)).toNat, hx' _⟩ k) = e (ix2 ⟨(x (ix2 b s)).toNat, hx _⟩ k) := by
  subst h0 h1
  rfl

/-- Arrays of 1024 that agree at every index are equal. -/
theorem ext_row (x y : FVec Ideal ⟨1, ![1024]⟩ .f32) (h : ∀ b : Fin 1024, x (ix1 b) = y (ix1 b)) : x = y := by
  funext i
  idx_vars i
  exact h _

/-- The model's probability from equal arrays and inputs that agree. -/
theorem prob_congr (a2 a3 a6 a7 z2 z3 z6 z7 : FVec Ideal ⟨2, ![512, 128]⟩ .f32) (a4 a5 a8 a9 z4 z5 z8 z9 : FVec Ideal ⟨1, ![512]⟩ .f32)
    (a10 z10 : FVec Ideal ⟨2, ![4, 128]⟩ .f32) (a11 z11 : FVec Ideal ⟨1, ![4]⟩ .f32) (x y : ℕ → Row)
    (h2 : z2 = a2) (h3 : z3 = a3) (h4 : z4 = a4) (h5 : z5 = a5) (h6 : z6 = a6) (h7 : z7 = a7) (h8 : z8 = a8) (h9 : z9 = a9) (h10 : z10 = a10) (h11 : z11 = a11)
    (h : ∀ s < 200, x s = y s) :
    prob (top (Cert.ReferenceIdeal.Pf.parOf z2 z3 z4 z5) (Cert.ReferenceIdeal.Pf.parOf z6 z7 z8 z9) x 200) (fun k => z10 (ix2 3 k)) (z11 (ix1 3))
      = prob (top (Cert.KernelIdeal.Pf.parOf a2 a3 a4 a5) (Cert.KernelIdeal.Pf.parOf a6 a7 a8 a9) y 200) (fun k => a10 (ix2 3 k)) (a11 (ix1 3)) := by
  subst h2 h3 h4 h5 h6 h7 h8 h9 h10 h11
  rw [top_congr _ _ x y 200 h]
  rfl

/-- The two results, from arguments that agree. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hx : ∀ i, ((m (c, Proc.devRef .tc Cert.KernelIdeal.main_arg0) : IVec Cert.KernelIdeal.S1024x200 32) i).toNat < 100000)
    (h0 : m' (c, Proc.devRef .tc Cert.ReferenceIdeal.main_arg0) = m (c, Proc.devRef .tc Cert.KernelIdeal.main_arg0))
    (h1 : m' (c, Proc.devRef .tc Cert.ReferenceIdeal.main_arg1) = m (c, Proc.devRef .tc Cert.KernelIdeal.main_arg1))
    (h2 : m' (c, Proc.devRef .tc Cert.ReferenceIdeal.main_arg2) = m (c, Proc.devRef .tc Cert.KernelIdeal.main_arg2))
    (h3 : m' (c, Proc.devRef .tc Cert.ReferenceIdeal.main_arg3) = m (c, Proc.devRef .tc Cert.KernelIdeal.main_arg3))
    (h4 : m' (c, Proc.devRef .tc Cert.ReferenceIdeal.main_arg4) = m (c, Proc.devRef .tc Cert.KernelIdeal.main_arg4))
    (h5 : m' (c, Proc.devRef .tc Cert.ReferenceIdeal.main_arg5) = m (c, Proc.devRef .tc Cert.KernelIdeal.main_arg5))
    (h6 : m' (c, Proc.devRef .tc Cert.ReferenceIdeal.main_arg6) = m (c, Proc.devRef .tc Cert.KernelIdeal.main_arg6))
    (h7 : m' (c, Proc.devRef .tc Cert.ReferenceIdeal.main_arg7) = m (c, Proc.devRef .tc Cert.KernelIdeal.main_arg7))
    (h8 : m' (c, Proc.devRef .tc Cert.ReferenceIdeal.main_arg8) = m (c, Proc.devRef .tc Cert.KernelIdeal.main_arg8))
    (h9 : m' (c, Proc.devRef .tc Cert.ReferenceIdeal.main_arg9) = m (c, Proc.devRef .tc Cert.KernelIdeal.main_arg9))
    (h10 : m' (c, Proc.devRef .tc Cert.ReferenceIdeal.main_arg10) = m (c, Proc.devRef .tc Cert.KernelIdeal.main_arg10))
    (h11 : m' (c, Proc.devRef .tc Cert.ReferenceIdeal.main_arg11) = m (c, Proc.devRef .tc Cert.KernelIdeal.main_arg11)) :
    (Cert.ReferenceIdeal.Pf.Wf m' c (Proc.devRef .tc Cert.ReferenceIdeal.main_v25) : FVec Ideal Cert.KernelIdeal.S1024 .f32)
      = Cert.KernelIdeal.Pf.V5 m c (Proc.devRef .tc Cert.KernelIdeal.main_v18) := by
  have hx' : ∀ i, ((m' (c, Proc.devRef .tc Cert.ReferenceIdeal.main_arg0) : IVec Cert.ReferenceIdeal.S1024x200 32) i).toNat < 100000 := fun i => by
    rw [h0]
    exact hx i
  refine ext_row _ _ fun b => ?_
  refine (Cert.ReferenceIdeal.Pf.value m' c b).trans (Eq.trans ?_ (Cert.KernelIdeal.Pf.value m c b).symm)
  refine prob_congr _ _ _ _ _ _ _ _ _ _ _ _ _ _ _ _ _ _ _ _ _ _ h2 h3 h4 h5 h6 h7 h8 h9 h10 h11 fun s hs => funext fun k => ?_
  exact (Cert.ReferenceIdeal.Pf.W0_inp m' c hx' b s hs k).trans
    ((read_congr _ _ _ _ hx hx' h0 h1 b ⟨s, hs⟩ k).trans (Cert.KernelIdeal.Pf.V3_inp m c hx b s hs k).symm)

/-- THE VALUE CLAIM: the kernel and the reference end with the same result, their arguments as they were. -/
theorem algebraic : Cert.algebraic_KernelIdeal_ReferenceIdeal (hKernelIdeal := Cert.KernelIdeal.Gen.facts) (hReferenceIdeal := Cert.ReferenceIdeal.Gen.facts) (hPre_in_range := Cert.Pre_in_range.Gen.facts) := by
  letI := Cert.Pre_in_range.Gen.facts
  intro m g m' g' hp hag
  have hx : ∀ c i, ((m (c, Proc.devRef .tc Cert.KernelIdeal.main_arg0) : IVec Cert.KernelIdeal.S1024x200 32) i).toNat < 100000 :=
    fun c => Cert.Pre_in_range.Pf.lt_of_fn _ _ _ _ _ _ _ _ _ _ _ _ (hp c)
  refine ⟨fun c => Cert.KernelIdeal.Pf.V5 m c (Proc.devRef .tc Cert.KernelIdeal.main_v18), ?_, ?_⟩
  · refine (θ_run _ _ _).mono (fun r hr => ?_) (Cert.KernelIdeal.Pf.run_main m g fun d => Cert.KernelIdeal.Pf.idxOK_of m d (hx d))
    intro c
    have h := hr.1 c
    exact ⟨h _ (Cert.KernelIdeal.Pf.mem_uc Cert.KernelIdeal.main_v18 (by decide)),
      (h _ (Cert.KernelIdeal.Pf.mem_uc Cert.KernelIdeal.main_arg0 (by decide))).trans (Cert.KernelIdeal.Pf.kept m c Cert.KernelIdeal.main_arg0 (by decide) (by decide) (by decide) (by decide) (by decide)),
      (h _ (Cert.KernelIdeal.Pf.mem_uc Cert.KernelIdeal.main_arg1 (by decide))).trans (Cert.KernelIdeal.Pf.kept m c Cert.KernelIdeal.main_arg1 (by decide) (by decide) (by decide) (by decide) (by decide)),
      (h _ (Cert.KernelIdeal.Pf.mem_uc Cert.KernelIdeal.main_arg2 (by decide))).trans (Cert.KernelIdeal.Pf.kept m c Cert.KernelIdeal.main_arg2 (by decide) (by decide) (by decide) (by decide) (by decide)),
      (h _ (Cert.KernelIdeal.Pf.mem_uc Cert.KernelIdeal.main_arg3 (by decide))).trans (Cert.KernelIdeal.Pf.kept m c Cert.KernelIdeal.main_arg3 (by decide) (by decide) (by decide) (by decide) (by decide)),
      (h _ (Cert.KernelIdeal.Pf.mem_uc Cert.KernelIdeal.main_arg4 (by decide))).trans (Cert.KernelIdeal.Pf.kept m c Cert.KernelIdeal.main_arg4 (by decide) (by decide) (by decide) (by decide) (by decide)),
      (h _ (Cert.KernelIdeal.Pf.mem_uc Cert.KernelIdeal.main_arg5 (by decide))).trans (Cert.KernelIdeal.Pf.kept m c Cert.KernelIdeal.main_arg5 (by decide) (by decide) (by decide) (by decide) (by decide)),
      (h _ (Cert.KernelIdeal.Pf.mem_uc Cert.KernelIdeal.main_arg6 (by decide))).trans (Cert.KernelIdeal.Pf.kept m c Cert.KernelIdeal.main_arg6 (by decide) (by decide) (by decide) (by decide) (by decide)),
      (h _ (Cert.KernelIdeal.Pf.mem_uc Cert.KernelIdeal.main_arg7 (by decide))).trans (Cert.KernelIdeal.Pf.kept m c Cert.KernelIdeal.main_arg7 (by decide) (by decide) (by decide) (by decide) (by decide)),
      (h _ (Cert.KernelIdeal.Pf.mem_uc Cert.KernelIdeal.main_arg8 (by decide))).trans (Cert.KernelIdeal.Pf.kept m c Cert.KernelIdeal.main_arg8 (by decide) (by decide) (by decide) (by decide) (by decide)),
      (h _ (Cert.KernelIdeal.Pf.mem_uc Cert.KernelIdeal.main_arg9 (by decide))).trans (Cert.KernelIdeal.Pf.kept m c Cert.KernelIdeal.main_arg9 (by decide) (by decide) (by decide) (by decide) (by decide)),
      (h _ (Cert.KernelIdeal.Pf.mem_uc Cert.KernelIdeal.main_arg10 (by decide))).trans (Cert.KernelIdeal.Pf.kept m c Cert.KernelIdeal.main_arg10 (by decide) (by decide) (by decide) (by decide) (by decide)),
      (h _ (Cert.KernelIdeal.Pf.mem_uc Cert.KernelIdeal.main_arg11 (by decide))).trans (Cert.KernelIdeal.Pf.kept m c Cert.KernelIdeal.main_arg11 (by decide) (by decide) (by decide) (by decide) (by decide))⟩
  · refine (θ_run _ _ _).mono (fun r hr => ?_) (Cert.ReferenceIdeal.Pf.frame_main m' g')
    intro c
    obtain ⟨a0, a1, a2, a3, a4, a5, a6, a7, a8, a9, a10, a11⟩ := hag c
    exact ⟨(hr.1 c).1.trans (same m m' c (hx c) a0 a1 a2 a3 a4 a5 a6 a7 a8 a9 a10 a11), (hr.1 c).2⟩

end Cert.Proof

end
-- ==== Proof.lean ====
/-
  The proof of `Cert.Claim`, assembled from the modules under Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.KB.Frame
public import proofs.«01_k».proof.Proof.KI.Frame
public import proofs.«01_k».proof.Proof.RI.Run
public import proofs.«01_k».proof.Proof.Alg

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_in_range.Gen.facts,
  fun m g hp => Cert.Kernel.Pf.frame_main m g hp,
  fun m g hp => Cert.KernelIdeal.Pf.frame_main m g hp,
  fun m g _ => (θ_run _ _ _).mono (fun r hr => And.intro (fun c => (hr.1 c).2) hr.2) (Cert.ReferenceIdeal.Pf.frame_main m g),
  fun m g _ => (θ_run _ _ _).mono (fun r hr => And.intro (fun c => (hr.1 c).2) hr.2) (Cert.ReferenceIdeal.Pf.frame_main m g),
  trivial,
  algebraic⟩

end Cert.Proof

end
